-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_qkv [hPre_finite_qkv : Cert.Pre_finite_qkv.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_qkv.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4)) (m ((c.tc : Thread Cert.AttentionIdeal.nD Cert.AttentionIdeal.τ).loc Cert.AttentionIdeal.main_arg5)) (m ((c.tc : Thread Cert.AttentionIdeal.nD Cert.AttentionIdeal.τ).loc Cert.AttentionIdeal.main_arg6))) = (fun _ => 1#1)

def Pre_SoftmaxIdeal (m : (ℓ : Loc Cert.SoftmaxIdeal.nD Cert.SoftmaxIdeal.τ Cert.SoftmaxIdeal.sig) → Buf (Elt Ideal) ℓ) : Prop :=
  True

def Pre_SoftmaxIdeal_finite_qkv [hPre_finite_qkv : Cert.Pre_finite_qkv.Facts] (m : (ℓ : Loc Cert.SoftmaxIdeal.nD Cert.SoftmaxIdeal.τ Cert.SoftmaxIdeal.sig) → Buf (Elt Ideal) ℓ) : Prop :=
  ∀ c : Dev Cert.SoftmaxIdeal.nD,
    (Cert.Pre_finite_qkv.fn (F := Ideal) (m ((c.tc : Thread Cert.SoftmaxIdeal.nD Cert.SoftmaxIdeal.τ).loc Cert.SoftmaxIdeal.main_arg0)) (m ((c.tc : Thread Cert.SoftmaxIdeal.nD Cert.SoftmaxIdeal.τ).loc Cert.SoftmaxIdeal.main_arg1)) (m ((c.tc : Thread Cert.SoftmaxIdeal.nD Cert.SoftmaxIdeal.τ).loc Cert.SoftmaxIdeal.main_arg2)) (m ((c.tc : Thread Cert.SoftmaxIdeal.nD Cert.SoftmaxIdeal.τ).loc Cert.SoftmaxIdeal.main_arg3)) (m ((c.tc : Thread Cert.SoftmaxIdeal.nD Cert.SoftmaxIdeal.τ).loc Cert.SoftmaxIdeal.main_arg4)) (m ((c.tc : Thread Cert.SoftmaxIdeal.nD Cert.SoftmaxIdeal.τ).loc Cert.SoftmaxIdeal.main_arg5)) (m ((c.tc : Thread Cert.SoftmaxIdeal.nD Cert.SoftmaxIdeal.τ).loc Cert.SoftmaxIdeal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_weights [hPre_finite_weights : Cert.Pre_finite_weights.Facts] (m : (ℓ : Loc Cert.InProjIdeal.nD Cert.InProjIdeal.τ Cert.InProjIdeal.sig) → Buf (Elt Ideal) ℓ) : Prop :=
  ∀ c : Dev Cert.InProjIdeal.nD,
    (Cert.Pre_finite_weights.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5))) = (fun _ => 1#1)

def Pre_ProjectIdeal (m : (ℓ : Loc Cert.ProjectIdeal.nD Cert.ProjectIdeal.τ Cert.ProjectIdeal.sig) → Buf (Elt Ideal) ℓ) : Prop :=
  True

def Pre_ProjectIdeal_finite_weights [hPre_finite_weights : Cert.Pre_finite_weights.Facts] (m : (ℓ : Loc Cert.ProjectIdeal.nD Cert.ProjectIdeal.τ Cert.ProjectIdeal.sig) → Buf (Elt Ideal) ℓ) : Prop :=
  ∀ c : Dev Cert.ProjectIdeal.nD,
    (Cert.Pre_finite_weights.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)) (m ((c.tc : Thread Cert.ProjectIdeal.nD Cert.ProjectIdeal.τ).loc Cert.ProjectIdeal.main_arg3)) (m ((c.tc : Thread Cert.ProjectIdeal.nD Cert.ProjectIdeal.τ).loc Cert.ProjectIdeal.main_arg4)) (m ((c.tc : Thread Cert.ProjectIdeal.nD Cert.ProjectIdeal.τ).loc Cert.ProjectIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4)
      ∧ r.2.mem ((c.tc : Thread Cert.Attention.nD Cert.Attention.τ).loc Cert.Attention.main_arg5) = m ((c.tc : Thread Cert.Attention.nD Cert.Attention.τ).loc Cert.Attention.main_arg5)
      ∧ r.2.mem ((c.tc : Thread Cert.Attention.nD Cert.Attention.τ).loc Cert.Attention.main_arg6) = m ((c.tc : Thread Cert.Attention.nD Cert.Attention.τ).loc Cert.Attention.main_arg6))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6))
      ∧ r.2.sem = fun _ => 0)

def quiescent_AttentionIdeal_pre_finite_qkv [hAttentionIdeal : Cert.AttentionIdeal.Facts] [hPre_finite_qkv : Cert.Pre_finite_qkv.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_qkv m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6))
      ∧ r.2.sem = fun _ => 0)

def quiescent_SoftmaxIdeal [hSoftmaxIdeal : Cert.SoftmaxIdeal.Facts] : Prop :=
  ∀ (m : (ℓ : Loc Cert.SoftmaxIdeal.nD Cert.SoftmaxIdeal.τ Cert.SoftmaxIdeal.sig) → Buf (Elt Ideal) ℓ) (g : Dev Cert.SoftmaxIdeal.nD → PrngReg), Pre_SoftmaxIdeal m →
    θ_run (Cert.SoftmaxIdeal.defs (F := Ideal)) (onTc (τ := Cert.SoftmaxIdeal.τ) (Cert.SoftmaxIdeal.main (F := Ideal))) ⟨m, fun _ => 0, g⟩ (fun r => (∀ c : Dev Cert.SoftmaxIdeal.nD,
      r.2.mem ((c.tc : Thread Cert.SoftmaxIdeal.nD Cert.SoftmaxIdeal.τ).loc Cert.SoftmaxIdeal.main_arg0) = m ((c.tc : Thread Cert.SoftmaxIdeal.nD Cert.SoftmaxIdeal.τ).loc Cert.SoftmaxIdeal.main_arg0)
      ∧ r.2.mem ((c.tc : Thread Cert.SoftmaxIdeal.nD Cert.SoftmaxIdeal.τ).loc Cert.SoftmaxIdeal.main_arg1) = m ((c.tc : Thread Cert.SoftmaxIdeal.nD Cert.SoftmaxIdeal.τ).loc Cert.SoftmaxIdeal.main_arg1)
      ∧ r.2.mem ((c.tc : Thread Cert.SoftmaxIdeal.nD Cert.SoftmaxIdeal.τ).loc Cert.SoftmaxIdeal.main_arg2) = m ((c.tc : Thread Cert.SoftmaxIdeal.nD Cert.SoftmaxIdeal.τ).loc Cert.SoftmaxIdeal.main_arg2)
      ∧ r.2.mem ((c.tc : Thread Cert.SoftmaxIdeal.nD Cert.SoftmaxIdeal.τ).loc Cert.SoftmaxIdeal.main_arg3) = m ((c.tc : Thread Cert.SoftmaxIdeal.nD Cert.SoftmaxIdeal.τ).loc Cert.SoftmaxIdeal.main_arg3)
      ∧ r.2.mem ((c.tc : Thread Cert.SoftmaxIdeal.nD Cert.SoftmaxIdeal.τ).loc Cert.SoftmaxIdeal.main_arg4) = m ((c.tc : Thread Cert.SoftmaxIdeal.nD Cert.SoftmaxIdeal.τ).loc Cert.SoftmaxIdeal.main_arg4)
      ∧ r.2.mem ((c.tc : Thread Cert.SoftmaxIdeal.nD Cert.SoftmaxIdeal.τ).loc Cert.SoftmaxIdeal.main_arg5) = m ((c.tc : Thread Cert.SoftmaxIdeal.nD Cert.SoftmaxIdeal.τ).loc Cert.SoftmaxIdeal.main_arg5)
      ∧ r.2.mem ((c.tc : Thread Cert.SoftmaxIdeal.nD Cert.SoftmaxIdeal.τ).loc Cert.SoftmaxIdeal.main_arg6) = m ((c.tc : Thread Cert.SoftmaxIdeal.nD Cert.SoftmaxIdeal.τ).loc Cert.SoftmaxIdeal.main_arg6))
      ∧ r.2.sem = fun _ => 0)

def quiescent_SoftmaxIdeal_pre_finite_qkv [hSoftmaxIdeal : Cert.SoftmaxIdeal.Facts] [hPre_finite_qkv : Cert.Pre_finite_qkv.Facts] : Prop :=
  ∀ (m : (ℓ : Loc Cert.SoftmaxIdeal.nD Cert.SoftmaxIdeal.τ Cert.SoftmaxIdeal.sig) → Buf (Elt Ideal) ℓ) (g : Dev Cert.SoftmaxIdeal.nD → PrngReg), Pre_SoftmaxIdeal_finite_qkv m →
    θ_run (Cert.SoftmaxIdeal.defs (F := Ideal)) (onTc (τ := Cert.SoftmaxIdeal.τ) (Cert.SoftmaxIdeal.main (F := Ideal))) ⟨m, fun _ => 0, g⟩ (fun r => (∀ c : Dev Cert.SoftmaxIdeal.nD,
      r.2.mem ((c.tc : Thread Cert.SoftmaxIdeal.nD Cert.SoftmaxIdeal.τ).loc Cert.SoftmaxIdeal.main_arg0) = m ((c.tc : Thread Cert.SoftmaxIdeal.nD Cert.SoftmaxIdeal.τ).loc Cert.SoftmaxIdeal.main_arg0)
      ∧ r.2.mem ((c.tc : Thread Cert.SoftmaxIdeal.nD Cert.SoftmaxIdeal.τ).loc Cert.SoftmaxIdeal.main_arg1) = m ((c.tc : Thread Cert.SoftmaxIdeal.nD Cert.SoftmaxIdeal.τ).loc Cert.SoftmaxIdeal.main_arg1)
      ∧ r.2.mem ((c.tc : Thread Cert.SoftmaxIdeal.nD Cert.SoftmaxIdeal.τ).loc Cert.SoftmaxIdeal.main_arg2) = m ((c.tc : Thread Cert.SoftmaxIdeal.nD Cert.SoftmaxIdeal.τ).loc Cert.SoftmaxIdeal.main_arg2)
      ∧ r.2.mem ((c.tc : Thread Cert.SoftmaxIdeal.nD Cert.SoftmaxIdeal.τ).loc Cert.SoftmaxIdeal.main_arg3) = m ((c.tc : Thread Cert.SoftmaxIdeal.nD Cert.SoftmaxIdeal.τ).loc Cert.SoftmaxIdeal.main_arg3)
      ∧ r.2.mem ((c.tc : Thread Cert.SoftmaxIdeal.nD Cert.SoftmaxIdeal.τ).loc Cert.SoftmaxIdeal.main_arg4) = m ((c.tc : Thread Cert.SoftmaxIdeal.nD Cert.SoftmaxIdeal.τ).loc Cert.SoftmaxIdeal.main_arg4)
      ∧ r.2.mem ((c.tc : Thread Cert.SoftmaxIdeal.nD Cert.SoftmaxIdeal.τ).loc Cert.SoftmaxIdeal.main_arg5) = m ((c.tc : Thread Cert.SoftmaxIdeal.nD Cert.SoftmaxIdeal.τ).loc Cert.SoftmaxIdeal.main_arg5)
      ∧ r.2.mem ((c.tc : Thread Cert.SoftmaxIdeal.nD Cert.SoftmaxIdeal.τ).loc Cert.SoftmaxIdeal.main_arg6) = m ((c.tc : Thread Cert.SoftmaxIdeal.nD Cert.SoftmaxIdeal.τ).loc Cert.SoftmaxIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjIdeal_pre_finite_weights [hInProjIdeal : Cert.InProjIdeal.Facts] [hPre_finite_weights : Cert.Pre_finite_weights.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_weights m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ r.2.sem = fun _ => 0)

def quiescent_ProjectIdeal_pre_finite_weights [hProjectIdeal : Cert.ProjectIdeal.Facts] [hPre_finite_weights : Cert.Pre_finite_weights.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal_finite_weights m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def preserves_Attention_AttentionIdeal : Prop :=
  IdealRules.named_const.Statement Cert.AttentionIdeal.κ "log2e_over_8" .f32 0x3E38AA3B#32 (((1 / 8) * (Real.log 2)⁻¹ : ℝ) : EReal)

def algebraic_AttentionIdeal_SoftmaxIdeal_pre_finite_qkv [hAttentionIdeal : Cert.AttentionIdeal.Facts] [hSoftmaxIdeal : Cert.SoftmaxIdeal.Facts] [hPre_finite_qkv : Cert.Pre_finite_qkv.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.SoftmaxIdeal.nD Cert.SoftmaxIdeal.τ Cert.SoftmaxIdeal.sig) → Buf (Elt Ideal) ℓ) (g' : Dev Cert.SoftmaxIdeal.nD → PrngReg), Pre_AttentionIdeal_finite_qkv m →
    (∀ c : Dev Cert.AttentionIdeal.nD,
      m' ((c.tc : Thread Cert.SoftmaxIdeal.nD Cert.SoftmaxIdeal.τ).loc Cert.SoftmaxIdeal.main_arg0) = m ((c.tc : Thread Cert.AttentionIdeal.nD Cert.AttentionIdeal.τ).loc Cert.AttentionIdeal.main_arg0)
      ∧ m' ((c.tc : Thread Cert.SoftmaxIdeal.nD Cert.SoftmaxIdeal.τ).loc Cert.SoftmaxIdeal.main_arg1) = m ((c.tc : Thread Cert.AttentionIdeal.nD Cert.AttentionIdeal.τ).loc Cert.AttentionIdeal.main_arg1)
      ∧ m' ((c.tc : Thread Cert.SoftmaxIdeal.nD Cert.SoftmaxIdeal.τ).loc Cert.SoftmaxIdeal.main_arg2) = m ((c.tc : Thread Cert.AttentionIdeal.nD Cert.AttentionIdeal.τ).loc Cert.AttentionIdeal.main_arg2)
      ∧ m' ((c.tc : Thread Cert.SoftmaxIdeal.nD Cert.SoftmaxIdeal.τ).loc Cert.SoftmaxIdeal.main_arg3) = m ((c.tc : Thread Cert.AttentionIdeal.nD Cert.AttentionIdeal.τ).loc Cert.AttentionIdeal.main_arg3)
      ∧ m' ((c.tc : Thread Cert.SoftmaxIdeal.nD Cert.SoftmaxIdeal.τ).loc Cert.SoftmaxIdeal.main_arg4) = m ((c.tc : Thread Cert.AttentionIdeal.nD Cert.AttentionIdeal.τ).loc Cert.AttentionIdeal.main_arg4)
      ∧ m' ((c.tc : Thread Cert.SoftmaxIdeal.nD Cert.SoftmaxIdeal.τ).loc Cert.SoftmaxIdeal.main_arg5) = m ((c.tc : Thread Cert.AttentionIdeal.nD Cert.AttentionIdeal.τ).loc Cert.AttentionIdeal.main_arg5)
      ∧ m' ((c.tc : Thread Cert.SoftmaxIdeal.nD Cert.SoftmaxIdeal.τ).loc Cert.SoftmaxIdeal.main_arg6) = m ((c.tc : Thread Cert.AttentionIdeal.nD Cert.AttentionIdeal.τ).loc Cert.AttentionIdeal.main_arg6)) →
    ∃ (v0 : (c : Dev Cert.AttentionIdeal.nD) → Buf (Elt Ideal) ((c.tc : Thread Cert.AttentionIdeal.nD Cert.AttentionIdeal.τ).loc Cert.AttentionIdeal.main_v10_0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v10_0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
          ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
          ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6))
      ∧ θ_run (Cert.SoftmaxIdeal.defs (F := Ideal)) (onTc (τ := Cert.SoftmaxIdeal.τ) (Cert.SoftmaxIdeal.main (F := Ideal))) ⟨m', fun _ => 0, g'⟩ (fun r => ∀ c : Dev Cert.SoftmaxIdeal.nD,
          r.2.mem ((c.tc : Thread Cert.SoftmaxIdeal.nD Cert.SoftmaxIdeal.τ).loc Cert.SoftmaxIdeal.main_v34) = v0 c
          ∧ r.2.mem ((c.tc : Thread Cert.SoftmaxIdeal.nD Cert.SoftmaxIdeal.τ).loc Cert.SoftmaxIdeal.main_arg0) = m' ((c.tc : Thread Cert.SoftmaxIdeal.nD Cert.SoftmaxIdeal.τ).loc Cert.SoftmaxIdeal.main_arg0)
          ∧ r.2.mem ((c.tc : Thread Cert.SoftmaxIdeal.nD Cert.SoftmaxIdeal.τ).loc Cert.SoftmaxIdeal.main_arg1) = m' ((c.tc : Thread Cert.SoftmaxIdeal.nD Cert.SoftmaxIdeal.τ).loc Cert.SoftmaxIdeal.main_arg1)
          ∧ r.2.mem ((c.tc : Thread Cert.SoftmaxIdeal.nD Cert.SoftmaxIdeal.τ).loc Cert.SoftmaxIdeal.main_arg2) = m' ((c.tc : Thread Cert.SoftmaxIdeal.nD Cert.SoftmaxIdeal.τ).loc Cert.SoftmaxIdeal.main_arg2)
          ∧ r.2.mem ((c.tc : Thread Cert.SoftmaxIdeal.nD Cert.SoftmaxIdeal.τ).loc Cert.SoftmaxIdeal.main_arg3) = m' ((c.tc : Thread Cert.SoftmaxIdeal.nD Cert.SoftmaxIdeal.τ).loc Cert.SoftmaxIdeal.main_arg3)
          ∧ r.2.mem ((c.tc : Thread Cert.SoftmaxIdeal.nD Cert.SoftmaxIdeal.τ).loc Cert.SoftmaxIdeal.main_arg4) = m' ((c.tc : Thread Cert.SoftmaxIdeal.nD Cert.SoftmaxIdeal.τ).loc Cert.SoftmaxIdeal.main_arg4)
          ∧ r.2.mem ((c.tc : Thread Cert.SoftmaxIdeal.nD Cert.SoftmaxIdeal.τ).loc Cert.SoftmaxIdeal.main_arg5) = m' ((c.tc : Thread Cert.SoftmaxIdeal.nD Cert.SoftmaxIdeal.τ).loc Cert.SoftmaxIdeal.main_arg5)
          ∧ r.2.mem ((c.tc : Thread Cert.SoftmaxIdeal.nD Cert.SoftmaxIdeal.τ).loc Cert.SoftmaxIdeal.main_arg6) = m' ((c.tc : Thread Cert.SoftmaxIdeal.nD Cert.SoftmaxIdeal.τ).loc Cert.SoftmaxIdeal.main_arg6))

def preserves_InProj_InProjIdeal : Prop :=
  True

def algebraic_InProjIdeal_ProjectIdeal_pre_finite_weights [hInProjIdeal : Cert.InProjIdeal.Facts] [hProjectIdeal : Cert.ProjectIdeal.Facts] [hPre_finite_weights : Cert.Pre_finite_weights.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.ProjectIdeal.nD Cert.ProjectIdeal.τ Cert.ProjectIdeal.sig) → Buf (Elt Ideal) ℓ) (g' : Dev Cert.ProjectIdeal.nD → PrngReg), Pre_InProjIdeal_finite_weights m →
    (∀ c : Dev Cert.InProjIdeal.nD,
      m' ((c.tc : Thread Cert.ProjectIdeal.nD Cert.ProjectIdeal.τ).loc Cert.ProjectIdeal.main_arg0) = m ((c.tc : Thread Cert.InProjIdeal.nD Cert.InProjIdeal.τ).loc Cert.InProjIdeal.main_arg0)
      ∧ m' ((c.tc : Thread Cert.ProjectIdeal.nD Cert.ProjectIdeal.τ).loc Cert.ProjectIdeal.main_arg1) = m ((c.tc : Thread Cert.InProjIdeal.nD Cert.InProjIdeal.τ).loc Cert.InProjIdeal.main_arg1)
      ∧ m' ((c.tc : Thread Cert.ProjectIdeal.nD Cert.ProjectIdeal.τ).loc Cert.ProjectIdeal.main_arg2) = m ((c.tc : Thread Cert.InProjIdeal.nD Cert.InProjIdeal.τ).loc Cert.InProjIdeal.main_arg2)
      ∧ m' ((c.tc : Thread Cert.ProjectIdeal.nD Cert.ProjectIdeal.τ).loc Cert.ProjectIdeal.main_arg3) = m ((c.tc : Thread Cert.InProjIdeal.nD Cert.InProjIdeal.τ).loc Cert.InProjIdeal.main_arg3)
      ∧ m' ((c.tc : Thread Cert.ProjectIdeal.nD Cert.ProjectIdeal.τ).loc Cert.ProjectIdeal.main_arg4) = m ((c.tc : Thread Cert.InProjIdeal.nD Cert.InProjIdeal.τ).loc Cert.InProjIdeal.main_arg4)
      ∧ m' ((c.tc : Thread Cert.ProjectIdeal.nD Cert.ProjectIdeal.τ).loc Cert.ProjectIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v141)) (v1 : (c : Dev Cert.InProjIdeal.nD) → Buf (Elt Ideal) ((c.tc : Thread Cert.InProjIdeal.nD Cert.InProjIdeal.τ).loc Cert.InProjIdeal.main_v142)) (v2 : (c : Dev Cert.InProjIdeal.nD) → Buf (Elt Ideal) ((c.tc : Thread Cert.InProjIdeal.nD Cert.InProjIdeal.τ).loc Cert.InProjIdeal.main_v144)) (v3 : (c : Dev Cert.InProjIdeal.nD) → Buf (Elt Ideal) ((c.tc : Thread Cert.InProjIdeal.nD Cert.InProjIdeal.τ).loc Cert.InProjIdeal.main_v146)) (v4 : (c : Dev Cert.InProjIdeal.nD) → Buf (Elt Ideal) ((c.tc : Thread Cert.InProjIdeal.nD Cert.InProjIdeal.τ).loc Cert.InProjIdeal.main_v147)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v141) = v0 c
          ∧ r.2.mem ((c.tc : Thread Cert.InProjIdeal.nD Cert.InProjIdeal.τ).loc Cert.InProjIdeal.main_v142) = v1 c
          ∧ r.2.mem ((c.tc : Thread Cert.InProjIdeal.nD Cert.InProjIdeal.τ).loc Cert.InProjIdeal.main_v144) = v2 c
          ∧ r.2.mem ((c.tc : Thread Cert.InProjIdeal.nD Cert.InProjIdeal.τ).loc Cert.InProjIdeal.main_v146) = v3 c
          ∧ r.2.mem ((c.tc : Thread Cert.InProjIdeal.nD Cert.InProjIdeal.τ).loc Cert.InProjIdeal.main_v147) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.ProjectIdeal.defs (F := Ideal)) (onTc (τ := Cert.ProjectIdeal.τ) (Cert.ProjectIdeal.main (F := Ideal))) ⟨m', fun _ => 0, g'⟩ (fun r => ∀ c : Dev Cert.ProjectIdeal.nD,
          r.2.mem ((c.tc : Thread Cert.ProjectIdeal.nD Cert.ProjectIdeal.τ).loc Cert.ProjectIdeal.main_v23) = v0 c
          ∧ r.2.mem ((c.tc : Thread Cert.ProjectIdeal.nD Cert.ProjectIdeal.τ).loc Cert.ProjectIdeal.main_v149) = v1 c
          ∧ r.2.mem ((c.tc : Thread Cert.ProjectIdeal.nD Cert.ProjectIdeal.τ).loc Cert.ProjectIdeal.main_v150) = v2 c
          ∧ r.2.mem ((c.tc : Thread Cert.ProjectIdeal.nD Cert.ProjectIdeal.τ).loc Cert.ProjectIdeal.main_v151) = v3 c
          ∧ r.2.mem ((c.tc : Thread Cert.ProjectIdeal.nD Cert.ProjectIdeal.τ).loc Cert.ProjectIdeal.main_v148) = v4 c
          ∧ r.2.mem ((c.tc : Thread Cert.ProjectIdeal.nD Cert.ProjectIdeal.τ).loc Cert.ProjectIdeal.main_arg0) = m' ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m' ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m' ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m' ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m' ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m' ((c.tc : Thread Cert.ProjectIdeal.nD Cert.ProjectIdeal.τ).loc Cert.ProjectIdeal.main_arg5))

def Claim : Prop :=
  ∃ (hKernel : Cert.Kernel.Facts) (hKernelIdeal : Cert.KernelIdeal.Facts) (hReferenceIdeal : Cert.ReferenceIdeal.Facts) (hAttention : Cert.Attention.Facts) (hAttentionIdeal : Cert.AttentionIdeal.Facts) (hSoftmaxIdeal : Cert.SoftmaxIdeal.Facts) (hInProj : Cert.InProj.Facts) (hInProjIdeal : Cert.InProjIdeal.Facts) (hProjectIdeal : Cert.ProjectIdeal.Facts) (hPre_finite : Cert.Pre_finite.Facts) (hPre_finite_qkv : Cert.Pre_finite_qkv.Facts) (hPre_finite_weights : Cert.Pre_finite_weights.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Attention (hAttention := hAttention)
    ∧ quiescent_AttentionIdeal (hAttentionIdeal := hAttentionIdeal)
    ∧ quiescent_AttentionIdeal_pre_finite_qkv (hAttentionIdeal := hAttentionIdeal) (hPre_finite_qkv := hPre_finite_qkv)
    ∧ quiescent_SoftmaxIdeal (hSoftmaxIdeal := hSoftmaxIdeal)
    ∧ quiescent_SoftmaxIdeal_pre_finite_qkv (hSoftmaxIdeal := hSoftmaxIdeal) (hPre_finite_qkv := hPre_finite_qkv)
    ∧ quiescent_InProj (hInProj := hInProj)
    ∧ quiescent_InProjIdeal (hInProjIdeal := hInProjIdeal)
    ∧ quiescent_InProjIdeal_pre_finite_weights (hInProjIdeal := hInProjIdeal) (hPre_finite_weights := hPre_finite_weights)
    ∧ quiescent_ProjectIdeal (hProjectIdeal := hProjectIdeal)
    ∧ quiescent_ProjectIdeal_pre_finite_weights (hProjectIdeal := hProjectIdeal) (hPre_finite_weights := hPre_finite_weights)
    ∧ preserves_Kernel_KernelIdeal
    ∧ algebraic_KernelIdeal_ReferenceIdeal_pre_finite (hKernelIdeal := hKernelIdeal) (hReferenceIdeal := hReferenceIdeal) (hPre_finite := hPre_finite)
    ∧ preserves_Attention_AttentionIdeal
    ∧ algebraic_AttentionIdeal_SoftmaxIdeal_pre_finite_qkv (hAttentionIdeal := hAttentionIdeal) (hSoftmaxIdeal := hSoftmaxIdeal) (hPre_finite_qkv := hPre_finite_qkv)
    ∧ preserves_InProj_InProjIdeal
    ∧ algebraic_InProjIdeal_ProjectIdeal_pre_finite_weights (hInProjIdeal := hInProjIdeal) (hProjectIdeal := hProjectIdeal) (hPre_finite_weights := hPre_finite_weights)
-- ==== Pre_finite.lean ====
abbrev S8x2048x512 : Shape := ⟨3, ![8, 2048, 512]⟩
abbrev S8x2048x1024 : Shape := ⟨3, ![8, 2048, 1024]⟩
abbrev S8x256x1024 : Shape := ⟨3, ![8, 256, 1024]⟩
abbrev S512 : Shape := ⟨1, ![512]⟩
abbrev S1024x1024 : Shape := ⟨2, ![1024, 1024]⟩
abbrev S1024 : Shape := ⟨1, ![1024]⟩
abbrev S1024x2048 : Shape := ⟨2, ![1024, 2048]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x2048x1024 : S_.BroadcastsInDim S8x2048x1024 (![] : Fin 0 → Fin S8x2048x1024.rank)
  reducesTo_S8x2048x1024_S_d0_1_2 : S8x2048x1024.ReducesTo [0, 1, 2] S_
  bcast_S_S8x256x1024 : S_.BroadcastsInDim S8x256x1024 (![] : Fin 0 → Fin S8x256x1024.rank)
  reducesTo_S8x256x1024_S_d0_1_2 : S8x256x1024.ReducesTo [0, 1, 2] S_
  bcast_S_S512 : S_.BroadcastsInDim S512 (![] : Fin 0 → Fin S512.rank)
  reducesTo_S512_S_d0 : S512.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_

variable [Facts]

def fn_part3 {F : FTy → Type} [FloatOps F] (main_arg11 : FVec F S1024x2048 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024x2048 .f32 := Host.absf main_arg11
  let main_cst_20 : FVec F S_ .f32 := constant S_ .f32 0x7F800000#32
  let main_v55 : FVec F S1024x2048 .f32 := broadcastInDim S1024x2048 ![] bcast_S_S1024x2048 main_cst_20
  let main_v56 : IVec S1024x2048 1 := cmpf .olt main_v54 main_v55
  let main_c_21 : IVec S_ 1 := constantI S_ 1 1#1
  let main_v57 : IVec S_ 1 := (fun x v => Host.reduce IntOp.andi x v reducesTo_S1024x2048_S_d0_1 h_S_) main_v56 main_c_21
  let main_v58 : IVec S_ 1 := andi main_v53 main_v57
  main_v58

def fn_part2 {F : FTy → Type} [FloatOps F] (main_arg7 : FVec F S1024x1024 .f32) (main_arg8 : FVec F S1024 .f32) (main_arg9 : FVec F S1024 .f32) (main_arg10 : FVec F S1024x1024 .f32) (main_arg11 : FVec F S1024x2048 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_v48 main_v49 main_v50

def fn_part1 {F : FTy → Type} [FloatOps F] (main_arg4 : FVec F S512 .f32) (main_arg5 : FVec F S512 .f32) (main_arg6 : FVec F S512 .f32) (main_arg7 : FVec F S1024x1024 .f32) (main_arg8 : FVec F S1024 .f32) (main_arg9 : FVec F S1024 .f32) (main_arg10 : FVec F S1024x1024 .f32) (main_arg11 : FVec F S1024x2048 .f32) (main_v13 : IVec S_ 1) (main_v16 : IVec S8x256x1024 1) : IVec S_ 1 :=
  let main_c_5 : IVec S_ 1 := constantI S_ 1 1#1
  let main_v17 : IVec S_ 1 := (fun x v => Host.reduce IntOp.andi x v reducesTo_S8x256x1024_S_d0_1_2 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8x2048x512 .f32) (main_arg1 : FVec F S8x2048x512 .f32) (main_arg2 : FVec F S8x2048x1024 .f32) (main_arg3 : FVec F S8x256x1024 .f32) (main_arg4 : FVec F S512 .f32) (main_arg5 : FVec F S512 .f32) (main_arg6 : FVec F S512 .f32) (main_arg7 : FVec F S1024x1024 .f32) (main_arg8 : FVec F S1024 .f32) (main_arg9 : FVec F S1024 .f32) (main_arg10 : FVec F S1024x1024 .f32) (main_arg11 : FVec F S1024x2048 .f32) (main_arg12 : FVec F S1024x1024 .f32) (main_arg13 : FVec F S1024 .f32) (main_arg14 : FVec F S1024 .f32) (main_arg15 : FVec F S1024x4096 .f32) (main_arg16 : FVec F S4096 .f32) (main_arg17 : FVec F S4096x1024 .f32) (main_arg18 : FVec F S1024 .f32) (main_arg19 : FVec F S1024 .f32) (main_arg20 : FVec F S1024 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S8x256x1024 .f32 := Host.absf main_arg3
  let main_cst_4 : FVec F S_ .f32 := constant S_ .f32 0x7F800000#32
  let main_v15 : FVec F S8x256x1024 .f32 := broadcastInDim S8x256x1024 ![] bcast_S_S8x256x1024 main_cst_4
  let main_v16 : IVec S8x256x1024 1 := cmpf .olt main_v14 main_v15
  fn_part1 (F := F) main_arg4 main_arg5 main_arg6 main_arg7 main_arg8 main_arg9 main_arg10 main_arg11 main_v13 main_v16
-- ==== Pre_finite_qkv.lean ====
abbrev S8x2048x8x64 : Shape := ⟨4, ![8, 2048, 8, 64]⟩
abbrev S8x2048x2x64 : Shape := ⟨4, ![8, 2048, 2, 64]⟩
abbrev S512 : Shape := ⟨1, ![512]⟩
abbrev S8x2048x512 : Shape := ⟨3, ![8, 2048, 512]⟩
abbrev S31x512 : Shape := ⟨2, ![31, 512]⟩
abbrev S_ : Shape := ⟨0, ![]⟩

class Facts : Prop where
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_
  h_S_ : 0 < S_.numel
  bcast_S_S8x2048x2x64 : S_.BroadcastsInDim S8x2048x2x64 (![] : Fin 0 → Fin S8x2048x2x64.rank)
  reducesTo_S8x2048x2x64_S_d0_1_2_3 : S8x2048x2x64.ReducesTo [0, 1, 2, 3] S_

variable [Facts]

def fn {F : FTy → Type} [FloatOps F] (main_arg0 : FVec F S8x2048x8x64 .f32) (main_arg1 : FVec F S8x2048x2x64 .f32) (main_arg2 : FVec F S8x2048x2x64 .f32) (main_arg3 : FVec F S512 .f32) (main_arg4 : FVec F S8x2048x512 .f32) (main_arg5 : FVec F S31x512 .f32) (main_arg6 : FVec F S512 .f32) : IVec S_ 1 :=
  let main_v0 : FVec F S8x2048x8x64 .f32 := Host.absf main_arg0
  let main_cst : FVec F S_ .f32 := constant S_ .f32 0x7F800000#32
  let main_v1 : FVec F S8x2048x8x64 .f32 := broadcastInDim S8x2048x8x64 ![] bcast_S_S8x2048x8x64 main_cst
  let main_v2 : IVec S8x2048x8x64 1 := cmpf .olt main_v0 main_v1
  let main_c : IVec S_ 1 := constantI S_ 1 1#1
  let main_v3 : IVec S_ 1 := (fun x v => Host.reduce IntOp.andi x v reducesTo_S8x2048x8x64_S_d0_1_2_3 h_S_) main_v2 main_c
  let main_v4 : FVec F S8x2048x2x64 .f32 := Host.absf main_arg1
  let main_cst_0 : FVec F S_ .f32 := constant S_ .f32 0x7F800000#32
  let main_v5 : FVec F S8x2048x2x64 .f32 := broadcastInDim S8x2048x2x64 ![] bcast_S_S8x2048x2x64 main_cst_0
  let main_v6 : IVec S8x2048x2x64 1 := cmpf .olt main_v4 main_v5
  let main_c_1 : IVec S_ 1 := constantI S_ 1 1#1
  let main_v7 : IVec S_ 1 := (fun x v => Host.reduce IntOp.andi x v reducesTo_S8x2048x2x64_S_d0_1_2_3 h_S_) main_v6 main_c_1
  let main_v8 : IVec S_ 1 := andi main_v3 main_v7
  let main_v9 : FVec F S8x2048x2x64 .f32 := Host.absf main_arg2
  let main_cst_2 : FVec F S_ .f32 := constant S_ .f32 0x7F800000#32
  let main_v10 : FVec F S8x2048x2x64 .f32 := broadcastInDim S8x2048x2x64 ![] bcast_S_S8x2048x2x64 main_cst_2
  let main_v11 : IVec S8x2048x2x64 1 := cmpf .olt main_v9 main_v10
  let main_c_3 : IVec S_ 1 := constantI S_ 1 1#1
  let main_v12 : IVec S_ 1 := (fun x v => Host.reduce IntOp.andi x v reducesTo_S8x2048x2x64_S_d0_1_2_3 h_S_) main_v11 main_c_3
  let main_v13 : IVec S_ 1 := andi main_v8 main_v12
  main_v13
-- ==== Pre_finite_weights.lean ====
abbrev S8x2048x1024 : Shape := ⟨3, ![8, 2048, 1024]⟩
abbrev S1024 : Shape := ⟨1, ![1024]⟩
abbrev S1024x1792 : Shape := ⟨2, ![1024, 1792]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x1792 : S_.BroadcastsInDim S1024x1792 (![] : Fin 0 → Fin S1024x1792.rank)
  reducesTo_S1024x1792_S_d0_1 : S1024x1792.ReducesTo [0, 1] S_

variable [Facts]

def fn {F : FTy → Type} [FloatOps F] (main_arg0 : FVec F S8x2048x1024 .f32) (main_arg1 : FVec F S1024 .f32) (main_arg2 : FVec F S1024 .f32) (main_arg3 : FVec F S1024x1792 .f32) (main_arg4 : FVec F S64 .f32) (main_arg5 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1792 .f32 := Host.absf main_arg3
  let main_cst_2 : FVec F S_ .f32 := constant S_ .f32 0x7F800000#32
  let main_v10 : FVec F S1024x1792 .f32 := broadcastInDim S1024x1792 ![] bcast_S_S1024x1792 main_cst_2
  let main_v11 : IVec S1024x1792 1 := cmpf .olt main_v9 main_v10
  let main_c_3 : IVec S_ 1 := constantI S_ 1 1#1
  let main_v12 : IVec S_ 1 := (fun x v => Host.reduce IntOp.andi x v reducesTo_S1024x1792_S_d0_1 h_S_) main_v11 main_c_3
  let main_v13 : IVec S_ 1 := andi main_v8 main_v12
  main_v13
-- ==== Kernel.lean ====
abbrev S8x2048x512 : Shape := ⟨3, ![8, 2048, 512]⟩
abbrev S8x2048x1024 : Shape := ⟨3, ![8, 2048, 1024]⟩
abbrev S8x256x1024 : Shape := ⟨3, ![8, 256, 1024]⟩
abbrev S512 : Shape := ⟨1, ![512]⟩
abbrev S1024x1024 : Shape := ⟨2, ![1024, 1024]⟩
abbrev S1024 : Shape := ⟨1, ![1024]⟩
abbrev S1024x2048 : Shape := ⟨2, ![1024, 2048]⟩
abbrev S1024x4096 : Shape := ⟨2, ![1024, 4096]⟩
abbrev S4096 : Shape := ⟨1, ![4096]⟩
abbrev S4096x1024 : Shape := ⟨2, ![4096, 1024]⟩
abbrev S2048x1024 : Shape := ⟨2, ![2048, 1024]⟩
abbrev S1x512 : Shape := ⟨2, ![1, 512]⟩
abbrev S1x1024 : Shape := ⟨2, ![1, 1024]⟩
abbrev S1x1024x512 : Shape := ⟨3, ![1, 1024, 512]⟩
abbrev S1x1024x1024 : Shape := ⟨3, ![1, 1024, 1024]⟩
abbrev S1x256x1024 : Shape := ⟨3, ![1, 256, 1024]⟩
abbrev S1x256x512 : Shape := ⟨3, ![1, 256, 512]⟩
abbrev S256x512 : Shape := ⟨2, ![256, 512]⟩
abbrev S256 : Shape := ⟨1, ![256]⟩
abbrev S256x1 : Shape := ⟨2, ![256, 1]⟩
abbrev S256x128 : Shape := ⟨2, ![256, 128]⟩
abbrev S1x128 : Shape := ⟨2, ![1, 128]⟩
abbrev S512x1024 : Shape := ⟨2, ![512, 1024]⟩
abbrev S256x1024 : Shape := ⟨2, ![256, 1024]⟩
abbrev S256x256 : Shape := ⟨2, ![256, 256]⟩
abbrev S1x256x256 : Shape := ⟨3, ![1, 256, 256]⟩
abbrev S16384x1024 : Shape := ⟨2, ![16384, 1024]⟩
abbrev S1x4096 : Shape := ⟨2, ![1, 4096]⟩

abbrev nBuf : Space → Nat
  | .hbm => 47
  | .vmem => 39
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x1024, .f32⟩
  | .hbm, ⟨3, _⟩ => ⟨S8x256x1024, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024x2048, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S1024x4096, .f32⟩
  | .hbm, ⟨16, _⟩ => ⟨S4096, .f32⟩
  | .hbm, ⟨17, _⟩ => ⟨S4096x1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S2048x1024, .f32⟩
  | .hbm, ⟨22, _⟩ => ⟨S2048x1024, .bf16⟩
  | .hbm, ⟨23, _⟩ => ⟨S2048x1024, .bf16⟩
  | .hbm, ⟨24, _⟩ => ⟨S8x2048x512, .bf16⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S1024x1024, .bf16⟩
  | .hbm, ⟨29, _⟩ => ⟨S1x1024, .f32⟩
  | .hbm, ⟨30, _⟩ => ⟨S1x1024, .f32⟩
  | .hbm, ⟨31, _⟩ => ⟨S1024x1024, .bf16⟩
  | .hbm, ⟨32, _⟩ => ⟨S8x256x1024, .bf16⟩
  | .hbm, ⟨33, _⟩ => ⟨S8x256x1024, .bf16⟩
  | .hbm, ⟨34, _⟩ => ⟨S1024x1024, .bf16⟩
  | .hbm, ⟨35, _⟩ => ⟨S1x1024, .f32⟩
  | .hbm, ⟨36, _⟩ => ⟨S1x1024, .f32⟩
  | .hbm, ⟨37, _⟩ => ⟨S8x2048x1024, .f32⟩
  | .hbm, ⟨38, _⟩ => ⟨S16384x1024, .f32⟩
  | .hbm, ⟨39, _⟩ => ⟨S1024x4096, .bf16⟩
  | .hbm, ⟨40, _⟩ => ⟨S1x4096, .f32⟩
  | .hbm, ⟨41, _⟩ => ⟨S4096x1024, .bf16⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S16384x1024, .f32⟩
  | .hbm, ⟨46, _⟩ => ⟨S8x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024x512, .f32⟩
  | .local _ .vmem, ⟨8, _⟩ => ⟨S1x1024x512, .f32⟩
  | .local _ .vmem, ⟨9, _⟩ => ⟨S1x1024x512, .bf16⟩
  | .local _ .vmem, ⟨10, _⟩ => ⟨S1x1024x512, .bf16⟩
  | .local _ .vmem, ⟨11, _⟩ => ⟨S1x1024x1024, .f32⟩
  | .local _ .vmem, ⟨12, _⟩ => ⟨S1x1024x1024, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1024x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .bf16⟩
  | .local _ .vmem, ⟨23, _⟩ => ⟨S1x256x1024, .bf16⟩
  | .local _ .vmem, ⟨24, _⟩ => ⟨S1024x1024, .bf16⟩
  | .local _ .vmem, ⟨25, _⟩ => ⟨S1x1024, .f32⟩
  | .local _ .vmem, ⟨26, _⟩ => ⟨S1x1024, .f32⟩
  | .local _ .vmem, ⟨27, _⟩ => ⟨S1x1024x1024, .f32⟩
  | .local _ .vmem, ⟨28, _⟩ => ⟨S1x1024x1024, .f32⟩
  | .local _ .vmem, ⟨29, _⟩ => ⟨S1024x1024, .f32⟩
  | .local _ .vmem, ⟨30, _⟩ => ⟨S1024x1024, .f32⟩
  | .local _ .vmem, ⟨31, _⟩ => ⟨S1024x4096, .bf16⟩
  | .local _ .vmem, ⟨32, _⟩ => ⟨S1x4096, .f32⟩
  | .local _ .vmem, ⟨33, _⟩ => ⟨S4096x1024, .bf16⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1024x1024, .f32⟩
  | .local _ .vmem, ⟨38, _⟩ => ⟨S1024x1024, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1_0 : Ref sig .tc := ⟨.hbm, 22, rfl⟩
abbrev main_v1_1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc1_stg11_0 : Ref sig .tc := ⟨.vmem, 22, rfl⟩
abbrev cc1_stg11_1 : Ref sig .tc := ⟨.vmem, 23, rfl⟩
abbrev cc1_stg12_0 : Ref sig .tc := ⟨.vmem, 24, rfl⟩
abbrev cc1_stg13_0 : Ref sig .tc := ⟨.vmem, 25, rfl⟩
abbrev cc1_stg14_0 : Ref sig .tc := ⟨.vmem, 26, rfl⟩
abbrev cc1_stg15_0 : Ref sig .tc := ⟨.vmem, 27, rfl⟩
abbrev cc1_stg15_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg7_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc1_sem11_0 : DmaSem sig := 22
abbrev cc1_sem11_1 : DmaSem sig := 23
abbrev cc1_sem12_0 : DmaSem sig := 24
abbrev cc1_sem13_0 : DmaSem sig := 25
abbrev cc1_sem14_0 : DmaSem sig := 26
abbrev cc1_sem15_0 : DmaSem sig := 27
abbrev cc1_sem15_1 : DmaSem sig := 28
abbrev cc2_sem0_0 : DmaSem sig := 29
abbrev cc2_sem0_1 : DmaSem sig := 30
abbrev cc2_sem1_0 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem7_1 : DmaSem sig := 38

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1024x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1x256x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S1x256x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 1 → Memref sig .tc .vmem S1024x1024 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S1x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 2 → Memref sig .tc .vmem S1x1024x1024 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1024x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== ReferenceIdeal.lean ====
abbrev S8x2048x512 : Shape := ⟨3, ![8, 2048, 512]⟩
abbrev S8x2048x1024 : Shape := ⟨3, ![8, 2048, 1024]⟩
abbrev S8x256x1024 : Shape := ⟨3, ![8, 256, 1024]⟩
abbrev S512 : Shape := ⟨1, ![512]⟩
abbrev S1024x1024 : Shape := ⟨2, ![1024, 1024]⟩
abbrev S1024 : Shape := ⟨1, ![1024]⟩
abbrev S1024x2048 : Shape := ⟨2, ![1024, 2048]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩
abbrev S8x2048 : Shape := ⟨2, ![8, 2048]⟩
abbrev S8x2048x1 : Shape := ⟨3, ![8, 2048, 1]⟩
abbrev S1x1x512 : Shape := ⟨3, ![1, 1, 512]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S1x1x1024 : Shape := ⟨3, ![1, 1, 1024]⟩
abbrev S8x2048x4x256 : Shape := ⟨4, ![8, 2048, 4, 256]⟩
abbrev S8x256x2048 : Shape := ⟨3, ![8, 256, 2048]⟩
abbrev S8x256x4x256 : Shape := ⟨4, ![8, 256, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S8x2048x4096 : Shape := ⟨3, ![8, 2048, 4096]⟩
abbrev S1x1x4096 : Shape := ⟨3, ![1, 1, 4096]⟩

abbrev nBuf : Space → Nat
  | .hbm => 219
  | .vmem => 0
  | .smem => 0
  | _ => 0

abbrev hbmTy0_0 (i : Nat) : BufTy := match i % 128 with
  | 0 => ⟨S8x2048x512, .f32⟩
  | 1 => ⟨S8x2048x512, .f32⟩
  | 2 => ⟨S8x2048x1024, .f32⟩
  | 3 => ⟨S8x256x1024, .f32⟩
  | 4 => ⟨S512, .f32⟩
  | 5 => ⟨S512, .f32⟩
  | 6 => ⟨S512, .f32⟩
  | 7 => ⟨S1024x1024, .f32⟩
  | 8 => ⟨S1024, .f32⟩
  | 9 => ⟨S1024, .f32⟩
  | 10 => ⟨S1024x1024, .f32⟩
  | 11 => ⟨S1024x2048, .f32⟩
  | 12 => ⟨S1024x1024, .f32⟩
  | 13 => ⟨S1024, .f32⟩
  | 14 => ⟨S1024, .f32⟩
  | 15 => ⟨S1024x4096, .f32⟩
  | 16 => ⟨S4096, .f32⟩
  | 17 => ⟨S4096x1024, .f32⟩
  | 18 => ⟨S1024, .f32⟩
  | 19 => ⟨S1024, .f32⟩
  | 20 => ⟨S1024, .f32⟩
  | 21 => ⟨S_, .f32⟩
  | 22 => ⟨S8x2048, .f32⟩
  | 23 => ⟨S8x2048x1, .f32⟩
  | 24 => ⟨S_, .f32⟩
  | 25 => ⟨S8x2048x1, .f32⟩
  | 26 => ⟨S8x2048x1, .f32⟩
  | 27 => ⟨S8x2048x512, .f32⟩
  | 28 => ⟨S8x2048x512, .f32⟩
  | 29 => ⟨S8x2048x512, .f32⟩
  | 30 => ⟨S_, .f32⟩
  | 31 => ⟨S8x2048, .f32⟩
  | 32 => ⟨S8x2048x1, .f32⟩
  | 33 => ⟨S_, .f32⟩
  | 34 => ⟨S8x2048x1, .f32⟩
  | 35 => ⟨S8x2048x1, .f32⟩
  | 36 => ⟨S8x2048x512, .f32⟩
  | 37 => ⟨S8x2048x512, .f32⟩
  | 38 => ⟨S_, .f32⟩
  | 39 => ⟨S8x2048x1, .f32⟩
  | 40 => ⟨S8x2048x1, .f32⟩
  | 41 => ⟨S8x2048x1, .f32⟩
  | 42 => ⟨S8x2048x512, .f32⟩
  | 43 => ⟨S8x2048x512, .f32⟩
  | 44 => ⟨S1x1x512, .f32⟩
  | 45 => ⟨S8x2048x512, .f32⟩
  | 46 => ⟨S8x2048x512, .f32⟩
  | 47 => ⟨S1x1x512, .f32⟩
  | 48 => ⟨S8x2048x512, .f32⟩
  | 49 => ⟨S8x2048x512, .f32⟩
  | 50 => ⟨S8x2048x512, .f32⟩
  | 51 => ⟨S8x2048x512, .f32⟩
  | 52 => ⟨S_, .f32⟩
  | 53 => ⟨S8x2048x512, .f32⟩
  | 54 => ⟨S8x2048x512, .f32⟩
  | 55 => ⟨S_, .f32⟩
  | 56 => ⟨S8x2048x512, .f32⟩
  | 57 => ⟨S8x2048x512, .f32⟩
  | 58 => ⟨S8x2048x512, .f32⟩
  | 59 => ⟨S8x2048x8x64, .f32⟩
  | 60 => ⟨S8x2048x8x64, .f32⟩
  | 61 => ⟨S_, .f32⟩
  | 62 => ⟨S8x2048x8, .f32⟩
  | 63 => ⟨S8x2048x8x1, .f32⟩
  | 64 => ⟨S_, .f32⟩
  | 65 => ⟨S8x2048x8x1, .f32⟩
  | 66 => ⟨S8x2048x8x1, .f32⟩
  | 67 => ⟨S_, .f32⟩
  | 68 => ⟨S8x2048x8x1, .f32⟩
  | 69 => ⟨S8x2048x8x1, .f32⟩
  | 70 => ⟨S8x2048x8x1, .f32⟩
  | 71 => ⟨S8x2048x8x64, .f32⟩
  | 72 => ⟨S8x2048x8x64, .f32⟩
  | 73 => ⟨S8x2048x512, .f32⟩
  | 74 => ⟨S1x1x512, .f32⟩
  | 75 => ⟨S8x2048x512, .f32⟩
  | 76 => ⟨S8x2048x512, .f32⟩
  | 77 => ⟨S8x2048x1024, .f32⟩
  | 78 => ⟨S_, .f32⟩
  | 79 => ⟨S8x2048x1024, .f32⟩
  | 80 => ⟨S8x2048x1024, .f32⟩
  | 81 => ⟨S8x2048x1024, .f32⟩
  | 82 => ⟨S8x2048x1024, .f32⟩
  | 83 => ⟨S_, .f32⟩
  | 84 => ⟨S8x2048, .f32⟩
  | 85 => ⟨S8x2048x1, .f32⟩
  | 86 => ⟨S_, .f32⟩
  | 87 => ⟨S8x2048x1, .f32⟩
  | 88 => ⟨S8x2048x1, .f32⟩
  | 89 => ⟨S8x2048x1024, .f32⟩
  | 90 => ⟨S8x2048x1024, .f32⟩
  | 91 => ⟨S8x2048x1024, .f32⟩
  | 92 => ⟨S_, .f32⟩
  | 93 => ⟨S8x2048, .f32⟩
  | 94 => ⟨S8x2048x1, .f32⟩
  | 95 => ⟨S_, .f32⟩
  | 96 => ⟨S8x2048x1, .f32⟩
  | 97 => ⟨S8x2048x1, .f32⟩
  | 98 => ⟨S8x2048x1024, .f32⟩
  | 99 => ⟨S8x2048x1024, .f32⟩
  | 100 => ⟨S_, .f32⟩
  | 101 => ⟨S8x2048x1, .f32⟩
  | 102 => ⟨S8x2048x1, .f32⟩
  | 103 => ⟨S8x2048x1, .f32⟩
  | 104 => ⟨S8x2048x1024, .f32⟩
  | 105 => ⟨S8x2048x1024, .f32⟩
  | 106 => ⟨S1x1x1024, .f32⟩
  | 107 => ⟨S8x2048x1024, .f32⟩
  | 108 => ⟨S8x2048x1024, .f32⟩
  | 109 => ⟨S1x1x1024, .f32⟩
  | 110 => ⟨S8x2048x1024, .f32⟩
  | 111 => ⟨S8x2048x1024, .f32⟩
  | 112 => ⟨S_, .f32⟩
  | 113 => ⟨S8x2048x1024, .f32⟩
  | 114 => ⟨S8x2048x1024, .f32⟩
  | 115 => ⟨S8x2048x1024, .f32⟩
  | 116 => ⟨S8x2048x4x256, .f32⟩
  | 117 => ⟨S8x256x2048, .f32⟩
  | 118 => ⟨S8x256x1024, .f32⟩
  | 119 => ⟨S8x256x1024, .f32⟩
  | 120 => ⟨S8x256x4x256, .f32⟩
  | 121 => ⟨S8x256x4x256, .f32⟩
  | 122 => ⟨S8x4x2048x256, .f32⟩
  | 123 => ⟨S_, .f32⟩
  | 124 => ⟨S8x4x2048x256, .f32⟩
  | 125 => ⟨S8x4x2048x256, .f32⟩
  | 126 => ⟨S_, .f32⟩
  | 127 => ⟨S8x4x2048, .f32⟩
  | _ => ⟨S8x2048x512, .f32⟩

abbrev hbmTy0_1 (i : Nat) : BufTy := match i % 128 with
  | 0 => ⟨S_, .f32⟩
  | 1 => ⟨S8x4x2048, .f32⟩
  | 2 => ⟨S8x4x2048, .f32⟩
  | 3 => ⟨S8x4x2048x1, .f32⟩
  | 4 => ⟨S8x4x2048x256, .f32⟩
  | 5 => ⟨S8x4x2048x256, .f32⟩
  | 6 => ⟨S8x4x2048x256, .f32⟩
  | 7 => ⟨S_, .f32⟩
  | 8 => ⟨S8x4x2048, .f32⟩
  | 9 => ⟨S8x4x2048x1, .f32⟩
  | 10 => ⟨S8x4x2048x256, .f32⟩
  | 11 => ⟨S8x4x2048x256, .f32⟩
  | 12 => ⟨S8x4x256x2048, .f32⟩
  | 13 => ⟨S8x2048x4x256, .f32⟩
  | 14 => ⟨S8x2048x1024, .f32⟩
  | 15 => ⟨S8x2048x1024, .f32⟩
  | 16 => ⟨S8x2048x1024, .f32⟩
  | 17 => ⟨S_, .f32⟩
  | 18 => ⟨S8x2048, .f32⟩
  | 19 => ⟨S8x2048x1, .f32⟩
  | 20 => ⟨S_, .f32⟩
  | 21 => ⟨S8x2048x1, .f32⟩
  | 22 => ⟨S8x2048x1, .f32⟩
  | 23 => ⟨S8x2048x1024, .f32⟩
  | 24 => ⟨S8x2048x1024, .f32⟩
  | 25 => ⟨S8x2048x1024, .f32⟩
  | 26 => ⟨S_, .f32⟩
  | 27 => ⟨S8x2048, .f32⟩
  | 28 => ⟨S8x2048x1, .f32⟩
  | 29 => ⟨S_, .f32⟩
  | 30 => ⟨S8x2048x1, .f32⟩
  | 31 => ⟨S8x2048x1, .f32⟩
  | 32 => ⟨S8x2048x1024, .f32⟩
  | 33 => ⟨S8x2048x1024, .f32⟩
  | 34 => ⟨S_, .f32⟩
  | 35 => ⟨S8x2048x1, .f32⟩
  | 36 => ⟨S8x2048x1, .f32⟩
  | 37 => ⟨S8x2048x1, .f32⟩
  | 38 => ⟨S8x2048x1024, .f32⟩
  | 39 => ⟨S8x2048x1024, .f32⟩
  | 40 => ⟨S1x1x1024, .f32⟩
  | 41 => ⟨S8x2048x1024, .f32⟩
  | 42 => ⟨S8x2048x1024, .f32⟩
  | 43 => ⟨S1x1x1024, .f32⟩
  | 44 => ⟨S8x2048x1024, .f32⟩
  | 45 => ⟨S8x2048x1024, .f32⟩
  | 46 => ⟨S_, .f32⟩
  | 47 => ⟨S8x2048x1024, .f32⟩
  | 48 => ⟨S8x2048x1024, .f32⟩
  | 49 => ⟨S8x2048x4096, .f32⟩
  | 50 => ⟨S1x1x4096, .f32⟩
  | 51 => ⟨S8x2048x4096, .f32⟩
  | 52 => ⟨S8x2048x4096, .f32⟩
  | 53 => ⟨S_, .f32⟩
  | 54 => ⟨S8x2048x4096, .f32⟩
  | 55 => ⟨S8x2048x4096, .f32⟩
  | 56 => ⟨S8x2048x4096, .f32⟩
  | 57 => ⟨S8x2048x1024, .f32⟩
  | 58 => ⟨S1x1x1024, .f32⟩
  | 59 => ⟨S8x2048x1024, .f32⟩
  | 60 => ⟨S8x2048x1024, .f32⟩
  | 61 => ⟨S8x2048x1024, .f32⟩
  | 62 => ⟨S_, .f32⟩
  | 63 => ⟨S8x2048, .f32⟩
  | 64 => ⟨S8x2048x1, .f32⟩
  | 65 => ⟨S_, .f32⟩
  | 66 => ⟨S8x2048x1, .f32⟩
  | 67 => ⟨S8x2048x1, .f32⟩
  | 68 => ⟨S8x2048x1024, .f32⟩
  | 69 => ⟨S8x2048x1024, .f32⟩
  | 70 => ⟨S8x2048x1024, .f32⟩
  | 71 => ⟨S_, .f32⟩
  | 72 => ⟨S8x2048, .f32⟩
  | 73 => ⟨S8x2048x1, .f32⟩
  | 74 => ⟨S_, .f32⟩
  | 75 => ⟨S8x2048x1, .f32⟩
  | 76 => ⟨S8x2048x1, .f32⟩
  | 77 => ⟨S8x2048x1024, .f32⟩
  | 78 => ⟨S8x2048x1024, .f32⟩
  | 79 => ⟨S_, .f32⟩
  | 80 => ⟨S8x2048x1, .f32⟩
  | 81 => ⟨S8x2048x1, .f32⟩
  | 82 => ⟨S8x2048x1, .f32⟩
  | 83 => ⟨S8x2048x1024, .f32⟩
  | 84 => ⟨S8x2048x1024, .f32⟩
  | 85 => ⟨S1x1x1024, .f32⟩
  | 86 => ⟨S8x2048x1024, .f32⟩
  | 87 => ⟨S8x2048x1024, .f32⟩
  | 88 => ⟨S1x1x1024, .f32⟩
  | 89 => ⟨S8x2048x1024, .f32⟩
  | 90 => ⟨S8x2048x1024, .f32⟩
  | _ => ⟨S8x2048x512, .f32⟩

abbrev hbmTy (i : Nat) : BufTy := match i / 128 with
  | 0 => hbmTy0_0 i
  | 1 => hbmTy0_1 i
  | _ => ⟨S8x2048x512, .f32⟩

abbrev bufTy : (tb : Table) → Fin (tcTables nBuf tb) → BufTy
  | .hbm, ⟨i, _⟩ => hbmTy i
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_cst_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst_1 : Ref sig .tc := ⟨.hbm, 30, rfl⟩
abbrev main_v7 : Ref sig .tc := ⟨.hbm, 31, rfl⟩
abbrev main_v8 : Ref sig .tc := ⟨.hbm, 32, rfl⟩
abbrev main_cst_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_3 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_4 : Ref sig .tc := ⟨.hbm, 61, rfl⟩
abbrev main_v27 : Ref sig .tc := ⟨.hbm, 62, rfl⟩
abbrev main_v28 : Ref sig .tc := ⟨.hbm, 63, rfl⟩
abbrev main_cst_5 : Ref sig .tc := ⟨.hbm, 64, rfl⟩
abbrev main_v29 : Ref sig .tc := ⟨.hbm, 65, rfl⟩
abbrev main_v30 : Ref sig .tc := ⟨.hbm, 66, rfl⟩
abbrev main_cst_6 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_7 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_8 : Ref sig .tc := ⟨.hbm, 83, rfl⟩
abbrev main_v45 : Ref sig .tc := ⟨.hbm, 84, rfl⟩
abbrev main_v46 : Ref sig .tc := ⟨.hbm, 85, rfl⟩
abbrev main_cst_9 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_10 : Ref sig .tc := ⟨.hbm, 92, rfl⟩
abbrev main_v52 : Ref sig .tc := ⟨.hbm, 93, rfl⟩
abbrev main_v53 : Ref sig .tc := ⟨.hbm, 94, rfl⟩
abbrev main_cst_11 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_12 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_13 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_14 : Ref sig .tc := ⟨.hbm, 123, rfl⟩
abbrev main_v79 : Ref sig .tc := ⟨.hbm, 124, rfl⟩
abbrev main_v80 : Ref sig .tc := ⟨.hbm, 125, rfl⟩
abbrev main_cst_15 : Ref sig .tc := ⟨.hbm, 126, rfl⟩
abbrev main_v81 : Ref sig .tc := ⟨.hbm, 127, rfl⟩
abbrev main_cst_16 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_17 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_18 : Ref sig .tc := ⟨.hbm, 145, rfl⟩
abbrev main_v97 : Ref sig .tc := ⟨.hbm, 146, rfl⟩
abbrev main_v98 : Ref sig .tc := ⟨.hbm, 147, rfl⟩
abbrev main_cst_19 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_cst_20 : Ref sig .tc := ⟨.hbm, 154, rfl⟩
abbrev main_v104 : Ref sig .tc := ⟨.hbm, 155, rfl⟩
abbrev main_v105 : Ref sig .tc := ⟨.hbm, 156, rfl⟩
abbrev main_cst_21 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_cst_22 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_cst_23 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_call1_cst : Ref sig .tc := ⟨.hbm, 181, rfl⟩
abbrev main_call1_v0 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_cst_24 : Ref sig .tc := ⟨.hbm, 190, rfl⟩
abbrev main_v134 : Ref sig .tc := ⟨.hbm, 191, rfl⟩
abbrev main_v135 : Ref sig .tc := ⟨.hbm, 192, rfl⟩
abbrev main_cst_25 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_cst_26 : Ref sig .tc := ⟨.hbm, 199, rfl⟩
abbrev main_v141 : Ref sig .tc := ⟨.hbm, 200, rfl⟩
abbrev main_v142 : Ref sig .tc := ⟨.hbm, 201, rfl⟩
abbrev main_cst_27 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_cst_28 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩

abbrev nD : Nat := 1
abbrev τ : Topo := Topo.v7x

variable {F : FTy → Type} [FloatOps F]
-- ==== Attention.lean ====
abbrev S8x2048x8x64 : Shape := ⟨4, ![8, 2048, 8, 64]⟩
abbrev S8x2048x2x64 : Shape := ⟨4, ![8, 2048, 2, 64]⟩
abbrev S512 : Shape := ⟨1, ![512]⟩
abbrev S8x2048x512 : Shape := ⟨3, ![8, 2048, 512]⟩
abbrev S31x512 : Shape := ⟨2, ![31, 512]⟩
abbrev S8x2048x2x128 : Shape := ⟨4, ![8, 2048, 2, 128]⟩
abbrev S8x2048x256 : Shape := ⟨3, ![8, 2048, 256]⟩
abbrev S_ : Shape := ⟨0, ![]⟩
abbrev S8x2048x2x256 : Shape := ⟨4, ![8, 2048, 2, 256]⟩
abbrev S1x512 : Shape := ⟨2, ![1, 512]⟩
abbrev S1x1024x256 : Shape := ⟨3, ![1, 1024, 256]⟩
abbrev S1x2048x128 : Shape := ⟨3, ![1, 2048, 128]⟩
abbrev S1x2048x256 : Shape := ⟨3, ![1, 2048, 256]⟩
abbrev S1x256 : Shape := ⟨2, ![1, 256]⟩
abbrev S31x256 : Shape := ⟨2, ![31, 256]⟩
abbrev S2080x256 : Shape := ⟨2, ![2080, 256]⟩
abbrev S31x8x256 : Shape := ⟨3, ![31, 8, 256]⟩
abbrev S16x256 : Shape := ⟨2, ![16, 256]⟩
abbrev S2048x256 : Shape := ⟨2, ![2048, 256]⟩
abbrev S8x256 : Shape := ⟨2, ![8, 256]⟩
abbrev S1x8x256 : Shape := ⟨3, ![1, 8, 256]⟩
abbrev S1024x256 : Shape := ⟨2, ![1024, 256]⟩
abbrev S2048x128 : Shape := ⟨2, ![2048, 128]⟩
abbrev S256x128 : Shape := ⟨2, ![256, 128]⟩
abbrev S96x256 : Shape := ⟨2, ![96, 256]⟩
abbrev S64x256 : Shape := ⟨2, ![64, 256]⟩
abbrev S1x64x256 : Shape := ⟨3, ![1, 64, 256]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩
abbrev S1x128 : Shape := ⟨2, ![1, 128]⟩
abbrev S1x256x128 : Shape := ⟨3, ![1, 256, 128]⟩
abbrev S8x128 : Shape := ⟨2, ![8, 128]⟩

abbrev nBuf : Space → Nat
  | .hbm => 20
  | .vmem => 20
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x2x64, .f32⟩
  | .hbm, ⟨2, _⟩ => ⟨S8x2048x2x64, .f32⟩
  | .hbm, ⟨3, _⟩ => ⟨S512, .f32⟩
  | .hbm, ⟨4, _⟩ => ⟨S8x2048x512, .f32⟩
  | .hbm, ⟨5, _⟩ => ⟨S31x512, .f32⟩
  | .hbm, ⟨6, _⟩ => ⟨S512, .f32⟩
  | .hbm, ⟨7, _⟩ => ⟨S8x2048x512, .f32⟩
  | .hbm, ⟨8, _⟩ => ⟨S8x2048x2x128, .f32⟩
  | .hbm, ⟨9, _⟩ => ⟨S8x2048x256, .f32⟩
  | .hbm, ⟨10, _⟩ => ⟨S8x2048x256, .bf16⟩
  | .hbm, ⟨11, _⟩ => ⟨S_, .f32⟩
  | .hbm, ⟨12, _⟩ => ⟨S8x2048x2x128, .f32⟩
  | .hbm, ⟨13, _⟩ => ⟨S8x2048x2x256, .f32⟩
  | .hbm, ⟨14, _⟩ => ⟨S8x2048x512, .f32⟩
  | .hbm, ⟨15, _⟩ => ⟨S8x2048x512, .bf16⟩
  | .hbm, ⟨16, _⟩ => ⟨S1x512, .f32⟩
  | .hbm, ⟨17, _⟩ => ⟨S1x512, .f32⟩
  | .hbm, ⟨18, _⟩ => ⟨S8x2048x512, .bf16⟩
  | .hbm, ⟨19, _⟩ => ⟨S8x2048x512, .f32⟩
  | .local _ .vmem, ⟨0, _⟩ => ⟨S1x1024x256, .f32⟩
  | .local _ .vmem, ⟨1, _⟩ => ⟨S1x1024x256, .f32⟩
  | .local _ .vmem, ⟨2, _⟩ => ⟨S1x2048x128, .bf16⟩
  | .local _ .vmem, ⟨3, _⟩ => ⟨S1x2048x128, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256, .f32⟩
  | .local _ .vmem, ⟨7, _⟩ => ⟨S1x256, .f32⟩
  | .local _ .vmem, ⟨8, _⟩ => ⟨S1x2048x256, .f32⟩
  | .local _ .vmem, ⟨9, _⟩ => ⟨S1x2048x256, .f32⟩
  | .local _ .vmem, ⟨10, _⟩ => ⟨S31x256, .f32⟩
  | .local _ .vmem, ⟨11, _⟩ => ⟨S31x256, .f32⟩
  | .local _ .vmem, ⟨12, _⟩ => ⟨S1x256, .f32⟩
  | .local _ .vmem, ⟨13, _⟩ => ⟨S1x256, .f32⟩
  | .local _ .vmem, ⟨14, _⟩ => ⟨S1x1024x256, .bf16⟩
  | .local _ .vmem, ⟨15, _⟩ => ⟨S1x1024x256, .bf16⟩
  | .local _ .vmem, ⟨16, _⟩ => ⟨S1x1024x256, .f32⟩
  | .local _ .vmem, ⟨17, _⟩ => ⟨S1x1024x256, .f32⟩
  | .local _ .vmem, ⟨18, _⟩ => ⟨S2080x256, .f32⟩
  | .local _ .vmem, ⟨19, _⟩ => ⟨S31x8x256, .f32⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 2, 2], ![false, false, false]⟩

def k0_mult1 (i : grid0.Coords) : BitVec 32 :=
  let arg2 : BitVec 32 := BitVec.ofNat 32 (i 2).val
  let c1024_i32 : BitVec 32 := 1024#32
  let v26 : BitVec 32 := Scalar.muli arg2 c1024_i32
  let c0_i32_11 : BitVec 32 := 0#32
  let v27 : BitVec 32 := Scalar.addi v26 c0_i32_11
  v27
def k0_off1 (i : grid0.Coords) (c0_i32_11 : BitVec 32) : Fin 2 → Nat :=
  let arg2 : BitVec 32 := BitVec.ofNat 32 (i 2).val
  let c1024_i32 : BitVec 32 := 1024#32
  let v26 : BitVec 32 := Scalar.muli arg2 c1024_i32
  let v27 : BitVec 32 := Scalar.addi v26 c0_i32_11
  let v28 : BitVec 32 := v27
  let v29 : Index := Scalar.indexCast v28
  let c0_12 : Index := 0#32
  ![v29.toNat, 0]
def k0_mult2 (i : grid0.Coords) : BitVec 32 :=
  let arg2 : BitVec 32 := BitVec.ofNat 32 (i 2).val
  let c1024_i32_736 : BitVec 32 := 1024#32
  let v1309 : BitVec 32 := Scalar.muli arg2 c1024_i32_736
  let c64_i32_737 : BitVec 32 := 64#32
  let v1310 : BitVec 32 := Scalar.addi v1309 c64_i32_737
  v1310
def k0_mult3 (i : grid0.Coords) : BitVec 32 :=
  let arg2 : BitVec 32 := BitVec.ofNat 32 (i 2).val
  let c1024_i32_1503 : BitVec 32 := 1024#32
  let v2602 : BitVec 32 := Scalar.muli arg2 c1024_i32_1503
  let c128_i32_1504 : BitVec 32 := 128#32
  let v2603 : BitVec 32 := Scalar.addi v2602 c128_i32_1504
  v2603
def k0_mult4 (i : grid0.Coords) : BitVec 32 :=
  let arg2 : BitVec 32 := BitVec.ofNat 32 (i 2).val
  let c1024_i32_2265 : BitVec 32 := 1024#32
  let v3886 : BitVec 32 := Scalar.muli arg2 c1024_i32_2265
  let c192_i32 : BitVec 32 := 192#32
  let v3887 : BitVec 32 := Scalar.addi v3886 c192_i32
  v3887
def k0_mult5 (i : grid0.Coords) : BitVec 32 :=
  let arg2 : BitVec 32 := BitVec.ofNat 32 (i 2).val
  let c1024_i32_3031 : BitVec 32 := 1024#32
  let v5193 : BitVec 32 := Scalar.muli arg2 c1024_i32_3031
  let c256_i32_3032 : BitVec 32 := 256#32
  let v5194 : BitVec 32 := Scalar.addi v5193 c256_i32_3032
  v5194
def k0_mult6 (i : grid0.Coords) : BitVec 32 :=
  let arg2 : BitVec 32 := BitVec.ofNat 32 (i 2).val
  let c1024_i32_3787 : BitVec 32 := 1024#32
  let v6457 : BitVec 32 := Scalar.muli arg2 c1024_i32_3787
  let c320_i32 : BitVec 32 := 320#32
  let v6458 : BitVec 32 := Scalar.addi v6457 c320_i32
  v6458
def k0_mult7 (i : grid0.Coords) : BitVec 32 :=
  let arg2 : BitVec 32 := BitVec.ofNat 32 (i 2).val
  let c1024_i32_4548 : BitVec 32 := 1024#32
  let v7755 : BitVec 32 := Scalar.muli arg2 c1024_i32_4548
  let c384_i32 : BitVec 32 := 384#32
  let v7756 : BitVec 32 := Scalar.addi v7755 c384_i32
  v7756
def k0_mult8 (i : grid0.Coords) : BitVec 32 :=
  let arg2 : BitVec 32 := BitVec.ofNat 32 (i 2).val
  let c1024_i32_5314 : BitVec 32 := 1024#32
  let v9062 : BitVec 32 := Scalar.muli arg2 c1024_i32_5314
  let c448_i32 : BitVec 32 := 448#32
  let v9063 : BitVec 32 := Scalar.addi v9062 c448_i32
  v9063
def k0_mult9 (i : grid0.Coords) : BitVec 32 :=
  let arg2 : BitVec 32 := BitVec.ofNat 32 (i 2).val
  let c1024_i32_6075 : BitVec 32 := 1024#32
  let v10360 : BitVec 32 := Scalar.muli arg2 c1024_i32_6075
  let c512_i32 : BitVec 32 := 512#32
  let v10361 : BitVec 32 := Scalar.addi v10360 c512_i32
  v10361
def k0_mult10 (i : grid0.Coords) : BitVec 32 :=
  let arg2 : BitVec 32 := BitVec.ofNat 32 (i 2).val
  let c1024_i32_6841 : BitVec 32 := 1024#32
  let v11675 : BitVec 32 := Scalar.muli arg2 c1024_i32_6841
  let c576_i32 : BitVec 32 := 576#32
  let v11676 : BitVec 32 := Scalar.addi v11675 c576_i32
  v11676
def k0_mult11 (i : grid0.Coords) : BitVec 32 :=
  let arg2 : BitVec 32 := BitVec.ofNat 32 (i 2).val
  let c1024_i32_7596 : BitVec 32 := 1024#32
  let v12939 : BitVec 32 := Scalar.muli arg2 c1024_i32_7596
  let c640_i32 : BitVec 32 := 640#32
  let v12940 : BitVec 32 := Scalar.addi v12939 c640_i32
  v12940
def k0_mult12 (i : grid0.Coords) : BitVec 32 :=
  let arg2 : BitVec 32 := BitVec.ofNat 32 (i 2).val
  let c1024_i32_8357 : BitVec 32 := 1024#32
  let v14237 : BitVec 32 := Scalar.muli arg2 c1024_i32_8357
  let c704_i32 : BitVec 32 := 704#32
  let v14238 : BitVec 32 := Scalar.addi v14237 c704_i32
  v14238
def k0_mult13 (i : grid0.Coords) : BitVec 32 :=
  let arg2 : BitVec 32 := BitVec.ofNat 32 (i 2).val
  let c1024_i32_9123 : BitVec 32 := 1024#32
  let v15544 : BitVec 32 := Scalar.muli arg2 c1024_i32_9123
  let c768_i32 : BitVec 32 := 768#32
  let v15545 : BitVec 32 := Scalar.addi v15544 c768_i32
  v15545
def k0_mult14 (i : grid0.Coords) : BitVec 32 :=
  let arg2 : BitVec 32 := BitVec.ofNat 32 (i 2).val
  let c1024_i32_9884 : BitVec 32 := 1024#32
  let v16842 : BitVec 32 := Scalar.muli arg2 c1024_i32_9884
  let c832_i32 : BitVec 32 := 832#32
  let v16843 : BitVec 32 := Scalar.addi v16842 c832_i32
  v16843
def k0_mult15 (i : grid0.Coords) : BitVec 32 :=
  let arg2 : BitVec 32 := BitVec.ofNat 32 (i 2).val
  let c1024_i32_10650 : BitVec 32 := 1024#32
  let v18157 : BitVec 32 := Scalar.muli arg2 c1024_i32_10650
  let c896_i32 : BitVec 32 := 896#32
  let v18158 : BitVec 32 := Scalar.addi v18157 c896_i32
  v18158
def k0_mult16 (i : grid0.Coords) : BitVec 32 :=
  let arg2 : BitVec 32 := BitVec.ofNat 32 (i 2).val
  let c1024_i32_11405 : BitVec 32 := 1024#32
  let v19421 : BitVec 32 := Scalar.muli arg2 c1024_i32_11405
  let c960_i32 : BitVec 32 := 960#32
  let v19422 : BitVec 32 := Scalar.addi v19421 c960_i32
  v19422
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S31x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AttentionIdeal.lean ====
variable {F : FTy → Type} [FloatOps F] [Named F]
def κ : String → Option EReal := fun
  | "log2e_over_8" => some (((1 / 8) * (Real.log 2)⁻¹ : ℝ) : EReal)
  | _ => none
-- ==== SoftmaxIdeal.lean ====
abbrev S8x2048x8x64 : Shape := ⟨4, ![8, 2048, 8, 64]⟩
abbrev S8x2048x2x64 : Shape := ⟨4, ![8, 2048, 2, 64]⟩
abbrev S512 : Shape := ⟨1, ![512]⟩
abbrev S8x2048x512 : Shape := ⟨3, ![8, 2048, 512]⟩
abbrev S31x512 : Shape := ⟨2, ![31, 512]⟩
abbrev S8x2048x2x4x64 : Shape := ⟨5, ![8, 2048, 2, 4, 64]⟩
abbrev S8x2x2048x2048x4 : Shape := ⟨5, ![8, 2, 2048, 2048, 4]⟩
abbrev S8x2x4x2048x2048 : Shape := ⟨5, ![8, 2, 4, 2048, 2048]⟩
abbrev S_ : Shape := ⟨0, ![]⟩
abbrev S8x2x4x2048 : Shape := ⟨4, ![8, 2, 4, 2048]⟩
abbrev S8x2x4x2048x1 : Shape := ⟨5, ![8, 2, 4, 2048, 1]⟩
abbrev S8x2x64x4x2048 : Shape := ⟨5, ![8, 2, 64, 4, 2048]⟩
abbrev S8x2048x8 : Shape := ⟨3, ![8, 2048, 8]⟩
abbrev S8x2048x8x1 : Shape := ⟨4, ![8, 2048, 8, 1]⟩
abbrev S1x1x512 : Shape := ⟨3, ![1, 1, 512]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x2x64, .f32⟩
  | .hbm, ⟨2, _⟩ => ⟨S8x2048x2x64, .f32⟩
  | .hbm, ⟨3, _⟩ => ⟨S512, .f32⟩
  | .hbm, ⟨4, _⟩ => ⟨S8x2048x512, .f32⟩
  | .hbm, ⟨5, _⟩ => ⟨S31x512, .f32⟩
  | .hbm, ⟨6, _⟩ => ⟨S512, .f32⟩
  | .hbm, ⟨7, _⟩ => ⟨S8x2048x2x4x64, .f32⟩
  | .hbm, ⟨8, _⟩ => ⟨S8x2x2048x2048x4, .f32⟩
  | .hbm, ⟨9, _⟩ => ⟨S8x2x4x2048x2048, .f32⟩
  | .hbm, ⟨10, _⟩ => ⟨S_, .f32⟩
  | .hbm, ⟨11, _⟩ => ⟨S8x2x4x2048x2048, .f32⟩
  | .hbm, ⟨12, _⟩ => ⟨S8x2x4x2048x2048, .f32⟩
  | .hbm, ⟨13, _⟩ => ⟨S_, .f32⟩
  | .hbm, ⟨14, _⟩ => ⟨S8x2x4x2048, .f32⟩
  | .hbm, ⟨15, _⟩ => ⟨S_, .f32⟩
  | .hbm, ⟨16, _⟩ => ⟨S8x2x4x2048, .f32⟩
  | .hbm, ⟨17, _⟩ => ⟨S8x2x4x2048, .f32⟩
  | .hbm, ⟨18, _⟩ => ⟨S8x2x4x2048x1, .f32⟩
  | .hbm, ⟨19, _⟩ => ⟨S8x2x4x2048x2048, .f32⟩
  | .hbm, ⟨20, _⟩ => ⟨S8x2x4x2048x2048, .f32⟩
  | .hbm, ⟨21, _⟩ => ⟨S8x2x4x2048x2048, .f32⟩
  | .hbm, ⟨22, _⟩ => ⟨S_, .f32⟩
  | .hbm, ⟨23, _⟩ => ⟨S8x2x4x2048, .f32⟩
  | .hbm, ⟨24, _⟩ => ⟨S8x2x4x2048x1, .f32⟩
  | .hbm, ⟨25, _⟩ => ⟨S8x2x4x2048x2048, .f32⟩
  | .hbm, ⟨26, _⟩ => ⟨S8x2x4x2048x2048, .f32⟩
  | .hbm, ⟨27, _⟩ => ⟨S8x2x64x4x2048, .f32⟩
  | .hbm, ⟨28, _⟩ => ⟨S8x2048x2x4x64, .f32⟩
  | .hbm, ⟨29, _⟩ => ⟨S8x2048x512, .f32⟩
  | .hbm, ⟨30, _⟩ => ⟨S8x2048x8x64, .f32⟩
  | .hbm, ⟨31, _⟩ => ⟨S8x2048x8x64, .f32⟩
  | .hbm, ⟨32, _⟩ => ⟨S_, .f32⟩
  | .hbm, ⟨33, _⟩ => ⟨S8x2048x8, .f32⟩
  | .hbm, ⟨34, _⟩ => ⟨S8x2048x8x1, .f32⟩
  | .hbm, ⟨35, _⟩ => ⟨S_, .f32⟩
  | .hbm, ⟨36, _⟩ => ⟨S8x2048x8x1, .f32⟩
  | .hbm, ⟨37, _⟩ => ⟨S8x2048x8x1, .f32⟩
  | .hbm, ⟨38, _⟩ => ⟨S_, .f32⟩
  | .hbm, ⟨39, _⟩ => ⟨S8x2048x8x1, .f32⟩
  | .hbm, ⟨40, _⟩ => ⟨S8x2048x8x1, .f32⟩
  | .hbm, ⟨41, _⟩ => ⟨S8x2048x8x1, .f32⟩
  | .hbm, ⟨42, _⟩ => ⟨S8x2048x8x64, .f32⟩
  | .hbm, ⟨43, _⟩ => ⟨S8x2048x8x64, .f32⟩
  | .hbm, ⟨44, _⟩ => ⟨S8x2048x512, .f32⟩
  | .hbm, ⟨45, _⟩ => ⟨S1x1x512, .f32⟩
  | .hbm, ⟨46, _⟩ => ⟨S8x2048x512, .f32⟩
  | .hbm, ⟨47, _⟩ => ⟨S8x2048x512, .f32⟩
  | .hbm, ⟨48, _⟩ => ⟨S8x2048x512, .bf16⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== InProj.lean ====
abbrev S8x2048x1024 : Shape := ⟨3, ![8, 2048, 1024]⟩
abbrev S1024 : Shape := ⟨1, ![1024]⟩
abbrev S1024x1792 : Shape := ⟨2, ![1024, 1792]⟩
abbrev S64 : Shape := ⟨1, ![64]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x32x2 : Shape := ⟨3, ![2048, 32, 2]⟩
abbrev S2048x64 : Shape := ⟨2, ![2048, 64]⟩
abbrev S32x2 : Shape := ⟨2, ![32, 2]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S16384x1024 : Shape := ⟨2, ![16384, 1024]⟩
abbrev S1x1024 : Shape := ⟨2, ![1, 1024]⟩
abbrev S16384x512 : Shape := ⟨2, ![16384, 512]⟩
abbrev S16384x256 : Shape := ⟨2, ![16384, 256]⟩
abbrev S1024x1024 : Shape := ⟨2, ![1024, 1024]⟩
abbrev S1024x128 : Shape := ⟨2, ![1024, 128]⟩
abbrev S1024x512 : Shape := ⟨2, ![1024, 512]⟩
abbrev S1024x256 : Shape := ⟨2, ![1024, 256]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x256 : Shape := ⟨2, ![256, 256]⟩
abbrev S8x2048x8x64 : Shape := ⟨4, ![8, 2048, 8, 64]⟩
abbrev S8x2048x2x128 : Shape := ⟨4, ![8, 2048, 2, 128]⟩
abbrev S8x2048x2x64 : Shape := ⟨4, ![8, 2048, 2, 64]⟩
abbrev S8x2048x2x256 : Shape := ⟨4, ![8, 2048, 2, 256]⟩
abbrev S8x2048x512 : Shape := ⟨3, ![8, 2048, 512]⟩

abbrev nBuf : Space → Nat
  | .hbm => 239
  | .vmem => 24
  | .smem => 0
  | _ => 0

abbrev hbmTy0_0 (i : Nat) : BufTy := match i % 128 with
  | 0 => ⟨S8x2048x1024, .f32⟩
  | 1 => ⟨S1024, .f32⟩
  | 2 => ⟨S1024, .f32⟩
  | 3 => ⟨S1024x1792, .f32⟩
  | 4 => ⟨S64, .f32⟩
  | 5 => ⟨S64, .f32⟩
  | 6 => ⟨S32, .i32⟩
  | 7 => ⟨S32x64, .i32⟩
  | 8 => ⟨S2048, .i32⟩
  | 9 => ⟨S64, .i32⟩
  | 10 => ⟨S1x64, .i32⟩
  | 11 => ⟨S32x64, .i32⟩
  | 12 => ⟨S2048, .i32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S2048x1, .i32⟩
  | 28 => ⟨S2048x1, .f32⟩
  | 29 => ⟨S1x16, .f32⟩
  | 30 => ⟨S2048x16, .f32⟩
  | 31 => ⟨S2048x16, .f32⟩
  | 32 => ⟨S2048x16, .f32⟩
  | 33 => ⟨S2048x1, .i32⟩
  | 34 => ⟨S2048x1, .f32⟩
  | 35 => ⟨S1x16, .f32⟩
  | 36 => ⟨S2048x16, .f32⟩
  | 37 => ⟨S2048x16, .f32⟩
  | 38 => ⟨S2048x16, .f32⟩
  | 39 => ⟨S2048x32, .f32⟩
  | 40 => ⟨S2048x32, .f32⟩
  | 41 => ⟨S2048x32x2, .f32⟩
  | 42 => ⟨S2048x64, .f32⟩
  | 43 => ⟨S2048x32, .f32⟩
  | 44 => ⟨S2048x32x2, .f32⟩
  | 45 => ⟨S2048x64, .f32⟩
  | 46 => ⟨S64, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S64, .i32⟩
  | 54 => ⟨S64, .i32⟩
  | 55 => ⟨S_, .i32⟩
  | 56 => ⟨S64, .i32⟩
  | 57 => ⟨S64, .i1⟩
  | 58 => ⟨S_, .i32⟩
  | 59 => ⟨S64, .i32⟩
  | 60 => ⟨S64, .i1⟩
  | 61 => ⟨S_, .i32⟩
  | 62 => ⟨S_, .i1⟩
  | 63 => ⟨S64, .i1⟩
  | 64 => ⟨S64, .i1⟩
  | 65 => ⟨S64, .i1⟩
  | 66 => ⟨S64, .i32⟩
  | 67 => ⟨S64, .i32⟩
  | 68 => ⟨S64, .i32⟩
  | 69 => ⟨S_, .i32⟩
  | 70 => ⟨S64, .i32⟩
  | 71 => ⟨S64, .i1⟩
  | 72 => ⟨S_, .f32⟩
  | 73 => ⟨S_, .f32⟩
  | 74 => ⟨S64, .f32⟩
  | 75 => ⟨S64, .f32⟩
  | 76 => ⟨S64, .f32⟩
  | 77 => ⟨S64, .f32⟩
  | 78 => ⟨S32x2, .f32⟩
  | 79 => ⟨S32x2, .f32⟩
  | 80 => ⟨S64, .f32⟩
  | 81 => ⟨S1x64, .f32⟩
  | 82 => ⟨S2048x64, .f32⟩
  | 83 => ⟨S2048x64, .f32⟩
  | 84 => ⟨S_, .f32⟩
  | 85 => ⟨S2048x64, .f32⟩
  | 86 => ⟨S2048x64, .f32⟩
  | 87 => ⟨S1x64, .f32⟩
  | 88 => ⟨S2048x64, .f32⟩
  | 89 => ⟨S2048x64, .f32⟩
  | 90 => ⟨S1x64, .f32⟩
  | 91 => ⟨S2048x64, .f32⟩
  | 92 => ⟨S2048x64, .f32⟩
  | 93 => ⟨S_, .f32⟩
  | 94 => ⟨S2048x64, .f32⟩
  | 95 => ⟨S2048x64, .f32⟩
  | 96 => ⟨S1x2048x1x64, .f32⟩
  | 97 => ⟨S1x2048x2x64, .f32⟩
  | 98 => ⟨S2048x128, .f32⟩
  | 99 => ⟨S1x2048x1x64, .f32⟩
  | 100 => ⟨S1x2048x2x64, .f32⟩
  | 101 => ⟨S2048x128, .f32⟩
  | 102 => ⟨S32, .i32⟩
  | 103 => ⟨S32x64, .i32⟩
  | 104 => ⟨S2048, .i32⟩
  | 105 => ⟨S64, .i32⟩
  | 106 => ⟨S1x64, .i32⟩
  | 107 => ⟨S32x64, .i32⟩
  | 108 => ⟨S2048, .i32⟩
  | 109 => ⟨S16, .f32⟩
  | 110 => ⟨S_, .f32⟩
  | 111 => ⟨S16, .f32⟩
  | 112 => ⟨S16, .f32⟩
  | 113 => ⟨S_, .f32⟩
  | 114 => ⟨S16, .f32⟩
  | 115 => ⟨S16, .f32⟩
  | 116 => ⟨S16, .f32⟩
  | 117 => ⟨S_, .f32⟩
  | 118 => ⟨S16, .f32⟩
  | 119 => ⟨S16, .f32⟩
  | 120 => ⟨S_, .f32⟩
  | 121 => ⟨S16, .f32⟩
  | 122 => ⟨S16, .f32⟩
  | 123 => ⟨S2048x1, .i32⟩
  | 124 => ⟨S2048x1, .f32⟩
  | 125 => ⟨S1x16, .f32⟩
  | 126 => ⟨S2048x16, .f32⟩
  | 127 => ⟨S2048x16, .f32⟩
  | _ => ⟨S8x2048x1024, .f32⟩

abbrev hbmTy0_1 (i : Nat) : BufTy := match i % 128 with
  | 0 => ⟨S2048x16, .f32⟩
  | 1 => ⟨S2048x1, .i32⟩
  | 2 => ⟨S2048x1, .f32⟩
  | 3 => ⟨S1x16, .f32⟩
  | 4 => ⟨S2048x16, .f32⟩
  | 5 => ⟨S2048x16, .f32⟩
  | 6 => ⟨S2048x16, .f32⟩
  | 7 => ⟨S2048x32, .f32⟩
  | 8 => ⟨S2048x32, .f32⟩
  | 9 => ⟨S2048x32x2, .f32⟩
  | 10 => ⟨S2048x64, .f32⟩
  | 11 => ⟨S2048x32, .f32⟩
  | 12 => ⟨S2048x32x2, .f32⟩
  | 13 => ⟨S2048x64, .f32⟩
  | 14 => ⟨S64, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S64, .i32⟩
  | 22 => ⟨S64, .i32⟩
  | 23 => ⟨S_, .i32⟩
  | 24 => ⟨S64, .i32⟩
  | 25 => ⟨S64, .i1⟩
  | 26 => ⟨S_, .i32⟩
  | 27 => ⟨S64, .i32⟩
  | 28 => ⟨S64, .i1⟩
  | 29 => ⟨S_, .i32⟩
  | 30 => ⟨S_, .i1⟩
  | 31 => ⟨S64, .i1⟩
  | 32 => ⟨S64, .i1⟩
  | 33 => ⟨S64, .i1⟩
  | 34 => ⟨S64, .i32⟩
  | 35 => ⟨S64, .i32⟩
  | 36 => ⟨S64, .i32⟩
  | 37 => ⟨S_, .i32⟩
  | 38 => ⟨S64, .i32⟩
  | 39 => ⟨S64, .i1⟩
  | 40 => ⟨S_, .f32⟩
  | 41 => ⟨S_, .f32⟩
  | 42 => ⟨S64, .f32⟩
  | 43 => ⟨S64, .f32⟩
  | 44 => ⟨S64, .f32⟩
  | 45 => ⟨S64, .f32⟩
  | 46 => ⟨S32x2, .f32⟩
  | 47 => ⟨S32x2, .f32⟩
  | 48 => ⟨S64, .f32⟩
  | 49 => ⟨S1x64, .f32⟩
  | 50 => ⟨S2048x64, .f32⟩
  | 51 => ⟨S2048x64, .f32⟩
  | 52 => ⟨S_, .f32⟩
  | 53 => ⟨S2048x64, .f32⟩
  | 54 => ⟨S2048x64, .f32⟩
  | 55 => ⟨S1x64, .f32⟩
  | 56 => ⟨S2048x64, .f32⟩
  | 57 => ⟨S2048x64, .f32⟩
  | 58 => ⟨S1x64, .f32⟩
  | 59 => ⟨S2048x64, .f32⟩
  | 60 => ⟨S2048x64, .f32⟩
  | 61 => ⟨S_, .f32⟩
  | 62 => ⟨S2048x64, .f32⟩
  | 63 => ⟨S2048x64, .f32⟩
  | 64 => ⟨S1x2048x1x64, .f32⟩
  | 65 => ⟨S1x2048x2x64, .f32⟩
  | 66 => ⟨S2048x128, .f32⟩
  | 67 => ⟨S1x2048x1x64, .f32⟩
  | 68 => ⟨S1x2048x2x64, .f32⟩
  | 69 => ⟨S2048x128, .f32⟩
  | 70 => ⟨S128, .i32⟩
  | 71 => ⟨S_, .i32⟩
  | 72 => ⟨S_, .i32⟩
  | 73 => ⟨S128, .i32⟩
  | 74 => ⟨S128, .i32⟩
  | 75 => ⟨S128, .i32⟩
  | 76 => ⟨S_, .i32⟩
  | 77 => ⟨S128, .i32⟩
  | 78 => ⟨S128, .i1⟩
  | 79 => ⟨S128, .i32⟩
  | 80 => ⟨S128, .i32⟩
  | 81 => ⟨S_, .i32⟩
  | 82 => ⟨S128, .i32⟩
  | 83 => ⟨S128, .i1⟩
  | 84 => ⟨S128, .i1⟩
  | 85 => ⟨S_, .i32⟩
  | 86 => ⟨S128, .i32⟩
  | 87 => ⟨S128, .i32⟩
  | 88 => ⟨S128, .i32⟩
  | 89 => ⟨S128x1, .i32⟩
  | 90 => ⟨S1x128, .i32⟩
  | 91 => ⟨S128x128, .i32⟩
  | 92 => ⟨S128x128, .i32⟩
  | 93 => ⟨S128x128, .i1⟩
  | 94 => ⟨S128x128, .bf16⟩
  | 95 => ⟨S16384x1024, .f32⟩
  | 96 => ⟨S1x1024, .f32⟩
  | 97 => ⟨S1x1024, .f32⟩
  | 98 => ⟨S1024x1792, .bf16⟩
  | 99 => ⟨S16384x1024, .f32⟩
  | 100 => ⟨S16384x512, .bf16⟩
  | 101 => ⟨S16384x256, .bf16⟩
  | 102 => ⟨S16384x512, .bf16⟩
  | 103 => ⟨S16384x512, .f32⟩
  | 104 => ⟨S8x2048x1024, .f32⟩
  | 105 => ⟨S8x2048x8x64, .bf16⟩
  | 106 => ⟨S8x2048x2x128, .bf16⟩
  | 107 => ⟨S8x2048x2x64, .bf16⟩
  | 108 => ⟨S8x2048x2x256, .bf16⟩
  | 109 => ⟨S8x2048x2x64, .bf16⟩
  | 110 => ⟨S8x2048x512, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1792, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S128x128, .bf16⟩
  | .local _ .vmem, ⟨14, _⟩ => ⟨S1024x1024, .f32⟩
  | .local _ .vmem, ⟨15, _⟩ => ⟨S1024x1024, .f32⟩
  | .local _ .vmem, ⟨16, _⟩ => ⟨S1024x512, .bf16⟩
  | .local _ .vmem, ⟨17, _⟩ => ⟨S1024x512, .bf16⟩
  | .local _ .vmem, ⟨18, _⟩ => ⟨S1024x256, .bf16⟩
  | .local _ .vmem, ⟨19, _⟩ => ⟨S1024x256, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .f32⟩
  | .local _ .vmem, ⟨23, _⟩ => ⟨S1024x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c : Ref sig .tc := ⟨.hbm, 47, rfl⟩
abbrev main_call0_v0 : Ref sig .tc := ⟨.hbm, 48, rfl⟩
abbrev main_call0_c : Ref sig .tc := ⟨.hbm, 49, rfl⟩
abbrev main_call0_v1 : Ref sig .tc := ⟨.hbm, 50, rfl⟩
abbrev main_call0_c_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_c_1 : Ref sig .tc := ⟨.hbm, 55, rfl⟩
abbrev main_call0_v5 : Ref sig .tc := ⟨.hbm, 56, rfl⟩
abbrev main_call0_v6 : Ref sig .tc := ⟨.hbm, 57, rfl⟩
abbrev main_call0_c_2 : Ref sig .tc := ⟨.hbm, 58, rfl⟩
abbrev main_call0_v7 : Ref sig .tc := ⟨.hbm, 59, rfl⟩
abbrev main_call0_v8 : Ref sig .tc := ⟨.hbm, 60, rfl⟩
abbrev main_call0_c_3 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_v12 : Ref sig .tc := ⟨.hbm, 65, rfl⟩
abbrev main_call0_v13 : Ref sig .tc := ⟨.hbm, 66, rfl⟩
abbrev main_call0_v14 : Ref sig .tc := ⟨.hbm, 67, rfl⟩
abbrev main_v37 : Ref sig .tc := ⟨.hbm, 68, rfl⟩
abbrev main_c_3 : Ref sig .tc := ⟨.hbm, 69, rfl⟩
abbrev main_v38 : Ref sig .tc := ⟨.hbm, 70, rfl⟩
abbrev main_v39 : Ref sig .tc := ⟨.hbm, 71, rfl⟩
abbrev main_cst_4 : Ref sig .tc := ⟨.hbm, 72, rfl⟩
abbrev main_cst_5 : Ref sig .tc := ⟨.hbm, 73, rfl⟩
abbrev main_call1_v0 : Ref sig .tc := ⟨.hbm, 74, rfl⟩
abbrev main_call1_v1 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_6 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_7 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_8 : Ref sig .tc := ⟨.hbm, 110, rfl⟩
abbrev main_v72 : Ref sig .tc := ⟨.hbm, 111, rfl⟩
abbrev main_v73 : Ref sig .tc := ⟨.hbm, 112, rfl⟩
abbrev main_cst_9 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_10 : Ref sig .tc := ⟨.hbm, 117, rfl⟩
abbrev main_v77 : Ref sig .tc := ⟨.hbm, 118, rfl⟩
abbrev main_v78 : Ref sig .tc := ⟨.hbm, 119, rfl⟩
abbrev main_cst_11 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_c_12 : Ref sig .tc := ⟨.hbm, 143, rfl⟩
abbrev main_call2_v0 : Ref sig .tc := ⟨.hbm, 144, rfl⟩
abbrev main_call2_c : Ref sig .tc := ⟨.hbm, 145, rfl⟩
abbrev main_call2_v1 : Ref sig .tc := ⟨.hbm, 146, rfl⟩
abbrev main_call2_c_0 : Ref sig .tc := ⟨.hbm, 147, rfl⟩
abbrev main_call2_v2 : Ref sig .tc := ⟨.hbm, 148, rfl⟩
abbrev main_call2_v3 : Ref sig .tc := ⟨.hbm, 149, rfl⟩
abbrev main_call2_v4 : Ref sig .tc := ⟨.hbm, 150, rfl⟩
abbrev main_call2_c_1 : Ref sig .tc := ⟨.hbm, 151, rfl⟩
abbrev main_call2_v5 : Ref sig .tc := ⟨.hbm, 152, rfl⟩
abbrev main_call2_v6 : Ref sig .tc := ⟨.hbm, 153, rfl⟩
abbrev main_call2_c_2 : Ref sig .tc := ⟨.hbm, 154, rfl⟩
abbrev main_call2_v7 : Ref sig .tc := ⟨.hbm, 155, rfl⟩
abbrev main_call2_v8 : Ref sig .tc := ⟨.hbm, 156, rfl⟩
abbrev main_call2_c_3 : Ref sig .tc := ⟨.hbm, 157, rfl⟩
abbrev main_call2_v9 : Ref sig .tc := ⟨.hbm, 158, rfl⟩
abbrev main_call2_v10 : Ref sig .tc := ⟨.hbm, 159, rfl⟩
abbrev main_call2_v11 : Ref sig .tc := ⟨.hbm, 160, rfl⟩
abbrev main_call2_v12 : Ref sig .tc := ⟨.hbm, 161, rfl⟩
abbrev main_call2_v13 : Ref sig .tc := ⟨.hbm, 162, rfl⟩
abbrev main_call2_v14 : Ref sig .tc := ⟨.hbm, 163, rfl⟩
abbrev main_v101 : Ref sig .tc := ⟨.hbm, 164, rfl⟩
abbrev main_c_13 : Ref sig .tc := ⟨.hbm, 165, rfl⟩
abbrev main_v102 : Ref sig .tc := ⟨.hbm, 166, rfl⟩
abbrev main_v103 : Ref sig .tc := ⟨.hbm, 167, rfl⟩
abbrev main_cst_14 : Ref sig .tc := ⟨.hbm, 168, rfl⟩
abbrev main_cst_15 : Ref sig .tc := ⟨.hbm, 169, rfl⟩
abbrev main_call3_v0 : Ref sig .tc := ⟨.hbm, 170, rfl⟩
abbrev main_call3_v1 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_cst_16 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_cst_17 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_c_18 : Ref sig .tc := ⟨.hbm, 199, rfl⟩
abbrev main_call4_v0 : Ref sig .tc := ⟨.hbm, 200, rfl⟩
abbrev main_call4_v1 : Ref sig .tc := ⟨.hbm, 201, rfl⟩
abbrev main_call4_v2 : Ref sig .tc := ⟨.hbm, 202, rfl⟩
abbrev main_call4_v3 : Ref sig .tc := ⟨.hbm, 203, rfl⟩
abbrev main_call4_v4 : Ref sig .tc := ⟨.hbm, 204, rfl⟩
abbrev main_call4_v5 : Ref sig .tc := ⟨.hbm, 205, rfl⟩
abbrev main_call4_v6 : Ref sig .tc := ⟨.hbm, 206, rfl⟩
abbrev main_call4_v7 : Ref sig .tc := ⟨.hbm, 207, rfl⟩
abbrev main_call4_v8 : Ref sig .tc := ⟨.hbm, 208, rfl⟩
abbrev main_call4_c : Ref sig .tc := ⟨.hbm, 209, rfl⟩
abbrev main_call4_v9 : Ref sig .tc := ⟨.hbm, 210, rfl⟩
abbrev main_call4_v10 : Ref sig .tc := ⟨.hbm, 211, rfl⟩
abbrev main_call4_v11 : Ref sig .tc := ⟨.hbm, 212, rfl⟩
abbrev main_call4_c_0 : Ref sig .tc := ⟨.hbm, 213, rfl⟩
abbrev main_call4_v12 : Ref sig .tc := ⟨.hbm, 214, rfl⟩
abbrev main_call4_v13 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_v140_0 : Ref sig .tc := ⟨.hbm, 227, rfl⟩
abbrev main_v140_1 : Ref sig .tc := ⟨.hbm, 228, rfl⟩
abbrev main_v140_2 : Ref sig .tc := ⟨.hbm, 229, rfl⟩
abbrev main_v140_3 : Ref sig .tc := ⟨.hbm, 230, rfl⟩
abbrev main_v140_4 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjectIdeal.lean ====
abbrev S8x2048x1024 : Shape := ⟨3, ![8, 2048, 1024]⟩
abbrev S1024 : Shape := ⟨1, ![1024]⟩
abbrev S1024x1792 : Shape := ⟨2, ![1024, 1792]⟩
abbrev S64 : Shape := ⟨1, ![64]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S8x2048x1792 : Shape := ⟨3, ![8, 2048, 1792]⟩
abbrev S8x2048x512 : Shape := ⟨3, ![8, 2048, 512]⟩
abbrev S8x2048x128 : Shape := ⟨3, ![8, 2048, 128]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x2048x8x32x2 : Shape := ⟨5, ![8, 2048, 8, 32, 2]⟩
abbrev S8x2048x8x32x1 : Shape := ⟨5, ![8, 2048, 8, 32, 1]⟩
abbrev S8x2048x8x32 : Shape := ⟨4, ![8, 2048, 8, 32]⟩
abbrev S2048x1x32 : Shape := ⟨3, ![2048, 1, 32]⟩
abbrev S1x2048x1x32 : Shape := ⟨4, ![1, 2048, 1, 32]⟩
abbrev S8x2048x2x64 : Shape := ⟨4, ![8, 2048, 2, 64]⟩
abbrev S8x2048x2 : Shape := ⟨3, ![8, 2048, 2]⟩
abbrev S8x2048x2x1 : Shape := ⟨4, ![8, 2048, 2, 1]⟩
abbrev S8x2048x2x32x2 : Shape := ⟨5, ![8, 2048, 2, 32, 2]⟩
abbrev S8x2048x2x32x1 : Shape := ⟨5, ![8, 2048, 2, 32, 1]⟩
abbrev S8x2048x2x32 : Shape := ⟨4, ![8, 2048, 2, 32]⟩

abbrev nBuf : Space → Nat
  | .hbm => 175
  | .vmem => 0
  | .smem => 0
  | _ => 0

abbrev hbmTy0_0 (i : Nat) : BufTy := match i % 128 with
  | 0 => ⟨S8x2048x1024, .f32⟩
  | 1 => ⟨S1024, .f32⟩
  | 2 => ⟨S1024, .f32⟩
  | 3 => ⟨S1024x1792, .f32⟩
  | 4 => ⟨S64, .f32⟩
  | 5 => ⟨S64, .f32⟩
  | 6 => ⟨S_, .f32⟩
  | 7 => ⟨S8x2048, .f32⟩
  | 8 => ⟨S8x2048x1, .f32⟩
  | 9 => ⟨S_, .f32⟩
  | 10 => ⟨S8x2048x1, .f32⟩
  | 11 => ⟨S8x2048x1, .f32⟩
  | 12 => ⟨S8x2048x1024, .f32⟩
  | 13 => ⟨S8x2048x1024, .f32⟩
  | 14 => ⟨S8x2048x1024, .f32⟩
  | 15 => ⟨S_, .f32⟩
  | 16 => ⟨S8x2048, .f32⟩
  | 17 => ⟨S8x2048x1, .f32⟩
  | 18 => ⟨S_, .f32⟩
  | 19 => ⟨S8x2048x1, .f32⟩
  | 20 => ⟨S8x2048x1, .f32⟩
  | 21 => ⟨S8x2048x1024, .f32⟩
  | 22 => ⟨S8x2048x1024, .f32⟩
  | 23 => ⟨S_, .f32⟩
  | 24 => ⟨S8x2048x1, .f32⟩
  | 25 => ⟨S8x2048x1, .f32⟩
  | 26 => ⟨S8x2048x1, .f32⟩
  | 27 => ⟨S8x2048x1024, .f32⟩
  | 28 => ⟨S8x2048x1024, .f32⟩
  | 29 => ⟨S1x1x1024, .f32⟩
  | 30 => ⟨S8x2048x1024, .f32⟩
  | 31 => ⟨S8x2048x1024, .f32⟩
  | 32 => ⟨S1x1x1024, .f32⟩
  | 33 => ⟨S8x2048x1024, .f32⟩
  | 34 => ⟨S8x2048x1024, .f32⟩
  | 35 => ⟨S32, .i32⟩
  | 36 => ⟨S32x64, .i32⟩
  | 37 => ⟨S2048, .i32⟩
  | 38 => ⟨S64, .i32⟩
  | 39 => ⟨S1x64, .i32⟩
  | 40 => ⟨S32x64, .i32⟩
  | 41 => ⟨S2048, .i32⟩
  | 42 => ⟨S16, .f32⟩
  | 43 => ⟨S_, .f32⟩
  | 44 => ⟨S16, .f32⟩
  | 45 => ⟨S16, .f32⟩
  | 46 => ⟨S_, .f32⟩
  | 47 => ⟨S16, .f32⟩
  | 48 => ⟨S16, .f32⟩
  | 49 => ⟨S16, .f32⟩
  | 50 => ⟨S_, .f32⟩
  | 51 => ⟨S16, .f32⟩
  | 52 => ⟨S16, .f32⟩
  | 53 => ⟨S_, .f32⟩
  | 54 => ⟨S16, .f32⟩
  | 55 => ⟨S16, .f32⟩
  | 56 => ⟨S2048x1, .i32⟩
  | 57 => ⟨S2048x1, .f32⟩
  | 58 => ⟨S1x16, .f32⟩
  | 59 => ⟨S2048x16, .f32⟩
  | 60 => ⟨S2048x16, .f32⟩
  | 61 => ⟨S2048x16, .f32⟩
  | 62 => ⟨S2048x1, .i32⟩
  | 63 => ⟨S2048x1, .f32⟩
  | 64 => ⟨S1x16, .f32⟩
  | 65 => ⟨S2048x16, .f32⟩
  | 66 => ⟨S2048x16, .f32⟩
  | 67 => ⟨S2048x16, .f32⟩
  | 68 => ⟨S2048x32, .f32⟩
  | 69 => ⟨S2048x32, .f32⟩
  | 70 => ⟨S2048x32, .f32⟩
  | 71 => ⟨S8x2048x1792, .f32⟩
  | 72 => ⟨S8x2048x512, .f32⟩
  | 73 => ⟨S8x2048x128, .f32⟩
  | 74 => ⟨S8x2048x128, .f32⟩
  | 75 => ⟨S8x2048x1024, .f32⟩
  | 76 => ⟨S8x2048x8x64, .f32⟩
  | 77 => ⟨S8x2048x8x64, .f32⟩
  | 78 => ⟨S_, .f32⟩
  | 79 => ⟨S8x2048x8, .f32⟩
  | 80 => ⟨S8x2048x8x1, .f32⟩
  | 81 => ⟨S_, .f32⟩
  | 82 => ⟨S8x2048x8x1, .f32⟩
  | 83 => ⟨S8x2048x8x1, .f32⟩
  | 84 => ⟨S_, .f32⟩
  | 85 => ⟨S8x2048x8x1, .f32⟩
  | 86 => ⟨S8x2048x8x1, .f32⟩
  | 87 => ⟨S8x2048x8x1, .f32⟩
  | 88 => ⟨S8x2048x8x64, .f32⟩
  | 89 => ⟨S8x2048x8x64, .f32⟩
  | 90 => ⟨S1x1x1x64, .f32⟩
  | 91 => ⟨S8x2048x8x64, .f32⟩
  | 92 => ⟨S8x2048x8x64, .f32⟩
  | 93 => ⟨S8x2048x8x32x2, .f32⟩
  | 94 => ⟨S8x2048x8x32x1, .f32⟩
  | 95 => ⟨S8x2048x8x32, .f32⟩
  | 96 => ⟨S8x2048x8x32x1, .f32⟩
  | 97 => ⟨S8x2048x8x32, .f32⟩
  | 98 => ⟨S2048x1x32, .f32⟩
  | 99 => ⟨S2048x1x32, .f32⟩
  | 100 => ⟨S1x2048x1x32, .f32⟩
  | 101 => ⟨S8x2048x8x32, .f32⟩
  | 102 => ⟨S8x2048x8x32, .f32⟩
  | 103 => ⟨S1x2048x1x32, .f32⟩
  | 104 => ⟨S8x2048x8x32, .f32⟩
  | 105 => ⟨S8x2048x8x32, .f32⟩
  | 106 => ⟨S8x2048x8x32, .f32⟩
  | 107 => ⟨S1x2048x1x32, .f32⟩
  | 108 => ⟨S8x2048x8x32, .f32⟩
  | 109 => ⟨S8x2048x8x32, .f32⟩
  | 110 => ⟨S1x2048x1x32, .f32⟩
  | 111 => ⟨S8x2048x8x32, .f32⟩
  | 112 => ⟨S8x2048x8x32, .f32⟩
  | 113 => ⟨S8x2048x8x32, .f32⟩
  | 114 => ⟨S8x2048x8x32x1, .f32⟩
  | 115 => ⟨S8x2048x8x32x1, .f32⟩
  | 116 => ⟨S8x2048x8x32x2, .f32⟩
  | 117 => ⟨S8x2048x8x64, .f32⟩
  | 118 => ⟨S8x2048x2x64, .f32⟩
  | 119 => ⟨S8x2048x2x64, .f32⟩
  | 120 => ⟨S_, .f32⟩
  | 121 => ⟨S8x2048x2, .f32⟩
  | 122 => ⟨S8x2048x2x1, .f32⟩
  | 123 => ⟨S_, .f32⟩
  | 124 => ⟨S8x2048x2x1, .f32⟩
  | 125 => ⟨S8x2048x2x1, .f32⟩
  | 126 => ⟨S_, .f32⟩
  | 127 => ⟨S8x2048x2x1, .f32⟩
  | _ => ⟨S8x2048x1024, .f32⟩

abbrev hbmTy0_1 (i : Nat) : BufTy := match i % 128 with
  | 0 => ⟨S8x2048x2x1, .f32⟩
  | 1 => ⟨S8x2048x2x1, .f32⟩
  | 2 => ⟨S8x2048x2x64, .f32⟩
  | 3 => ⟨S8x2048x2x64, .f32⟩
  | 4 => ⟨S1x1x1x64, .f32⟩
  | 5 => ⟨S8x2048x2x64, .f32⟩
  | 6 => ⟨S8x2048x2x64, .f32⟩
  | 7 => ⟨S8x2048x2x32x2, .f32⟩
  | 8 => ⟨S8x2048x2x32x1, .f32⟩
  | 9 => ⟨S8x2048x2x32, .f32⟩
  | 10 => ⟨S8x2048x2x32x1, .f32⟩
  | 11 => ⟨S8x2048x2x32, .f32⟩
  | 12 => ⟨S2048x1x32, .f32⟩
  | 13 => ⟨S2048x1x32, .f32⟩
  | 14 => ⟨S1x2048x1x32, .f32⟩
  | 15 => ⟨S8x2048x2x32, .f32⟩
  | 16 => ⟨S8x2048x2x32, .f32⟩
  | 17 => ⟨S1x2048x1x32, .f32⟩
  | 18 => ⟨S8x2048x2x32, .f32⟩
  | 19 => ⟨S8x2048x2x32, .f32⟩
  | 20 => ⟨S8x2048x2x32, .f32⟩
  | 21 => ⟨S1x2048x1x32, .f32⟩
  | 22 => ⟨S8x2048x2x32, .f32⟩
  | 23 => ⟨S8x2048x2x32, .f32⟩
  | 24 => ⟨S1x2048x1x32, .f32⟩
  | 25 => ⟨S8x2048x2x32, .f32⟩
  | 26 => ⟨S8x2048x2x32, .f32⟩
  | 27 => ⟨S8x2048x2x32, .f32⟩
  | 28 => ⟨S8x2048x2x32x1, .f32⟩
  | 29 => ⟨S8x2048x2x32x1, .f32⟩
  | 30 => ⟨S8x2048x2x32x2, .f32⟩
  | 31 => ⟨S8x2048x2x64, .f32⟩
  | 32 => ⟨S8x2048x2x64, .f32⟩
  | 33 => ⟨S8x2048x512, .f32⟩
  | 34 => ⟨S8x2048x512, .f32⟩
  | 35 => ⟨S8x2048x512, .f32⟩
  | 36 => ⟨S8x2048x512, .f32⟩
  | 37 => ⟨S_, .f32⟩
  | 38 => ⟨S8x2048x512, .f32⟩
  | 39 => ⟨S8x2048x512, .f32⟩
  | 40 => ⟨S_, .f32⟩
  | 41 => ⟨S8x2048x512, .f32⟩
  | 42 => ⟨S8x2048x512, .f32⟩
  | 43 => ⟨S8x2048x512, .f32⟩
  | 44 => ⟨S8x2048x8x64, .bf16⟩
  | 45 => ⟨S8x2048x2x64, .bf16⟩
  | 46 => ⟨S8x2048x2x64, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_v64 : Ref sig .tc := ⟨.hbm, 80, rfl⟩
abbrev main_cst_9 : Ref sig .tc := ⟨.hbm, 81, rfl⟩
abbrev main_v65 : Ref sig .tc := ⟨.hbm, 82, rfl⟩
abbrev main_v66 : Ref sig .tc := ⟨.hbm, 83, rfl⟩
abbrev main_cst_10 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_cst_11 : Ref sig .tc := ⟨.hbm, 120, rfl⟩
abbrev main_v102 : Ref sig .tc := ⟨.hbm, 121, rfl⟩
abbrev main_v103 : Ref sig .tc := ⟨.hbm, 122, rfl⟩
abbrev main_cst_12 : Ref sig .tc := ⟨.hbm, 123, rfl⟩
abbrev main_v104 : Ref sig .tc := ⟨.hbm, 124, rfl⟩
abbrev main_v105 : Ref sig .tc := ⟨.hbm, 125, rfl⟩
abbrev main_cst_13 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_cst_14 : Ref sig .tc := ⟨.hbm, 165, rfl⟩
abbrev main_v144 : Ref sig .tc := ⟨.hbm, 166, rfl⟩
abbrev main_v145 : Ref sig .tc := ⟨.hbm, 167, rfl⟩
abbrev main_cst_15 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩

abbrev nD : Nat := 1
abbrev τ : Topo := Topo.v7x

variable {F : FTy → Type} [FloatOps F]
-- ==== Proof.Run.lean ====
/- The whole run of the three calls: every buffer of the program ends at what the generated fold of the segments says.
   The launch is the generated frame's, its postcondition kept in full instead of at the arguments only. -/
module

public import proofs.«01_k».proof.Proof.Gen.KernelIdeal.Frame

@[expose] public section

set_option maxRecDepth 16384

noncomputable section

namespace Cert.KernelIdeal.Arr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends, faultless, with every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

end Cert.KernelIdeal.Arr

end
-- ==== Proof.Stages.lean ====
module

public import proofs.«01_k».proof.Proof.Gen.KernelIdeal.Frame

@[expose] public section

set_option maxRecDepth 65536

noncomputable section

namespace Cert.KernelIdeal.Stage

open Cert.KernelIdeal Cert.KernelIdeal.Gen Idealize.ShloMosaic Idealize.SL.Sem

variable {F : FTy → Type} [FloatOps F]

/-- The row-wise layer norm of a block of 512-wide rows, with its gain and bias. -/
def ln512 (x : FVec F S256x512 .f32) (g b : Vec F S1x512 .f32) : FVec F S256x512 .f32 :=
  have g' : FVec F S1x512 .f32 := shapeCast S1x512 g shapeCasts_S1x512_S1x512
  have b' : FVec F S1x512 .f32 := shapeCast S1x512 b shapeCasts_S1x512_S1x512
  have s : FVec F S256 .f32 := multiReduction .add [1] S256 x 0x00000000#32 reduces_S256x512_S256 (.inl rfl) rfl
  have mu : FVec F S256x1 .f32 := divf (shapeCast S256x1 s shapeCasts_S256_S256x1) (broadcast S256x1 (Scalar.ofBits .f32 0x44000000#32))
  have d : FVec F S256x512 .f32 := subf x (broadcastTo S256x512 mu broadcasts_S256x1_S256x512)
  have q : FVec F S256 .f32 := multiReduction .add [1] S256 (mulf d d) 0x00000000#32 reduces_S256x512_S256 (.inl rfl) rfl
  have var : FVec F S256x1 .f32 := divf (shapeCast S256x1 q shapeCasts_S256_S256x1) (broadcast S256x1 (Scalar.ofBits .f32 0x44000000#32))
  have r : FVec F S256x1 .f32 := rsqrt (addf var (broadcast S256x1 (Scalar.ofBits .f32 0x3727C5AC#32)))
  addf (mulf (mulf d (broadcastTo S256x512 r broadcasts_S256x1_S256x512)) (broadcastTo S256x512 g' broadcasts_S1x512_S256x512))
    (broadcastTo S256x512 b' broadcasts_S1x512_S256x512)

/-- The row-wise layer norm of a block of 1024-wide rows, with its gain and bias. -/
def ln1024 (x : FVec F S256x1024 .f32) (g b : Vec F S1x1024 .f32) : FVec F S256x1024 .f32 :=
  have g' : FVec F S1x1024 .f32 := shapeCast S1x1024 g shapeCasts_S1x1024_S1x1024
  have b' : FVec F S1x1024 .f32 := shapeCast S1x1024 b shapeCasts_S1x1024_S1x1024
  have s : FVec F S256 .f32 := multiReduction .add [1] S256 x 0x00000000#32 reduces_S256x1024_S256 (.inl rfl) rfl
  have mu : FVec F S256x1 .f32 := divf (shapeCast S256x1 s shapeCasts_S256_S256x1) (broadcast S256x1 (Scalar.ofBits .f32 0x44800000#32))
  have d : FVec F S256x1024 .f32 := subf x (broadcastTo S256x1024 mu broadcasts_S256x1_S256x1024)
  have q : FVec F S256 .f32 := multiReduction .add [1] S256 (mulf d d) 0x00000000#32 reduces_S256x1024_S256 (.inl rfl) rfl
  have var : FVec F S256x1 .f32 := divf (shapeCast S256x1 q shapeCasts_S256_S256x1) (broadcast S256x1 (Scalar.ofBits .f32 0x44800000#32))
  have r : FVec F S256x1 .f32 := rsqrt (addf var (broadcast S256x1 (Scalar.ofBits .f32 0x3727C5AC#32)))
  addf (mulf (mulf d (broadcastTo S256x1024 r broadcasts_S256x1_S256x1024)) (broadcastTo S256x1024 g' broadcasts_S1x1024_S256x1024))
    (broadcastTo S256x1024 b' broadcasts_S1x1024_S256x1024)

/-- One 128-lane slice of the convolution's activations: each half's 64 lanes divided by the root of their mean square,
    times the gain. -/
def grp (x : FVec F S256x128 .f32) (gain : Vec F S1x128 .f32) : FVec F S256x128 .bf16 :=
  have low : IVec S256x128 1 := cmpi .slt (iota .tc S256x128 32 [1] iota_S256x128_d1_w32) (broadcast S256x128 64#32)
  have z : FVec F S256x128 .f32 := broadcast S256x128 (Scalar.ofBits .f32 0x00000000#32)
  have sq : FVec F S256x128 .f32 := mulf x x
  have s0 : FVec F S256 .f32 := multiReduction .add [1] S256 (select low sq z) 0x00000000#32 reduces_S256x128_S256 (.inl rfl) rfl
  have s1 : FVec F S256 .f32 := multiReduction .add [1] S256 (select low z sq) 0x00000000#32 reduces_S256x128_S256 (.inl rfl) rfl
  have t0 : FVec F S256x1 .f32 := shapeCast S256x1 (shapeCast S256x1 s0 shapeCasts_S256_S256x1) shapeCasts_S256x1_S256x1
  have t1 : FVec F S256x1 .f32 := shapeCast S256x1 (shapeCast S256x1 s1 shapeCasts_S256_S256x1) shapeCasts_S256x1_S256x1
  have m : FVec F S256x128 .f32 := select low (broadcastTo S256x128 t0 broadcasts_S256x1_S256x128) (broadcastTo S256x128 t1 broadcasts_S256x1_S256x128)
  have r : FVec F S256x128 .f32 := rsqrt (addf (mulf m (broadcast S256x128 (Scalar.ofBits .f32 0x3C800000#32))) (broadcast S256x128 (Scalar.ofBits .f32 0x3727C5AC#32)))
  truncf .bf16 (mulf (mulf x r) (broadcastTo S256x128 (shapeCast S1x128 gain shapeCasts_S1x128_S1x128) broadcasts_S1x128_S256x128)) bitsLt_bf16_f32

/-- The convolution's block after its layer norm and silu. -/
def act (c : Vec F S1x256x512 .f32) (g b : Vec F S1x512 .f32) : FVec F S256x512 .f32 :=
  have y : FVec F S256x512 .f32 := ln512 (shapeCast S256x512 c shapeCasts_S1x256x512_S256x512) g b
  mulf y (logistic y)

/-- The four 128-lane slices joined. -/
def convOut (y : FVec F S256x512 .f32) (g0 g1 g2 g3 : Vec F S1x128 .f32) : FVec F S256x512 .bf16 :=
  concatenate S256x512 1
    [⟨S256x128, grp (extractStridedSlice S256x128 ![0, 0] y slices_S256x512_o0_0_S256x128) g0⟩,
     ⟨S256x128, grp (extractStridedSlice S256x128 ![0, 128] y slices_S256x512_o0_128_S256x128) g1⟩,
     ⟨S256x128, grp (extractStridedSlice S256x128 ![0, 256] y slices_S256x512_o0_256_S256x128) g2⟩,
     ⟨S256x128, grp (extractStridedSlice S256x128 ![0, 384] y slices_S256x512_o0_384_S256x128) g3⟩]
    concatenates_S256x128_S256x128_S256x128_S256x128_S256x512_d1

/-- The output projection of the joined attention and convolution rows. -/
def outProj (a : Vec F S1x256x512 .bf16) (y : FVec F S256x512 .bf16) (wt wb : Vec F S512x1024 .bf16) : FVec F S256x1024 .f32 :=
  addf
    (matmul dot_S256x512_S512x1024_S256x1024_1_0_0_1_n_n none (shapeCast S256x512 a shapeCasts_S1x256x512_S256x512)
      (shapeCast S512x1024 wt shapeCasts_S512x1024_S512x1024) (constant S256x1024 .f32 0x00000000#32))
    (matmul dot_S256x512_S512x1024_S256x1024_1_0_0_1_n_n none y
      (shapeCast S512x1024 wb shapeCasts_S512x1024_S512x1024) (constant S256x1024 .f32 0x00000000#32))

/-- The residual sum: the scaled block plus what a sublayer adds. -/
def resid (h x : FVec F S256x1024 .f32) : FVec F S256x1024 .f32 :=
  addf (mulf (broadcast S256x1024 (Scalar.ofBits .f32 0x3F9837F0#32)) h) x

/-- The block after the mixer's residual layer norm. -/
def mixed (h : Vec F S1x256x1024 .f32) (p : FVec F S256x1024 .f32) (g b : Vec F S1x1024 .f32) : FVec F S256x1024 .f32 :=
  ln1024 (resid (shapeCast S256x1024 h shapeCasts_S1x256x1024_S256x1024) p) g b

/-- The scaled queries of all heads. -/
def queries (h : FVec F S256x1024 .f32) (wq : Vec F S1024x1024 .bf16) : FVec F S256x1024 .bf16 :=
  truncf .bf16
    (mulf (matmul dot_S256x1024_S1024x1024_S256x1024_1_0_0_1_n_n none (truncf .bf16 h bitsLt_bf16_f32)
        (shapeCast S1024x1024 wq shapeCasts_S1024x1024_S1024x1024) (constant S256x1024 .f32 0x00000000#32))
      (broadcast S256x1024 (Scalar.ofBits .f32 0x3D800000#32))) bitsLt_bf16_f32

/-- The scores of one head. -/
def scores (q : FVec F S256x256 .bf16) (k : Vec F S1x256x256 .bf16) : FVec F S256x256 .f32 :=
  matmul dot_S256x256_S256x256_S256x256_1_1_0_0_n_n none q (shapeCast S256x256 k shapeCasts_S1x256x256_S256x256)
    (constant S256x256 .f32 0x00000000#32)

/-- The softmax of one head's scores applied to its values: the weighted sum divided by the sum of the weights. -/
def headOut (s : FVec F S256x256 .f32) (v : Vec F S1x256x256 .bf16) : FVec F S256x256 .bf16 :=
  have m : FVec F S256 .f32 := multiReduction .maximumf [1] S256 s 0xFF800000#32 reduces_S256x256_S256 (.inl rfl) rfl
  have p : FVec F S256x256 .f32 := exp (subf s (broadcastTo S256x256 (shapeCast S256x1 m shapeCasts_S256_S256x1) broadcasts_S256x1_S256x256))
  have l : FVec F S256 .f32 := multiReduction .add [1] S256 p 0x00000000#32 reduces_S256x256_S256 (.inl rfl) rfl
  have o : FVec F S256x256 .f32 := matmul dot_S256x256_S256x256_S256x256_1_0_0_1_n_n none (truncf .bf16 p bitsLt_bf16_f32)
    (shapeCast S256x256 v shapeCasts_S1x256x256_S256x256) (constant S256x256 .f32 0x00000000#32)
  truncf .bf16 (divf o (broadcastTo S256x256 (shapeCast S256x1 l shapeCasts_S256_S256x1) broadcasts_S256x1_S256x256)) bitsLt_bf16_f32

/-- The four heads' results joined and projected. -/
def memAttn (q : FVec F S256x1024 .bf16) (k0 k1 k2 k3 v0 v1 v2 v3 : Vec F S1x256x256 .bf16) (wo : Vec F S1024x1024 .bf16) :
    FVec F S256x1024 .f32 :=
  matmul dot_S256x1024_S1024x1024_S256x1024_1_0_0_1_n_n none
    (concatenate S256x1024 1
      [⟨S256x256, headOut (scores (extractStridedSlice S256x256 ![0, 0] q slices_S256x1024_o0_0_S256x256) k0) v0⟩,
       ⟨S256x256, headOut (scores (extractStridedSlice S256x256 ![0, 256] q slices_S256x1024_o0_256_S256x256) k1) v1⟩,
       ⟨S256x256, headOut (scores (extractStridedSlice S256x256 ![0, 512] q slices_S256x1024_o0_512_S256x256) k2) v2⟩,
       ⟨S256x256, headOut (scores (extractStridedSlice S256x256 ![0, 768] q slices_S256x1024_o0_768_S256x256) k3) v3⟩]
      concatenates_S256x256_S256x256_S256x256_S256x256_S256x1024_d1)
    (shapeCast S1024x1024 wo shapeCasts_S1024x1024_S1024x1024) (constant S256x1024 .f32 0x00000000#32)

/-- The block a point of the second call stores for 256 of its rows. -/
def block (c : Vec F S1x256x512 .f32) (a : Vec F S1x256x512 .bf16) (h : Vec F S1x256x1024 .f32)
    (cg cb : Vec F S1x512 .f32) (g0 g1 g2 g3 : Vec F S1x128 .f32) (wt wb : Vec F S512x1024 .bf16) (lg lb : Vec F S1x1024 .f32)
    (wq : Vec F S1024x1024 .bf16) (k0 k1 k2 k3 v0 v1 v2 v3 : Vec F S1x256x256 .bf16) (wo : Vec F S1024x1024 .bf16)
    (mg mb : Vec F S1x1024 .f32) : FVec F S1x256x1024 .f32 :=
  have h1 : FVec F S256x1024 .f32 := mixed h (outProj a (convOut (act c cg cb) g0 g1 g2 g3) wt wb) lg lb
  shapeCast S1x256x1024 (ln1024 (resid h1 (memAttn (queries h1 wq) k0 k1 k2 k3 v0 v1 v2 v3 wo)) mg mb) shapeCasts_S256x1024_S1x256x1024

/-- A hidden chunk of the feed-forward layer: the squared positive part of one 1024-wide slice of the first product. -/
def hid (x : FVec F S256x1024 .bf16) (w : Vec F S1024x1024 .bf16) (b : Vec F S1x1024 .f32) : FVec F S256x1024 .bf16 :=
  have y : FVec F S256x1024 .f32 := maximumf
    (addf (matmul dot_S256x1024_S1024x1024_S256x1024_1_0_0_1_n_n none x (shapeCast S1024x1024 w shapeCasts_S1024x1024_S1024x1024) (constant S256x1024 .f32 0x00000000#32))
      (broadcastTo S256x1024 (shapeCast S1x1024 b shapeCasts_S1x1024_S1x1024) broadcasts_S1x1024_S256x1024))
    (broadcast S256x1024 (Scalar.ofBits .f32 0x00000000#32))
  truncf .bf16 (mulf y y) bitsLt_bf16_f32

/-- One chunk's product added to the running sum. -/
def addHid (acc : FVec F S256x1024 .f32) (y : FVec F S256x1024 .bf16) (w : Vec F S1024x1024 .bf16) : FVec F S256x1024 .f32 :=
  addf acc (matmul dot_S256x1024_S1024x1024_S256x1024_1_0_0_1_n_n none y (shapeCast S1024x1024 w shapeCasts_S1024x1024_S1024x1024) (constant S256x1024 .f32 0x00000000#32))

/-- The block a point of the third call stores for 256 of its rows. -/
def mlpBlock (x0 : Vec F S256x1024 .f32) (b2 : Vec F S1x1024 .f32) (u0 u1 u2 u3 : Vec F S1024x1024 .bf16) (c0 c1 c2 c3 : Vec F S1x1024 .f32)
    (d0 d1 d2 d3 : Vec F S1024x1024 .bf16) (g b : Vec F S1x1024 .f32) : FVec F S256x1024 .f32 :=
  have x : FVec F S256x1024 .f32 := shapeCast S256x1024 x0 shapeCasts_S256x1024_S256x1024
  have xb : FVec F S256x1024 .bf16 := truncf .bf16 x bitsLt_bf16_f32
  have a : FVec F S256x1024 .f32 := addf (mulf (broadcast S256x1024 (Scalar.ofBits .f32 0x3F9837F0#32)) x)
    (broadcastTo S256x1024 (shapeCast S1x1024 b2 shapeCasts_S1x1024_S1x1024) broadcasts_S1x1024_S256x1024)
  ln1024 (addHid (addHid (addHid (addHid a (hid xb u0 c0) d0) (hid xb u1 c1) d1) (hid xb u2 c2) d2) (hid xb u3 c3) d3) g b

end Cert.KernelIdeal.Stage

end
-- ==== Proof.Blocks.lean ====
module

public import proofs.«01_k».proof.Proof.Stages

@[expose] public section

set_option maxRecDepth 65536

noncomputable section

namespace Cert.KernelIdeal.Stage

open Cert.KernelIdeal Cert.KernelIdeal.Gen Idealize.ShloMosaic Idealize.SL.Sem

variable {F : FTy → Type} [FloatOps F]

/-- The values stored into rows 0 to 255 of the second call's block. -/
def part0 (x0 : Vec F S1x1024x512 .f32) (x1 : Vec F S1x1024x512 .bf16) (x2 : Vec F S1x1024x1024 .f32) (x3 : Vec F S1x512 .f32) (x4 : Vec F S1x512 .f32) (x5 : Vec F S1x512 .f32) (x6 : Vec F S1024x1024 .bf16) (x7 : Vec F S1x1024 .f32) (x8 : Vec F S1x1024 .f32) (x9 : Vec F S1024x1024 .bf16) (x10 : Vec F S1x256x1024 .bf16) (x11 : Vec F S1x256x1024 .bf16) (x12 : Vec F S1024x1024 .bf16) (x13 : Vec F S1x1024 .f32) (x14 : Vec F S1x1024 .f32) : FVec F S1x256x1024 .f32 :=
  block (View.ld x0 r1_0) (View.ld x1 r1_0) (View.ld x2 r1_11) (View.ld x3 r1_1) (View.ld x4 r1_1)
    (View.ld x5 r1_2) (View.ld x5 r1_3) (View.ld x5 r1_4) (View.ld x5 r1_5) (View.ld x6 r1_9) (View.ld x6 r1_10) (View.ld x7 r1_12) (View.ld x8 r1_12)
    (View.ld x9 r1_16) (View.ld x10 r1_17) (View.ld x10 r1_18) (View.ld x10 r1_19) (View.ld x10 r1_20)
    (View.ld x11 r1_17) (View.ld x11 r1_18) (View.ld x11 r1_19) (View.ld x11 r1_20) (View.ld x12 r1_16) (View.ld x13 r1_12) (View.ld x14 r1_12)

/-- The values stored into rows 256 to 511 of the second call's block. -/
def part1 (x0 : Vec F S1x1024x512 .f32) (x1 : Vec F S1x1024x512 .bf16) (x2 : Vec F S1x1024x1024 .f32) (x3 : Vec F S1x512 .f32) (x4 : Vec F S1x512 .f32) (x5 : Vec F S1x512 .f32) (x6 : Vec F S1024x1024 .bf16) (x7 : Vec F S1x1024 .f32) (x8 : Vec F S1x1024 .f32) (x9 : Vec F S1024x1024 .bf16) (x10 : Vec F S1x256x1024 .bf16) (x11 : Vec F S1x256x1024 .bf16) (x12 : Vec F S1024x1024 .bf16) (x13 : Vec F S1x1024 .f32) (x14 : Vec F S1x1024 .f32) : FVec F S1x256x1024 .f32 :=
  block (View.ld x0 r1_6) (View.ld x1 r1_6) (View.ld x2 r1_13) (View.ld x3 r1_1) (View.ld x4 r1_1)
    (View.ld x5 r1_2) (View.ld x5 r1_3) (View.ld x5 r1_4) (View.ld x5 r1_5) (View.ld x6 r1_9) (View.ld x6 r1_10) (View.ld x7 r1_12) (View.ld x8 r1_12)
    (View.ld x9 r1_16) (View.ld x10 r1_17) (View.ld x10 r1_18) (View.ld x10 r1_19) (View.ld x10 r1_20)
    (View.ld x11 r1_17) (View.ld x11 r1_18) (View.ld x11 r1_19) (View.ld x11 r1_20) (View.ld x12 r1_16) (View.ld x13 r1_12) (View.ld x14 r1_12)

/-- The values stored into rows 512 to 767 of the second call's block. -/
def part2 (x0 : Vec F S1x1024x512 .f32) (x1 : Vec F S1x1024x512 .bf16) (x2 : Vec F S1x1024x1024 .f32) (x3 : Vec F S1x512 .f32) (x4 : Vec F S1x512 .f32) (x5 : Vec F S1x512 .f32) (x6 : Vec F S1024x1024 .bf16) (x7 : Vec F S1x1024 .f32) (x8 : Vec F S1x1024 .f32) (x9 : Vec F S1024x1024 .bf16) (x10 : Vec F S1x256x1024 .bf16) (x11 : Vec F S1x256x1024 .bf16) (x12 : Vec F S1024x1024 .bf16) (x13 : Vec F S1x1024 .f32) (x14 : Vec F S1x1024 .f32) : FVec F S1x256x1024 .f32 :=
  block (View.ld x0 r1_7) (View.ld x1 r1_7) (View.ld x2 r1_14) (View.ld x3 r1_1) (View.ld x4 r1_1)
    (View.ld x5 r1_2) (View.ld x5 r1_3) (View.ld x5 r1_4) (View.ld x5 r1_5) (View.ld x6 r1_9) (View.ld x6 r1_10) (View.ld x7 r1_12) (View.ld x8 r1_12)
    (View.ld x9 r1_16) (View.ld x10 r1_17) (View.ld x10 r1_18) (View.ld x10 r1_19) (View.ld x10 r1_20)
    (View.ld x11 r1_17) (View.ld x11 r1_18) (View.ld x11 r1_19) (View.ld x11 r1_20) (View.ld x12 r1_16) (View.ld x13 r1_12) (View.ld x14 r1_12)

/-- The values stored into rows 768 to 1023 of the second call's block. -/
def part3 (x0 : Vec F S1x1024x512 .f32) (x1 : Vec F S1x1024x512 .bf16) (x2 : Vec F S1x1024x1024 .f32) (x3 : Vec F S1x512 .f32) (x4 : Vec F S1x512 .f32) (x5 : Vec F S1x512 .f32) (x6 : Vec F S1024x1024 .bf16) (x7 : Vec F S1x1024 .f32) (x8 : Vec F S1x1024 .f32) (x9 : Vec F S1024x1024 .bf16) (x10 : Vec F S1x256x1024 .bf16) (x11 : Vec F S1x256x1024 .bf16) (x12 : Vec F S1024x1024 .bf16) (x13 : Vec F S1x1024 .f32) (x14 : Vec F S1x1024 .f32) : FVec F S1x256x1024 .f32 :=
  block (View.ld x0 r1_8) (View.ld x1 r1_8) (View.ld x2 r1_15) (View.ld x3 r1_1) (View.ld x4 r1_1)
    (View.ld x5 r1_2) (View.ld x5 r1_3) (View.ld x5 r1_4) (View.ld x5 r1_5) (View.ld x6 r1_9) (View.ld x6 r1_10) (View.ld x7 r1_12) (View.ld x8 r1_12)
    (View.ld x9 r1_16) (View.ld x10 r1_17) (View.ld x10 r1_18) (View.ld x10 r1_19) (View.ld x10 r1_20)
    (View.ld x11 r1_17) (View.ld x11 r1_18) (View.ld x11 r1_19) (View.ld x11 r1_20) (View.ld x12 r1_16) (View.ld x13 r1_12) (View.ld x14 r1_12)

/-- What the second call's body leaves in its block: the four parts. -/
theorem out1_eq (x0 : Vec F S1x1024x512 .f32) (x1 : Vec F S1x1024x512 .bf16) (x2 : Vec F S1x1024x1024 .f32) (x3 : Vec F S1x512 .f32) (x4 : Vec F S1x512 .f32) (x5 : Vec F S1x512 .f32) (x6 : Vec F S1024x1024 .bf16) (x7 : Vec F S1x1024 .f32) (x8 : Vec F S1x1024 .f32) (x9 : Vec F S1024x1024 .bf16) (x10 : Vec F S1x256x1024 .bf16) (x11 : Vec F S1x256x1024 .bf16) (x12 : Vec F S1024x1024 .bf16) (x13 : Vec F S1x1024 .f32) (x14 : Vec F S1x1024 .f32) :
    out1_15 x0 x1 x2 x3 x4 x5 x6 x7 x8 x9 x10 x11 x12 x13 x14 = View.canon [⟨r1_15, part3 x0 x1 x2 x3 x4 x5 x6 x7 x8 x9 x10 x11 x12 x13 x14⟩, ⟨r1_14, part2 x0 x1 x2 x3 x4 x5 x6 x7 x8 x9 x10 x11 x12 x13 x14⟩, ⟨r1_13, part1 x0 x1 x2 x3 x4 x5 x6 x7 x8 x9 x10 x11 x12 x13 x14⟩, ⟨r1_11, part0 x0 x1 x2 x3 x4 x5 x6 x7 x8 x9 x10 x11 x12 x13 x14⟩] := by
  unfold_out out1_15
  rfl

/-- The values stored into rows 0 to 255 of the third call's block. -/
def mlpPart0 (x0 : Vec F S1024x1024 .f32) (x1 : Vec F S1024x4096 .bf16) (x2 : Vec F S1x4096 .f32) (x3 : Vec F S4096x1024 .bf16) (x4 : Vec F S1x1024 .f32) (x5 : Vec F S1x1024 .f32) (x6 : Vec F S1x1024 .f32) : FVec F S256x1024 .f32 :=
  mlpBlock (View.ld x0 r2_0) (View.ld x4 r2_4) (View.ld x1 r2_5) (View.ld x1 r2_8) (View.ld x1 r2_11) (View.ld x1 r2_14) (View.ld x2 r2_6) (View.ld x2 r2_9) (View.ld x2 r2_12) (View.ld x2 r2_15) (View.ld x3 r2_7) (View.ld x3 r2_10) (View.ld x3 r2_13) (View.ld x3 r2_16)
    (View.ld x5 r2_4) (View.ld x6 r2_4)

/-- The values stored into rows 256 to 511 of the third call's block. -/
def mlpPart1 (x0 : Vec F S1024x1024 .f32) (x1 : Vec F S1024x4096 .bf16) (x2 : Vec F S1x4096 .f32) (x3 : Vec F S4096x1024 .bf16) (x4 : Vec F S1x1024 .f32) (x5 : Vec F S1x1024 .f32) (x6 : Vec F S1x1024 .f32) : FVec F S256x1024 .f32 :=
  mlpBlock (View.ld x0 r2_1) (View.ld x4 r2_4) (View.ld x1 r2_5) (View.ld x1 r2_8) (View.ld x1 r2_11) (View.ld x1 r2_14) (View.ld x2 r2_6) (View.ld x2 r2_9) (View.ld x2 r2_12) (View.ld x2 r2_15) (View.ld x3 r2_7) (View.ld x3 r2_10) (View.ld x3 r2_13) (View.ld x3 r2_16)
    (View.ld x5 r2_4) (View.ld x6 r2_4)

/-- The values stored into rows 512 to 767 of the third call's block. -/
def mlpPart2 (x0 : Vec F S1024x1024 .f32) (x1 : Vec F S1024x4096 .bf16) (x2 : Vec F S1x4096 .f32) (x3 : Vec F S4096x1024 .bf16) (x4 : Vec F S1x1024 .f32) (x5 : Vec F S1x1024 .f32) (x6 : Vec F S1x1024 .f32) : FVec F S256x1024 .f32 :=
  mlpBlock (View.ld x0 r2_2) (View.ld x4 r2_4) (View.ld x1 r2_5) (View.ld x1 r2_8) (View.ld x1 r2_11) (View.ld x1 r2_14) (View.ld x2 r2_6) (View.ld x2 r2_9) (View.ld x2 r2_12) (View.ld x2 r2_15) (View.ld x3 r2_7) (View.ld x3 r2_10) (View.ld x3 r2_13) (View.ld x3 r2_16)
    (View.ld x5 r2_4) (View.ld x6 r2_4)

/-- The values stored into rows 768 to 1023 of the third call's block. -/
def mlpPart3 (x0 : Vec F S1024x1024 .f32) (x1 : Vec F S1024x4096 .bf16) (x2 : Vec F S1x4096 .f32) (x3 : Vec F S4096x1024 .bf16) (x4 : Vec F S1x1024 .f32) (x5 : Vec F S1x1024 .f32) (x6 : Vec F S1x1024 .f32) : FVec F S256x1024 .f32 :=
  mlpBlock (View.ld x0 r2_3) (View.ld x4 r2_4) (View.ld x1 r2_5) (View.ld x1 r2_8) (View.ld x1 r2_11) (View.ld x1 r2_14) (View.ld x2 r2_6) (View.ld x2 r2_9) (View.ld x2 r2_12) (View.ld x2 r2_15) (View.ld x3 r2_7) (View.ld x3 r2_10) (View.ld x3 r2_13) (View.ld x3 r2_16)
    (View.ld x5 r2_4) (View.ld x6 r2_4)

/-- What the third call's body leaves in its block: the four parts. -/
theorem out2_eq (x0 : Vec F S1024x1024 .f32) (x1 : Vec F S1024x4096 .bf16) (x2 : Vec F S1x4096 .f32) (x3 : Vec F S4096x1024 .bf16) (x4 : Vec F S1x1024 .f32) (x5 : Vec F S1x1024 .f32) (x6 : Vec F S1x1024 .f32) :
    out2_7 x0 x1 x2 x3 x4 x5 x6 = View.canon [⟨r2_3, mlpPart3 x0 x1 x2 x3 x4 x5 x6⟩, ⟨r2_2, mlpPart2 x0 x1 x2 x3 x4 x5 x6⟩, ⟨r2_1, mlpPart1 x0 x1 x2 x3 x4 x5 x6⟩, ⟨r2_0, mlpPart0 x0 x1 x2 x3 x4 x5 x6⟩] := by
  unfold_out out2_7
  rfl

end Cert.KernelIdeal.Stage

end
-- ==== Proof.Rows.lean ====
module

public import Idealize.ShloMosaic.Lib.Pointwise

@[expose] public section

noncomputable section

/-! The layer's arithmetic on one row, over the extended reals: what both programs' arrays hold is stated in these. -/

namespace Cert.Row

open Idealize.ShloMosaic

/-- A row's mean: its sum divided by the number `N` of its entries. -/
def mean {n : ℕ} (N : EReal) (x : Fin n → EReal) : EReal := Ideal.div (∑ k, x k) N

/-- The layer norm of a row. -/
def ln {n : ℕ} (N : EReal) (x g b : Fin n → EReal) (c : Fin n) : EReal :=
  (x c - mean N x) * Ideal.rsqrt (mean N (fun k => (x k - mean N x) * (x k - mean N x)) + Ideal.ofBits .f32 0x3727C5AC#32) * g c + b c

/-- `silu` of one number. -/
def silu (z : EReal) : EReal := z * Ideal.div 1 (1 + Ideal.exp (-z))

/-- The mean square of the 64 entries of the group that holds entry `c`. -/
def groupMean (z : Fin 512 → EReal) (c : Fin 512) : EReal :=
  Ideal.div (∑ k : Fin 64, z ⟨64 * (c.val / 64) + k.val, by omega⟩ * z ⟨64 * (c.val / 64) + k.val, by omega⟩) (Ideal.ofBits .f32 0x42800000#32)

/-- The root-mean-square norm of each group of 64 entries. -/
def groupRms (z g : Fin 512 → EReal) (c : Fin 512) : EReal :=
  z c * Ideal.rsqrt (groupMean z c + Ideal.ofBits .f32 0x3727C5AC#32) * g c

/-- A row times a matrix. -/
def dot {n k : ℕ} (x : Fin n → EReal) (w : Fin n → Fin k → EReal) (c : Fin k) : EReal := ∑ j, x j * w j c

/-- The output projection: the attention's half of the row and the convolution's half. -/
def outProj (a y : Fin 512 → EReal) (w : Fin 1024 → Fin 1024 → EReal) (c : Fin 1024) : EReal :=
  (∑ k : Fin 512, a k * w ⟨k.val, by omega⟩ c) + ∑ k : Fin 512, y k * w ⟨512 + k.val, by omega⟩ c

/-- The scaled residual sum. -/
def resid (h x : Fin 1024 → EReal) (c : Fin 1024) : EReal := Ideal.ofBits .f32 0x3F9837F0#32 * h c + x c

/-- The mixer's output row: the convolution's row through its norm, `silu` and group norm, joined with the attention's
    row, projected, added to the scaled residual and normed. -/
def mix (conv cg cb og attn : Fin 512 → EReal) (h : Fin 1024 → EReal) (w : Fin 1024 → Fin 1024 → EReal) (g b : Fin 1024 → EReal) :
    Fin 1024 → EReal :=
  ln (Ideal.ofBits .f32 0x44800000#32)
    (resid h (outProj attn (groupRms (fun c => silu (ln (Ideal.ofBits .f32 0x44000000#32) conv cg cb c)) og) w)) g b

/-- The greatest of 256 scores. -/
def top (s : Fin 256 → EReal) : EReal := Finset.fold max (Ideal.ofBits .f32 0xFF800000#32) s Finset.univ

/-- The softmax-weighted sum of `v`, divided once by the sum of the weights. -/
def wavg (s v : Fin 256 → EReal) : EReal :=
  Ideal.div (∑ t, Ideal.exp (s t - top s) * v t) (∑ t, Ideal.exp (s t - top s))

/-- The column at place `d` in the head that holds column `c`. -/
def headCol (c : Fin 1024) (d : Fin 256) : Fin 1024 := ⟨256 * (c.val / 256) + d.val, by omega⟩

/-- The attention to the memory, from the scaled queries. -/
def memAttn (q : Fin 1024 → EReal) (k v : Fin 256 → Fin 1024 → EReal) (wo : Fin 1024 → Fin 1024 → EReal) (c : Fin 1024) : EReal :=
  ∑ x : Fin 1024, wavg (fun t => ∑ d : Fin 256, q (headCol x d) * k t (headCol x d)) (fun t => v t x) * wo x c

/-- The row after the memory attention's residual layer norm. -/
def mem (h : Fin 1024 → EReal) (wq : Fin 1024 → Fin 1024 → EReal) (k v : Fin 256 → Fin 1024 → EReal)
    (wo : Fin 1024 → Fin 1024 → EReal) (g b : Fin 1024 → EReal) : Fin 1024 → EReal :=
  ln (Ideal.ofBits .f32 0x44800000#32)
    (resid h (memAttn (fun c => dot h wq c * Ideal.ofBits .f32 0x3D800000#32) k v wo)) g b

/-- A hidden unit of the feed-forward layer. -/
def hid (h : Fin 1024 → EReal) (w : Fin 1024 → Fin 4096 → EReal) (b : Fin 4096 → EReal) (j : Fin 4096) : EReal :=
  max (dot h w j + b j) 0 * max (dot h w j + b j) 0

/-- The row after the feed-forward layer's residual layer norm. -/
def mlp (h : Fin 1024 → EReal) (w1 : Fin 1024 → Fin 4096 → EReal) (b1 : Fin 4096 → EReal) (w2 : Fin 4096 → Fin 1024 → EReal)
    (b2 g b : Fin 1024 → EReal) : Fin 1024 → EReal :=
  ln (Ideal.ofBits .f32 0x44800000#32) (resid h (fun c => dot (hid h w1 b1) w2 c + b2 c)) g b

end Cert.Row

end
-- ==== Proof.Consts.lean ====
module

public import Idealize.ShloMosaic.PureOps.Ideal

@[expose] public section

noncomputable section

/-! The float constants the programs spell, as the extended reals their patterns denote. -/

namespace Cert.Consts

open Idealize.ShloMosaic

theorem c64 : Ideal.ofBits .f32 0x42800000#32 = ((64 : ℝ) : EReal) := by
  simp [Ideal.ofBits, Ideal.ieee, -EReal.coe_mul]; norm_num

theorem inv64 : Ideal.ofBits .f32 0x3C800000#32 = ((1 / 64 : ℝ) : EReal) := by
  simp [Ideal.ofBits, Ideal.ieee, -EReal.coe_mul]; norm_num

theorem c512 : Ideal.ofBits .f32 0x44000000#32 = ((512 : ℝ) : EReal) := by
  simp [Ideal.ofBits, Ideal.ieee, -EReal.coe_mul]; norm_num

theorem c1024 : Ideal.ofBits .f32 0x44800000#32 = ((1024 : ℝ) : EReal) := by
  simp [Ideal.ofBits, Ideal.ieee, -EReal.coe_mul]; norm_num

theorem sixteenth : Ideal.ofBits .f32 0x3D800000#32 = ((1 / 16 : ℝ) : EReal) := by
  simp [Ideal.ofBits, Ideal.ieee, -EReal.coe_mul]; norm_num

/-- The norms' small constant is a positive real. -/
theorem eps : ∃ e : ℝ, 0 < e ∧ Ideal.ofBits .f32 0x3727C5AC#32 = (e : EReal) := by
  refine ⟨2748779 / 274877906944, by norm_num, ?_⟩
  simp [Ideal.ofBits, Ideal.ieee, -EReal.coe_mul]; norm_num

/-- The residual scale is a real. -/
theorem alpha : ∃ a : ℝ, Ideal.ofBits .f32 0x3F9837F0#32 = (a : EReal) := by
  refine ⟨623487 / 524288, ?_⟩
  simp [Ideal.ofBits, Ideal.ieee, -EReal.coe_mul]; norm_num

theorem negInf : Ideal.ofBits .f32 0xFF800000#32 = ⊥ := by
  simp [Ideal.ofBits, Ideal.ieee]

theorem posInf : Ideal.ofBits .f32 0x7F800000#32 = ⊤ := by
  simp [Ideal.ofBits, Ideal.ieee]

end Cert.Consts

end
-- ==== Proof.Read.lean ====
module

public import proofs.«01_k».proof.Proof.Blocks
public import proofs.«01_k».proof.Proof.Rows
public import proofs.«01_k».proof.Proof.Consts

@[expose] public section

set_option maxRecDepth 16384

noncomputable section

/-! What the kernel's blocks hold, read at an index: each of a block's 256 rows is the row arithmetic of `Rows`. -/

namespace Cert.KernelIdeal.Stage

open Cert.KernelIdeal Cert.KernelIdeal.Gen Idealize.ShloMosaic Idealize.SL.Sem

theorem ln512_apply (x : FVec Ideal S256x512 .f32) (g b : Vec Ideal S1x512 .f32) (r : Fin 256) (c : Fin 512) :
    ln512 x g b (ix2 r c) = Row.ln (Ideal.ofBits .f32 0x44000000#32) (fun k => x (ix2 r k)) (fun k => g (ix2 0 k)) (fun k => b (ix2 0 k)) c := by
  pointwise [ln512, Row.ln, Row.mean]

theorem ln1024_apply (x : FVec Ideal S256x1024 .f32) (g b : Vec Ideal S1x1024 .f32) (r : Fin 256) (c : Fin 1024) :
    ln1024 x g b (ix2 r c) = Row.ln (Ideal.ofBits .f32 0x44800000#32) (fun k => x (ix2 r k)) (fun k => g (ix2 0 k)) (fun k => b (ix2 0 k)) c := by
  pointwise [ln1024, Row.ln, Row.mean]

theorem act_apply (x : Vec Ideal S1x256x512 .f32) (g b : Vec Ideal S1x512 .f32) (r : Fin 256) (c : Fin 512) :
    act x g b (ix2 r c) = Row.silu (Row.ln (Ideal.ofBits .f32 0x44000000#32) (fun k => x (ix3 0 r k)) (fun k => g (ix2 0 k)) (fun k => b (ix2 0 k)) c) := by
  pointwise [act, ln512_apply, Row.silu, Ideal.logistic]

/-- The lane comparison of the group sums: whether the lane lies in the lower half. -/
theorem low_lane (k : Fin 128) : IntOp.cmpi CmpIPredicate.slt (BitVec.ofNat 32 k.val) 64#32 = BitVec.ofBool (decide (k.val < 64)) := by
  revert k; decide

/-- A sum over 128 lanes as the sums over its halves. -/
theorem sum_halves (f : Fin 128 → EReal) : ∑ k, f k = (∑ k : Fin 64, f ⟨k.val, by omega⟩) + ∑ k : Fin 64, f ⟨64 + k.val, by omega⟩ :=
  Fin.sum_univ_two_halves 64 64 rfl f

theorem grp_apply (x : FVec Ideal S256x128 .f32) (g : Vec Ideal S1x128 .f32) (r : Fin 256) (c : Fin 128) :
    grp x g (ix2 r c) = x (ix2 r c) * Ideal.rsqrt (Ideal.div (∑ k : Fin 64, x (ix2 r ⟨64 * (c.val / 64) + k.val, by omega⟩) * x (ix2 r ⟨64 * (c.val / 64) + k.val, by omega⟩))
      (Ideal.ofBits .f32 0x42800000#32) + Ideal.ofBits .f32 0x3727C5AC#32) * g (ix2 0 c) := by
  have h64 : ∀ z : EReal, z * Ideal.ofBits .f32 0x3C800000#32 = Ideal.div z (Ideal.ofBits .f32 0x42800000#32) := by
    intro z
    rw [Consts.inv64, Consts.c64, Ideal.div_coe (by norm_num)]
  pointwise [grp]
  simp only [low_lane, Scalar.select_ofBool, sum_halves, h64]
  by_cases h : c.val < 64
  · have e : c.val / 64 = 0 := by omega
    simp [h, e]
  · have e : c.val / 64 = 1 := by omega
    simp [h, e]

theorem resid_apply (h x : FVec Ideal S256x1024 .f32) (r : Fin 256) (c : Fin 1024) :
    resid h x (ix2 r c) = Row.resid (fun k => h (ix2 r k)) (fun k => x (ix2 r k)) c := by
  pointwise [resid, Row.resid]

theorem outProj_apply (a : Vec Ideal S1x256x512 .bf16) (y : FVec Ideal S256x512 .bf16) (wt wb : Vec Ideal S512x1024 .bf16) (r : Fin 256) (c : Fin 1024) :
    outProj a y wt wb (ix2 r c) = (∑ k : Fin 512, a (ix3 0 r k) * wt (ix2 k c)) + ∑ k : Fin 512, y (ix2 r k) * wb (ix2 k c) := by
  pointwise [outProj]

theorem queries_apply (h : FVec Ideal S256x1024 .f32) (wq : Vec Ideal S1024x1024 .bf16) (r : Fin 256) (c : Fin 1024) :
    queries h wq (ix2 r c) = Row.dot (fun k => h (ix2 r k)) (fun k c => wq (ix2 k c)) c * Ideal.ofBits .f32 0x3D800000#32 := by
  pointwise [queries, Row.dot]

theorem scores_apply (q : FVec Ideal S256x256 .bf16) (k : Vec Ideal S1x256x256 .bf16) (r t : Fin 256) :
    scores q k (ix2 r t) = ∑ d : Fin 256, q (ix2 r d) * k (ix3 0 t d) := by
  pointwise [scores]

theorem headOut_apply (s : FVec Ideal S256x256 .f32) (v : Vec Ideal S1x256x256 .bf16) (r d : Fin 256) :
    headOut s v (ix2 r d) = Row.wavg (fun t => s (ix2 r t)) (fun t => v (ix3 0 t d)) := by
  pointwise [headOut, Row.wavg, Row.top]

theorem hid_apply (x : FVec Ideal S256x1024 .bf16) (w : Vec Ideal S1024x1024 .bf16) (b : Vec Ideal S1x1024 .f32) (r : Fin 256) (c : Fin 1024) :
    hid x w b (ix2 r c) = max (∑ k : Fin 1024, x (ix2 r k) * w (ix2 k c) + b (ix2 0 c)) 0 * max (∑ k : Fin 1024, x (ix2 r k) * w (ix2 k c) + b (ix2 0 c)) 0 := by
  pointwise [hid]

theorem addHid_apply (acc : FVec Ideal S256x1024 .f32) (y : FVec Ideal S256x1024 .bf16) (w : Vec Ideal S1024x1024 .bf16) (r : Fin 256) (c : Fin 1024) :
    addHid acc y w (ix2 r c) = acc (ix2 r c) + ∑ k : Fin 1024, y (ix2 r k) * w (ix2 k c) := by
  pointwise [addHid]

/-- The joined convolution slices are the row's group norm; the gain's four slices given as one row. -/
theorem convOut_apply (y : FVec Ideal S256x512 .f32) (g0 g1 g2 g3 : Vec Ideal S1x128 .f32) (og : Fin 512 → EReal)
    (h0 : ∀ k : Fin 128, g0 (ix2 0 k) = og ⟨k.val, by omega⟩) (h1 : ∀ k : Fin 128, g1 (ix2 0 k) = og ⟨128 + k.val, by omega⟩)
    (h2 : ∀ k : Fin 128, g2 (ix2 0 k) = og ⟨256 + k.val, by omega⟩) (h3 : ∀ k : Fin 128, g3 (ix2 0 k) = og ⟨384 + k.val, by omega⟩)
    (r : Fin 256) (c : Fin 512) :
    convOut y g0 g1 g2 g3 (ix2 r c) = Row.groupRms (fun k => y (ix2 r k)) og c := by
  have key : ∀ (z og : Fin 512 → EReal) (o : ℕ) (j : Fin 128) (ho : o + j.val = c.val) (hd : 64 ∣ o),
      z ⟨o + j.val, by omega⟩ * Ideal.rsqrt (Ideal.div (∑ k : Fin 64, z ⟨o + (64 * (j.val / 64) + k.val), by omega⟩ * z ⟨o + (64 * (j.val / 64) + k.val), by omega⟩)
        (Ideal.ofBits .f32 0x42800000#32) + Ideal.ofBits .f32 0x3727C5AC#32) * og ⟨o + j.val, by omega⟩ = Row.groupRms z og c := by
    intro z og o j ho hd
    have e : ∀ k : Fin 64, (⟨o + (64 * (j.val / 64) + k.val), by omega⟩ : Fin 512) = ⟨64 * (c.val / 64) + k.val, by omega⟩ := by
      intro k; apply Fin.ext; simp only; omega
    have e' : (⟨o + j.val, by omega⟩ : Fin 512) = c := Fin.ext ho
    simp only [Row.groupRms, Row.groupMean, e, e']
  pointwise [convOut]
  split
  · next h =>
    rw [grp_apply, h0]; pointwise
    simpa using key (fun k => y (ix2 r k)) og 0 ⟨c.val, h⟩ (by simp) (by norm_num)
  · split
    · next h' h =>
      rw [grp_apply, h1]; pointwise
      exact key (fun k => y (ix2 r k)) og 128 ⟨c.val - 128, h⟩ (by simp only; omega) (by norm_num)
    · split
      · next h'' h' h =>
        rw [grp_apply, h2]; pointwise
        exact key (fun k => y (ix2 r k)) og 256 ⟨c.val - 128 - 128, h⟩ (by simp only; omega) (by norm_num)
      · next h'' h' h =>
        rw [grp_apply, h3]; pointwise
        exact key (fun k => y (ix2 r k)) og 384 ⟨c.val - 128 - 128 - 128, by omega⟩ (by simp only; omega) (by norm_num)

/-- The memory attention of a row; the keys' and values' four column slices given as one matrix each. -/
theorem memAttn_apply (q : FVec Ideal S256x1024 .bf16) (k0 k1 k2 k3 v0 v1 v2 v3 : Vec Ideal S1x256x256 .bf16) (wo : Vec Ideal S1024x1024 .bf16)
    (K V : Fin 256 → Fin 1024 → EReal)
    (hk0 : ∀ t d : Fin 256, k0 (ix3 0 t d) = K t ⟨d.val, by omega⟩) (hk1 : ∀ t d : Fin 256, k1 (ix3 0 t d) = K t ⟨256 + d.val, by omega⟩)
    (hk2 : ∀ t d : Fin 256, k2 (ix3 0 t d) = K t ⟨512 + d.val, by omega⟩) (hk3 : ∀ t d : Fin 256, k3 (ix3 0 t d) = K t ⟨768 + d.val, by omega⟩)
    (hv0 : ∀ t d : Fin 256, v0 (ix3 0 t d) = V t ⟨d.val, by omega⟩) (hv1 : ∀ t d : Fin 256, v1 (ix3 0 t d) = V t ⟨256 + d.val, by omega⟩)
    (hv2 : ∀ t d : Fin 256, v2 (ix3 0 t d) = V t ⟨512 + d.val, by omega⟩) (hv3 : ∀ t d : Fin 256, v3 (ix3 0 t d) = V t ⟨768 + d.val, by omega⟩)
    (r : Fin 256) (c : Fin 1024) :
    memAttn q k0 k1 k2 k3 v0 v1 v2 v3 wo (ix2 r c)
      = Row.memAttn (fun k => q (ix2 r k)) K V (fun k c => wo (ix2 k c)) c := by
  have key : ∀ (Q : Fin 1024 → EReal) (x : Fin 1024) (o : ℕ) (j : Fin 256) (ho : o + j.val = x.val) (hd : 256 ∣ o),
      Row.wavg (fun t => ∑ d : Fin 256, Q ⟨o + d.val, by omega⟩ * K t ⟨o + d.val, by omega⟩) (fun t => V t ⟨o + j.val, by omega⟩)
        = Row.wavg (fun t => ∑ d : Fin 256, Q (Row.headCol x d) * K t (Row.headCol x d)) (fun t => V t x) := by
    intro Q x o j ho hd
    have e : ∀ d : Fin 256, (⟨o + d.val, by omega⟩ : Fin 1024) = Row.headCol x d := by
      intro d; apply Fin.ext; simp only [Row.headCol]; omega
    have e' : (⟨o + j.val, by omega⟩ : Fin 1024) = x := Fin.ext ho
    rw [e']; simp only [e]
  pointwise [memAttn]
  unfold Row.memAttn
  refine Finset.sum_congr rfl fun x _ => congrArg (· * wo (ix2 x c)) ?_
  split
  · next h =>
    rw [headOut_apply]; simp only [scores_apply, hk0, hv0]; pointwise
    simpa using key (fun k => q (ix2 r k)) x 0 ⟨x.val, h⟩ (by simp) (by norm_num)
  · split
    · next h' h =>
      rw [headOut_apply]; simp only [scores_apply, hk1, hv1]; pointwise
      exact key (fun k => q (ix2 r k)) x 256 ⟨x.val - 256, h⟩ (by simp only; omega) (by norm_num)
    · split
      · next h'' h' h =>
        rw [headOut_apply]; simp only [scores_apply, hk2, hv2]; pointwise
        exact key (fun k => q (ix2 r k)) x 512 ⟨x.val - 256 - 256, h⟩ (by simp only; omega) (by norm_num)
      · next h'' h' h =>
        rw [headOut_apply]; simp only [scores_apply, hk3, hv3]; pointwise
        exact key (fun k => q (ix2 r k)) x 768 ⟨x.val - 256 - 256 - 256, by omega⟩ (by simp only; omega) (by norm_num)

end Cert.KernelIdeal.Stage

end
-- ==== Proof.Parts.lean ====
module

public import proofs.«01_k».proof.Proof.Read
public import Idealize.ShloMosaic.Lib.Pipeline.ValueKit

@[expose] public section

set_option maxRecDepth 16384

noncomputable section

/-! The blocks the second and third calls store, row by row. -/

namespace Cert.KernelIdeal.Stage

open Cert.KernelIdeal Cert.KernelIdeal.Gen Idealize.ShloMosaic Idealize.SL.Sem

theorem block_apply (c : Vec Ideal S1x256x512 .f32) (a : Vec Ideal S1x256x512 .bf16) (h : Vec Ideal S1x256x1024 .f32)
    (cg cb : Vec Ideal S1x512 .f32) (g0 g1 g2 g3 : Vec Ideal S1x128 .f32) (wt wb : Vec Ideal S512x1024 .bf16) (lg lb : Vec Ideal S1x1024 .f32)
    (wq : Vec Ideal S1024x1024 .bf16) (k0 k1 k2 k3 v0 v1 v2 v3 : Vec Ideal S1x256x256 .bf16) (wo : Vec Ideal S1024x1024 .bf16)
    (mg mb : Vec Ideal S1x1024 .f32) (og : Fin 512 → EReal) (W : Fin 1024 → Fin 1024 → EReal) (K V : Fin 256 → Fin 1024 → EReal)
    (h0 : ∀ k : Fin 128, g0 (ix2 0 k) = og ⟨k.val, by omega⟩) (h1 : ∀ k : Fin 128, g1 (ix2 0 k) = og ⟨128 + k.val, by omega⟩)
    (h2 : ∀ k : Fin 128, g2 (ix2 0 k) = og ⟨256 + k.val, by omega⟩) (h3 : ∀ k : Fin 128, g3 (ix2 0 k) = og ⟨384 + k.val, by omega⟩)
    (ht : ∀ (k : Fin 512) (j : Fin 1024), wt (ix2 k j) = W ⟨k.val, by omega⟩ j) (hb : ∀ (k : Fin 512) (j : Fin 1024), wb (ix2 k j) = W ⟨512 + k.val, by omega⟩ j)
    (hk0 : ∀ t d : Fin 256, k0 (ix3 0 t d) = K t ⟨d.val, by omega⟩) (hk1 : ∀ t d : Fin 256, k1 (ix3 0 t d) = K t ⟨256 + d.val, by omega⟩)
    (hk2 : ∀ t d : Fin 256, k2 (ix3 0 t d) = K t ⟨512 + d.val, by omega⟩) (hk3 : ∀ t d : Fin 256, k3 (ix3 0 t d) = K t ⟨768 + d.val, by omega⟩)
    (hv0 : ∀ t d : Fin 256, v0 (ix3 0 t d) = V t ⟨d.val, by omega⟩) (hv1 : ∀ t d : Fin 256, v1 (ix3 0 t d) = V t ⟨256 + d.val, by omega⟩)
    (hv2 : ∀ t d : Fin 256, v2 (ix3 0 t d) = V t ⟨512 + d.val, by omega⟩) (hv3 : ∀ t d : Fin 256, v3 (ix3 0 t d) = V t ⟨768 + d.val, by omega⟩)
    (r : Fin 256) (j : Fin 1024) :
    block c a h cg cb g0 g1 g2 g3 wt wb lg lb wq k0 k1 k2 k3 v0 v1 v2 v3 wo mg mb (ix3 0 r j)
      = Row.mem (Row.mix (fun k => c (ix3 0 r k)) (fun k => cg (ix2 0 k)) (fun k => cb (ix2 0 k)) og (fun k => a (ix3 0 r k))
          (fun k => h (ix3 0 r k)) W (fun k => lg (ix2 0 k)) (fun k => lb (ix2 0 k)))
        (fun k c => wq (ix2 k c)) K V (fun k c => wo (ix2 k c)) (fun k => mg (ix2 0 k)) (fun k => mb (ix2 0 k)) j := by
  have hmix : ∀ k : Fin 1024, mixed h (outProj a (convOut (act c cg cb) g0 g1 g2 g3) wt wb) lg lb (ix2 r k)
      = Row.mix (fun k => c (ix3 0 r k)) (fun k => cg (ix2 0 k)) (fun k => cb (ix2 0 k)) og (fun k => a (ix3 0 r k))
          (fun k => h (ix3 0 r k)) W (fun k => lg (ix2 0 k)) (fun k => lb (ix2 0 k)) k := by
    intro k
    unfold mixed Row.mix
    rw [ln1024_apply]
    simp only [resid_apply, outProj_apply, convOut_apply _ g0 g1 g2 g3 og h0 h1 h2 h3, act_apply, ht, hb]
    pointwise
    rfl
  unfold block Row.mem
  pointwise
  simp only [ln1024_apply, resid_apply, memAttn_apply _ k0 k1 k2 k3 v0 v1 v2 v3 wo K V hk0 hk1 hk2 hk3 hv0 hv1 hv2 hv3, queries_apply, hmix]

/-- A sum over the 4096 hidden units, chunk by chunk. -/
theorem sum_chunks (f : Fin 4096 → EReal) :
    ∑ k, f k = (∑ k : Fin 1024, f ⟨k.val, by omega⟩) + (∑ k : Fin 1024, f ⟨1024 + k.val, by omega⟩)
      + (∑ k : Fin 1024, f ⟨2048 + k.val, by omega⟩) + ∑ k : Fin 1024, f ⟨3072 + k.val, by omega⟩ := by
  rw [Fin.sum_univ_two_halves 2048 2048 rfl f, Fin.sum_univ_two_halves 1024 1024 rfl, Fin.sum_univ_two_halves 1024 1024 rfl]
  simp only [← add_assoc]

theorem mlpBlock_apply (x0 : Vec Ideal S256x1024 .f32) (b2 : Vec Ideal S1x1024 .f32) (u0 u1 u2 u3 : Vec Ideal S1024x1024 .bf16)
    (c0 c1 c2 c3 : Vec Ideal S1x1024 .f32) (d0 d1 d2 d3 : Vec Ideal S1024x1024 .bf16) (g b : Vec Ideal S1x1024 .f32)
    (W1 : Fin 1024 → Fin 4096 → EReal) (B1 : Fin 4096 → EReal) (W2 : Fin 4096 → Fin 1024 → EReal)
    (hu0 : ∀ k j : Fin 1024, u0 (ix2 k j) = W1 k ⟨j.val, by omega⟩) (hu1 : ∀ k j : Fin 1024, u1 (ix2 k j) = W1 k ⟨1024 + j.val, by omega⟩)
    (hu2 : ∀ k j : Fin 1024, u2 (ix2 k j) = W1 k ⟨2048 + j.val, by omega⟩) (hu3 : ∀ k j : Fin 1024, u3 (ix2 k j) = W1 k ⟨3072 + j.val, by omega⟩)
    (hc0 : ∀ j : Fin 1024, c0 (ix2 0 j) = B1 ⟨j.val, by omega⟩) (hc1 : ∀ j : Fin 1024, c1 (ix2 0 j) = B1 ⟨1024 + j.val, by omega⟩)
    (hc2 : ∀ j : Fin 1024, c2 (ix2 0 j) = B1 ⟨2048 + j.val, by omega⟩) (hc3 : ∀ j : Fin 1024, c3 (ix2 0 j) = B1 ⟨3072 + j.val, by omega⟩)
    (hd0 : ∀ k j : Fin 1024, d0 (ix2 k j) = W2 ⟨k.val, by omega⟩ j) (hd1 : ∀ k j : Fin 1024, d1 (ix2 k j) = W2 ⟨1024 + k.val, by omega⟩ j)
    (hd2 : ∀ k j : Fin 1024, d2 (ix2 k j) = W2 ⟨2048 + k.val, by omega⟩ j) (hd3 : ∀ k j : Fin 1024, d3 (ix2 k j) = W2 ⟨3072 + k.val, by omega⟩ j)
    (r : Fin 256) (j : Fin 1024) :
    mlpBlock x0 b2 u0 u1 u2 u3 c0 c1 c2 c3 d0 d1 d2 d3 g b (ix2 r j)
      = Row.mlp (fun k => x0 (ix2 r k)) W1 B1 W2 (fun k => b2 (ix2 0 k)) (fun k => g (ix2 0 k)) (fun k => b (ix2 0 k)) j := by
  unfold mlpBlock Row.mlp
  rw [ln1024_apply]
  congr 1
  funext k
  simp only [addHid_apply, hid_apply, hu0, hu1, hu2, hu3, hc0, hc1, hc2, hc3, hd0, hd1, hd2, hd3]
  pointwise [Row.resid]
  unfold Row.dot
  rw [sum_chunks]
  simp only [Row.hid, Row.dot]
  ac_rfl

/-- Row `r` of the block the second call stores, from its windows' blocks. -/
def row1 (x0 : Vec Ideal S1x1024x512 .f32) (x1 : Vec Ideal S1x1024x512 .bf16) (x2 : Vec Ideal S1x1024x1024 .f32) (x3 x4 x5 : Vec Ideal S1x512 .f32) (x6 : Vec Ideal S1024x1024 .bf16) (x7 x8 : Vec Ideal S1x1024 .f32) (x9 : Vec Ideal S1024x1024 .bf16) (x10 x11 : Vec Ideal S1x256x1024 .bf16) (x12 : Vec Ideal S1024x1024 .bf16) (x13 x14 : Vec Ideal S1x1024 .f32) (r : Fin 1024) : Fin 1024 → EReal :=
  Row.mem (Row.mix (fun k => x0 (ix3 0 r k)) (fun k => x3 (ix2 0 k)) (fun k => x4 (ix2 0 k)) (fun k => x5 (ix2 0 k)) (fun k => x1 (ix3 0 r k))
      (fun k => x2 (ix3 0 r k)) (fun k c => x6 (ix2 k c)) (fun k => x7 (ix2 0 k)) (fun k => x8 (ix2 0 k)))
    (fun k c => x9 (ix2 k c)) (fun t c => x10 (ix3 0 t c)) (fun t c => x11 (ix3 0 t c)) (fun k c => x12 (ix2 k c))
    (fun k => x13 (ix2 0 k)) (fun k => x14 (ix2 0 k))

theorem part0_apply (x0 : Vec Ideal S1x1024x512 .f32) (x1 : Vec Ideal S1x1024x512 .bf16) (x2 : Vec Ideal S1x1024x1024 .f32) (x3 x4 x5 : Vec Ideal S1x512 .f32) (x6 : Vec Ideal S1024x1024 .bf16) (x7 x8 : Vec Ideal S1x1024 .f32) (x9 : Vec Ideal S1024x1024 .bf16) (x10 x11 : Vec Ideal S1x256x1024 .bf16) (x12 : Vec Ideal S1024x1024 .bf16) (x13 x14 : Vec Ideal S1x1024 .f32) (r : Fin 256) (j : Fin 1024) :
    part0 x0 x1 x2 x3 x4 x5 x6 x7 x8 x9 x10 x11 x12 x13 x14 (ix3 0 r j) = row1 x0 x1 x2 x3 x4 x5 x6 x7 x8 x9 x10 x11 x12 x13 x14 ⟨0 + r.val, by omega⟩ j := by
  unfold part0
  rw [block_apply (og := fun k => x5 (ix2 0 k)) (W := fun k c => x6 (ix2 k c)) (K := fun t c => x10 (ix3 0 t c)) (V := fun t c => x11 (ix3 0 t c))]
  · unfold row1; pointwise
  all_goals (intros; pointwise)

theorem part1_apply (x0 : Vec Ideal S1x1024x512 .f32) (x1 : Vec Ideal S1x1024x512 .bf16) (x2 : Vec Ideal S1x1024x1024 .f32) (x3 x4 x5 : Vec Ideal S1x512 .f32) (x6 : Vec Ideal S1024x1024 .bf16) (x7 x8 : Vec Ideal S1x1024 .f32) (x9 : Vec Ideal S1024x1024 .bf16) (x10 x11 : Vec Ideal S1x256x1024 .bf16) (x12 : Vec Ideal S1024x1024 .bf16) (x13 x14 : Vec Ideal S1x1024 .f32) (r : Fin 256) (j : Fin 1024) :
    part1 x0 x1 x2 x3 x4 x5 x6 x7 x8 x9 x10 x11 x12 x13 x14 (ix3 0 r j) = row1 x0 x1 x2 x3 x4 x5 x6 x7 x8 x9 x10 x11 x12 x13 x14 ⟨256 + r.val, by omega⟩ j := by
  unfold part1
  rw [block_apply (og := fun k => x5 (ix2 0 k)) (W := fun k c => x6 (ix2 k c)) (K := fun t c => x10 (ix3 0 t c)) (V := fun t c => x11 (ix3 0 t c))]
  · unfold row1; pointwise
  all_goals (intros; pointwise)

theorem part2_apply (x0 : Vec Ideal S1x1024x512 .f32) (x1 : Vec Ideal S1x1024x512 .bf16) (x2 : Vec Ideal S1x1024x1024 .f32) (x3 x4 x5 : Vec Ideal S1x512 .f32) (x6 : Vec Ideal S1024x1024 .bf16) (x7 x8 : Vec Ideal S1x1024 .f32) (x9 : Vec Ideal S1024x1024 .bf16) (x10 x11 : Vec Ideal S1x256x1024 .bf16) (x12 : Vec Ideal S1024x1024 .bf16) (x13 x14 : Vec Ideal S1x1024 .f32) (r : Fin 256) (j : Fin 1024) :
    part2 x0 x1 x2 x3 x4 x5 x6 x7 x8 x9 x10 x11 x12 x13 x14 (ix3 0 r j) = row1 x0 x1 x2 x3 x4 x5 x6 x7 x8 x9 x10 x11 x12 x13 x14 ⟨512 + r.val, by omega⟩ j := by
  unfold part2
  rw [block_apply (og := fun k => x5 (ix2 0 k)) (W := fun k c => x6 (ix2 k c)) (K := fun t c => x10 (ix3 0 t c)) (V := fun t c => x11 (ix3 0 t c))]
  · unfold row1; pointwise
  all_goals (intros; pointwise)

theorem part3_apply (x0 : Vec Ideal S1x1024x512 .f32) (x1 : Vec Ideal S1x1024x512 .bf16) (x2 : Vec Ideal S1x1024x1024 .f32) (x3 x4 x5 : Vec Ideal S1x512 .f32) (x6 : Vec Ideal S1024x1024 .bf16) (x7 x8 : Vec Ideal S1x1024 .f32) (x9 : Vec Ideal S1024x1024 .bf16) (x10 x11 : Vec Ideal S1x256x1024 .bf16) (x12 : Vec Ideal S1024x1024 .bf16) (x13 x14 : Vec Ideal S1x1024 .f32) (r : Fin 256) (j : Fin 1024) :
    part3 x0 x1 x2 x3 x4 x5 x6 x7 x8 x9 x10 x11 x12 x13 x14 (ix3 0 r j) = row1 x0 x1 x2 x3 x4 x5 x6 x7 x8 x9 x10 x11 x12 x13 x14 ⟨768 + r.val, by omega⟩ j := by
  unfold part3
  rw [block_apply (og := fun k => x5 (ix2 0 k)) (W := fun k c => x6 (ix2 k c)) (K := fun t c => x10 (ix3 0 t c)) (V := fun t c => x11 (ix3 0 t c))]
  · unfold row1; pointwise
  all_goals (intros; pointwise)

/-- The second call's block, at an index. -/
theorem out1_apply (x0 : Vec Ideal S1x1024x512 .f32) (x1 : Vec Ideal S1x1024x512 .bf16) (x2 : Vec Ideal S1x1024x1024 .f32) (x3 x4 x5 : Vec Ideal S1x512 .f32) (x6 : Vec Ideal S1024x1024 .bf16) (x7 x8 : Vec Ideal S1x1024 .f32) (x9 : Vec Ideal S1024x1024 .bf16) (x10 x11 : Vec Ideal S1x256x1024 .bf16) (x12 : Vec Ideal S1024x1024 .bf16) (x13 x14 : Vec Ideal S1x1024 .f32) (r j : Fin 1024) :
    out1_15 x0 x1 x2 x3 x4 x5 x6 x7 x8 x9 x10 x11 x12 x13 x14 (ix3 0 r j) = row1 x0 x1 x2 x3 x4 x5 x6 x7 x8 x9 x10 x11 x12 x13 x14 r j := by
  rw [out1_eq]
  refine View.canon_apply_of_pieces (Val := Elt Ideal) (fun y : S1x1024x1024.Idx => row1 x0 x1 x2 x3 x4 x5 x6 x7 x8 x9 x10 x11 x12 x13 x14 (y 1) (y 2)) _ ?_ (ix3 0 r j) (cover1_15 _ _ _ _ _)
  simp only [List.mem_cons, List.not_mem_nil, or_false, forall_eq_or_imp, forall_eq]
  refine ⟨?_, ?_, ?_, ?_⟩
  · intro y
    idx_vars y
    obtain rfl : y0 = 0 := Subsingleton.elim _ _
    pointwise [part3_apply]
    congr 1 <;> (apply Fin.ext; simp [Rect.emb_apply])
  · intro y
    idx_vars y
    obtain rfl : y0 = 0 := Subsingleton.elim _ _
    pointwise [part2_apply]
    congr 1 <;> (apply Fin.ext; simp [Rect.emb_apply])
  · intro y
    idx_vars y
    obtain rfl : y0 = 0 := Subsingleton.elim _ _
    pointwise [part1_apply]
    congr 1 <;> (apply Fin.ext; simp [Rect.emb_apply])
  · intro y
    idx_vars y
    obtain rfl : y0 = 0 := Subsingleton.elim _ _
    pointwise [part0_apply]
    congr 1 <;> (apply Fin.ext; simp [Rect.emb_apply])

/-- Row `r` of the block the third call stores, from its windows' blocks. -/
def row2 (x0 : Vec Ideal S1024x1024 .f32) (x1 : Vec Ideal S1024x4096 .bf16) (x2 : Vec Ideal S1x4096 .f32) (x3 : Vec Ideal S4096x1024 .bf16) (x4 x5 x6 : Vec Ideal S1x1024 .f32) (r : Fin 1024) : Fin 1024 → EReal :=
  Row.mlp (fun k => x0 (ix2 r k)) (fun k c => x1 (ix2 k c)) (fun k => x2 (ix2 0 k)) (fun k c => x3 (ix2 k c))
    (fun k => x4 (ix2 0 k)) (fun k => x5 (ix2 0 k)) (fun k => x6 (ix2 0 k))

theorem mlpPart0_apply (x0 : Vec Ideal S1024x1024 .f32) (x1 : Vec Ideal S1024x4096 .bf16) (x2 : Vec Ideal S1x4096 .f32) (x3 : Vec Ideal S4096x1024 .bf16) (x4 x5 x6 : Vec Ideal S1x1024 .f32) (r : Fin 256) (j : Fin 1024) :
    mlpPart0 x0 x1 x2 x3 x4 x5 x6 (ix2 r j) = row2 x0 x1 x2 x3 x4 x5 x6 ⟨0 + r.val, by omega⟩ j := by
  unfold mlpPart0
  rw [mlpBlock_apply (W1 := fun k c => x1 (ix2 k c)) (B1 := fun k => x2 (ix2 0 k)) (W2 := fun k c => x3 (ix2 k c))]
  · unfold row2; pointwise
  all_goals (intros; pointwise)

theorem mlpPart1_apply (x0 : Vec Ideal S1024x1024 .f32) (x1 : Vec Ideal S1024x4096 .bf16) (x2 : Vec Ideal S1x4096 .f32) (x3 : Vec Ideal S4096x1024 .bf16) (x4 x5 x6 : Vec Ideal S1x1024 .f32) (r : Fin 256) (j : Fin 1024) :
    mlpPart1 x0 x1 x2 x3 x4 x5 x6 (ix2 r j) = row2 x0 x1 x2 x3 x4 x5 x6 ⟨256 + r.val, by omega⟩ j := by
  unfold mlpPart1
  rw [mlpBlock_apply (W1 := fun k c => x1 (ix2 k c)) (B1 := fun k => x2 (ix2 0 k)) (W2 := fun k c => x3 (ix2 k c))]
  · unfold row2; pointwise
  all_goals (intros; pointwise)

theorem mlpPart2_apply (x0 : Vec Ideal S1024x1024 .f32) (x1 : Vec Ideal S1024x4096 .bf16) (x2 : Vec Ideal S1x4096 .f32) (x3 : Vec Ideal S4096x1024 .bf16) (x4 x5 x6 : Vec Ideal S1x1024 .f32) (r : Fin 256) (j : Fin 1024) :
    mlpPart2 x0 x1 x2 x3 x4 x5 x6 (ix2 r j) = row2 x0 x1 x2 x3 x4 x5 x6 ⟨512 + r.val, by omega⟩ j := by
  unfold mlpPart2
  rw [mlpBlock_apply (W1 := fun k c => x1 (ix2 k c)) (B1 := fun k => x2 (ix2 0 k)) (W2 := fun k c => x3 (ix2 k c))]
  · unfold row2; pointwise
  all_goals (intros; pointwise)

theorem mlpPart3_apply (x0 : Vec Ideal S1024x1024 .f32) (x1 : Vec Ideal S1024x4096 .bf16) (x2 : Vec Ideal S1x4096 .f32) (x3 : Vec Ideal S4096x1024 .bf16) (x4 x5 x6 : Vec Ideal S1x1024 .f32) (r : Fin 256) (j : Fin 1024) :
    mlpPart3 x0 x1 x2 x3 x4 x5 x6 (ix2 r j) = row2 x0 x1 x2 x3 x4 x5 x6 ⟨768 + r.val, by omega⟩ j := by
  unfold mlpPart3
  rw [mlpBlock_apply (W1 := fun k c => x1 (ix2 k c)) (B1 := fun k => x2 (ix2 0 k)) (W2 := fun k c => x3 (ix2 k c))]
  · unfold row2; pointwise
  all_goals (intros; pointwise)

/-- The third call's block, at an index. -/
theorem out2_apply (x0 : Vec Ideal S1024x1024 .f32) (x1 : Vec Ideal S1024x4096 .bf16) (x2 : Vec Ideal S1x4096 .f32) (x3 : Vec Ideal S4096x1024 .bf16) (x4 x5 x6 : Vec Ideal S1x1024 .f32) (r j : Fin 1024) :
    out2_7 x0 x1 x2 x3 x4 x5 x6 (ix2 r j) = row2 x0 x1 x2 x3 x4 x5 x6 r j := by
  rw [out2_eq]
  refine View.canon_apply_of_pieces (Val := Elt Ideal) (fun y : S1024x1024.Idx => row2 x0 x1 x2 x3 x4 x5 x6 (y 0) (y 1)) _ ?_ (ix2 r j) (cover2_7 _ _ _ _ _)
  simp only [List.mem_cons, List.not_mem_nil, or_false, forall_eq_or_imp, forall_eq]
  refine ⟨?_, ?_, ?_, ?_⟩
  · intro y
    idx_vars y
    pointwise [mlpPart3_apply]
    congr 1 <;> (apply Fin.ext; simp [ValueKit.rect_emb_unit_val])
  · intro y
    idx_vars y
    pointwise [mlpPart2_apply]
    congr 1 <;> (apply Fin.ext; simp [ValueKit.rect_emb_unit_val])
  · intro y
    idx_vars y
    pointwise [mlpPart1_apply]
    congr 1 <;> (apply Fin.ext; simp [ValueKit.rect_emb_unit_val])
  · intro y
    idx_vars y
    pointwise [mlpPart0_apply]
    congr 1 <;> (apply Fin.ext; simp [ValueKit.rect_emb_unit_val])

end Cert.KernelIdeal.Stage

end
-- ==== Proof.Arr0.lean ====
/- The first call (the memory's keys and values): what its two result arrays hold when the call is over. -/
module

public import proofs.«01_k».proof.Proof.Parts
public import Idealize.ShloMosaic.Lib.Pipeline.ValueKit

@[expose] public section

set_option maxRecDepth 16384

noncomputable section

namespace Cert.KernelIdeal.Arr

open Idealize.ShloMosaic Idealize.ShloMosaic.TcCoe Idealize.ShloMosaic.Tactic Idealize.ShloMosaic.Pointwise
open Cert.KernelIdeal.Gen Cert.KernelIdeal.Stage Cert

variable (V : (c : Dev nD) → (b : Ref sig .tc) → Buf (Elt Ideal) ((c : Thread nD τ).loc b))

/-- The keys: each memory row against the first 1024 columns of the packed weight. -/
def G0_2 (c : Dev nD) (i : S2048x1024.Idx) : EReal :=
  Row.dot (fun k => V c main_v0 (ix2 (i 0) k)) (fun k (n : Fin 1024) => V c main_arg11 (ix2 k ⟨0 + n.val, by omega⟩)) (i 1)

theorem idx0_2 (t : Fin grid0.N) : win0_2.index t 0 = t.val ∧ win0_2.index t 1 = 0 := by revert t; decide +kernel

theorem out0_2_apply (x0 : Vec Ideal S1024x1024 .f32) (x1 : Vec Ideal S1024x2048 .f32) (r j : Fin 1024) :
    out0_2 x0 x1 (ix2 r j) = Row.dot (fun k => x0 (ix2 r k)) (fun k (n : Fin 1024) => x1 (ix2 k ⟨0 + n.val, by omega⟩)) j := by
  unfold out0_2
  rw [View.canon_unit_zero (by decide)]
  unfold Row.dot
  pointwise [k0_pay2, k0_pay1]

/-- The values: each memory row against the last 1024 columns of the packed weight. -/
def G0_3 (c : Dev nD) (i : S2048x1024.Idx) : EReal :=
  Row.dot (fun k => V c main_v0 (ix2 (i 0) k)) (fun k (n : Fin 1024) => V c main_arg11 (ix2 k ⟨1024 + n.val, by omega⟩)) (i 1)

theorem idx0_3 (t : Fin grid0.N) : win0_3.index t 0 = t.val ∧ win0_3.index t 1 = 0 := by revert t; decide +kernel

theorem out0_3_apply (x0 : Vec Ideal S1024x1024 .f32) (x1 : Vec Ideal S1024x2048 .f32) (r j : Fin 1024) :
    out0_3 x0 x1 (ix2 r j) = Row.dot (fun k => x0 (ix2 r k)) (fun k (n : Fin 1024) => x1 (ix2 k ⟨1024 + n.val, by omega⟩)) j := by
  unfold out0_3
  rw [View.canon_unit_zero (by decide)]
  unfold Row.dot
  pointwise [k0_pay3, k0_pay1]

theorem idx0_0 (t : Fin grid0.N) : win0_0.index t 0 = t.val ∧ win0_0.index t 1 = 0 := by revert t; decide +kernel

theorem blk0_1 (c : Dev nD) (t : Fin cfg0.N) (k : Fin 1024) (n : Fin 2048) : iblk0 V c 1 t (ix2 k n) = V c main_arg11 (ix2 k n) := by
  have e0 : win0_1.index t 0 = 0 := rfl
  have e1 : win0_1.index t 1 = 0 := rfl
  blk_ext [iblk0, e0, e1]

theorem dot_eq {x x' : Fin 1024 → EReal} {w w' : Fin 1024 → Fin 1024 → EReal} {j j' : Fin 1024} (hx : ∀ k, x k = x' k) (hw : ∀ k n, w k n = w' k n) (hj : j = j') :
    Row.dot x w j = Row.dot x' w' j' := by
  subst hj
  rw [funext hx, funext fun k => funext (hw k)]

theorem arr0_2 (c : Dev nD) : (dat0 V c).arrAt 2 cfg0.N = G0_2 V c := by
  refine (dat0 V c).arrAt_eq_of_covers 2 _ (by decide +kernel) fun t hf y => ?_
  blk_simp
  rw [after0_2]
  obtain ⟨a0, a1⟩ := idx0_0 t
  obtain ⟨e0, e1⟩ := idx0_2 t
  idx_vars y
  refine (out0_2_apply _ _ _ _).trans ?_
  refine dot_eq (fun k => ?_) (fun k n => blk0_1 V c t k _) ?_
  · blk_ext [iblk0, a0, a1, e0, e1]
  · apply Fin.ext; blk_simp [e1]

theorem arr0_3 (c : Dev nD) : (dat0 V c).arrAt 3 cfg0.N = G0_3 V c := by
  refine (dat0 V c).arrAt_eq_of_covers 3 _ (by decide +kernel) fun t hf y => ?_
  blk_simp
  rw [after0_3]
  obtain ⟨a0, a1⟩ := idx0_0 t
  obtain ⟨e0, e1⟩ := idx0_3 t
  idx_vars y
  refine (out0_3_apply _ _ _ _).trans ?_
  refine dot_eq (fun k => ?_) (fun k n => blk0_1 V c t k _) ?_
  · blk_ext [iblk0, a0, a1, e0, e1]
  · apply Fin.ext; blk_simp [e1]

end Cert.KernelIdeal.Arr

end
-- ==== Proof.Arr1.lean ====
/- The second call (mixer output and memory attention): what its result array holds when the call is over. -/
module

public import proofs.«01_k».proof.Proof.Parts
public import Idealize.ShloMosaic.Lib.Pipeline.ValueKit

@[expose] public section

set_option maxRecDepth 16384

noncomputable section

namespace Cert.KernelIdeal.Arr

open Idealize.ShloMosaic Idealize.ShloMosaic.TcCoe Idealize.ShloMosaic.Tactic Idealize.ShloMosaic.Pointwise
open Cert.KernelIdeal.Gen Cert.KernelIdeal.Stage Cert

variable (V : (c : Dev nD) → (b : Ref sig .tc) → Buf (Elt Ideal) ((c : Thread nD τ).loc b))

/-- A row of the second call's result, from the arrays the call reads. -/
def G1 (c : Dev nD) (i : S8x2048x1024.Idx) : EReal :=
  Row.mem (Row.mix (fun k => V c main_arg0 (ix3 (i 0) (i 1) k)) (fun k => V c main_v3 (ix2 0 k)) (fun k => V c main_v4 (ix2 0 k)) (fun k => V c main_v5 (ix2 0 k)) (fun k => V c main_v2 (ix3 (i 0) (i 1) k))
      (fun k => V c main_arg2 (ix3 (i 0) (i 1) k)) (fun k n => V c main_v6 (ix2 k n)) (fun k => V c main_v7 (ix2 0 k)) (fun k => V c main_v8 (ix2 0 k)))
    (fun k n => V c main_v9 (ix2 k n)) (fun k n => V c main_v10 (ix3 (i 0) k n)) (fun k n => V c main_v11 (ix3 (i 0) k n)) (fun k n => V c main_v12 (ix2 k n))
    (fun k => V c main_v13 (ix2 0 k)) (fun k => V c main_v14 (ix2 0 k)) (i 2)

theorem idx1_0 (t : Fin grid1.N) : win1_0.index t 0 = t.val / 2 ∧ win1_0.index t 1 = t.val % 2 ∧ win1_0.index t 2 = 0 := by revert t; decide +kernel
theorem idx1_1 (t : Fin grid1.N) : win1_1.index t 0 = t.val / 2 ∧ win1_1.index t 1 = t.val % 2 ∧ win1_1.index t 2 = 0 := by revert t; decide +kernel
theorem idx1_2 (t : Fin grid1.N) : win1_2.index t 0 = t.val / 2 ∧ win1_2.index t 1 = t.val % 2 ∧ win1_2.index t 2 = 0 := by revert t; decide +kernel
theorem idx1_10 (t : Fin grid1.N) : win1_10.index t 0 = t.val / 2 ∧ win1_10.index t 1 = 0 ∧ win1_10.index t 2 = 0 := by revert t; decide +kernel
theorem idx1_11 (t : Fin grid1.N) : win1_11.index t 0 = t.val / 2 ∧ win1_11.index t 1 = 0 ∧ win1_11.index t 2 = 0 := by revert t; decide +kernel
theorem idx1_15 (t : Fin grid1.N) : win1_15.index t 0 = t.val / 2 ∧ win1_15.index t 1 = t.val % 2 ∧ win1_15.index t 2 = 0 := by revert t; decide +kernel

theorem blk1_3 (c : Dev nD) (t : Fin cfg1.N) (k : Fin 1) (n : Fin 512) : iblk1 V c 3 t (ix2 k n) = V c main_v3 (ix2 k n) := by
  have e0 : win1_3.index t 0 = 0 := rfl
  have e1 : win1_3.index t 1 = 0 := rfl
  blk_ext [iblk1, e0, e1]

theorem blk1_4 (c : Dev nD) (t : Fin cfg1.N) (k : Fin 1) (n : Fin 512) : iblk1 V c 4 t (ix2 k n) = V c main_v4 (ix2 k n) := by
  have e0 : win1_4.index t 0 = 0 := rfl
  have e1 : win1_4.index t 1 = 0 := rfl
  blk_ext [iblk1, e0, e1]

theorem blk1_5 (c : Dev nD) (t : Fin cfg1.N) (k : Fin 1) (n : Fin 512) : iblk1 V c 5 t (ix2 k n) = V c main_v5 (ix2 k n) := by
  have e0 : win1_5.index t 0 = 0 := rfl
  have e1 : win1_5.index t 1 = 0 := rfl
  blk_ext [iblk1, e0, e1]

theorem blk1_6 (c : Dev nD) (t : Fin cfg1.N) (k : Fin 1024) (n : Fin 1024) : iblk1 V c 6 t (ix2 k n) = V c main_v6 (ix2 k n) := by
  have e0 : win1_6.index t 0 = 0 := rfl
  have e1 : win1_6.index t 1 = 0 := rfl
  blk_ext [iblk1, e0, e1]

theorem blk1_7 (c : Dev nD) (t : Fin cfg1.N) (k : Fin 1) (n : Fin 1024) : iblk1 V c 7 t (ix2 k n) = V c main_v7 (ix2 k n) := by
  have e0 : win1_7.index t 0 = 0 := rfl
  have e1 : win1_7.index t 1 = 0 := rfl
  blk_ext [iblk1, e0, e1]

theorem blk1_8 (c : Dev nD) (t : Fin cfg1.N) (k : Fin 1) (n : Fin 1024) : iblk1 V c 8 t (ix2 k n) = V c main_v8 (ix2 k n) := by
  have e0 : win1_8.index t 0 = 0 := rfl
  have e1 : win1_8.index t 1 = 0 := rfl
  blk_ext [iblk1, e0, e1]

theorem blk1_9 (c : Dev nD) (t : Fin cfg1.N) (k : Fin 1024) (n : Fin 1024) : iblk1 V c 9 t (ix2 k n) = V c main_v9 (ix2 k n) := by
  have e0 : win1_9.index t 0 = 0 := rfl
  have e1 : win1_9.index t 1 = 0 := rfl
  blk_ext [iblk1, e0, e1]

theorem blk1_12 (c : Dev nD) (t : Fin cfg1.N) (k : Fin 1024) (n : Fin 1024) : iblk1 V c 12 t (ix2 k n) = V c main_v12 (ix2 k n) := by
  have e0 : win1_12.index t 0 = 0 := rfl
  have e1 : win1_12.index t 1 = 0 := rfl
  blk_ext [iblk1, e0, e1]

theorem blk1_13 (c : Dev nD) (t : Fin cfg1.N) (k : Fin 1) (n : Fin 1024) : iblk1 V c 13 t (ix2 k n) = V c main_v13 (ix2 k n) := by
  have e0 : win1_13.index t 0 = 0 := rfl
  have e1 : win1_13.index t 1 = 0 := rfl
  blk_ext [iblk1, e0, e1]

theorem blk1_14 (c : Dev nD) (t : Fin cfg1.N) (k : Fin 1) (n : Fin 1024) : iblk1 V c 14 t (ix2 k n) = V c main_v14 (ix2 k n) := by
  have e0 : win1_14.index t 0 = 0 := rfl
  have e1 : win1_14.index t 1 = 0 := rfl
  blk_ext [iblk1, e0, e1]

/-- The row a block stores, once its blocks are known entry by entry. -/
theorem row1_eq {x0 : Vec Ideal S1x1024x512 .f32} {x1 : Vec Ideal S1x1024x512 .bf16} {x2 : Vec Ideal S1x1024x1024 .f32} {x3 x4 x5 : Vec Ideal S1x512 .f32} {x6 : Vec Ideal S1024x1024 .bf16} {x7 x8 : Vec Ideal S1x1024 .f32} {x9 : Vec Ideal S1024x1024 .bf16} {x10 x11 : Vec Ideal S1x256x1024 .bf16} {x12 : Vec Ideal S1024x1024 .bf16} {x13 x14 : Vec Ideal S1x1024 .f32}
    {cv at' cg cb og : Fin 512 → EReal} {h g b mg mb : Fin 1024 → EReal} {w wq wo : Fin 1024 → Fin 1024 → EReal} {kk vv : Fin 256 → Fin 1024 → EReal} {r j j' : Fin 1024}
    (h0 : ∀ k, x0 (ix3 0 r k) = cv k) (h1 : ∀ k, x1 (ix3 0 r k) = at' k) (h2 : ∀ k, x2 (ix3 0 r k) = h k) (h3 : ∀ k, x3 (ix2 0 k) = cg k) (h4 : ∀ k, x4 (ix2 0 k) = cb k) (h5 : ∀ k, x5 (ix2 0 k) = og k)
    (h6 : ∀ k n, x6 (ix2 k n) = w k n) (h7 : ∀ k, x7 (ix2 0 k) = g k) (h8 : ∀ k, x8 (ix2 0 k) = b k) (h9 : ∀ k n, x9 (ix2 k n) = wq k n)
    (h10 : ∀ k n, x10 (ix3 0 k n) = kk k n) (h11 : ∀ k n, x11 (ix3 0 k n) = vv k n) (h12 : ∀ k n, x12 (ix2 k n) = wo k n)
    (h13 : ∀ k, x13 (ix2 0 k) = mg k) (h14 : ∀ k, x14 (ix2 0 k) = mb k) (hj : j = j') :
    row1 x0 x1 x2 x3 x4 x5 x6 x7 x8 x9 x10 x11 x12 x13 x14 r j = Row.mem (Row.mix cv cg cb og at' h w g b) wq kk vv wo mg mb j' := by
  subst hj
  unfold row1
  rw [funext h0, funext h1, funext h2, funext h3, funext h4, funext h5, funext fun k => funext (h6 k), funext h7, funext h8, funext fun k => funext (h9 k),
    funext fun k => funext (h10 k), funext fun k => funext (h11 k), funext fun k => funext (h12 k), funext h13, funext h14]

set_option maxHeartbeats 2000000 in
theorem arr1 (c : Dev nD) : (dat1 V c).arrAt 15 cfg1.N = G1 V c := by
  refine (dat1 V c).arrAt_eq_of_covers 15 _ (by decide +kernel) fun t hf y => ?_
  blk_simp
  rw [after1_15]
  obtain ⟨a0, a1, a2⟩ := idx1_0 t
  obtain ⟨b0, b1, b2⟩ := idx1_1 t
  obtain ⟨d0, d1, d2⟩ := idx1_2 t
  obtain ⟨f0, f1, f2⟩ := idx1_10 t
  obtain ⟨g0, g1, g2⟩ := idx1_11 t
  obtain ⟨e0, e1, e2⟩ := idx1_15 t
  idx_vars y
  obtain rfl : y0 = 0 := Fin.fin_one_eq_zero y0
  refine (out1_apply _ _ _ _ _ _ _ _ _ _ _ _ _ _ _ _ _).trans ?_
  refine row1_eq (fun k => ?_) (fun k => ?_) (fun k => ?_) (blk1_3 V c t 0) (blk1_4 V c t 0) (blk1_5 V c t 0) (blk1_6 V c t) (blk1_7 V c t 0) (blk1_8 V c t 0) (blk1_9 V c t)
    (fun k n => ?_) (fun k n => ?_) (blk1_12 V c t) (blk1_13 V c t 0) (blk1_14 V c t 0) ?_
  · blk_ext [iblk1, a0, a1, a2, e0, e1, e2]
  · blk_ext [iblk1, b0, b1, b2, e0, e1, e2]
  · blk_ext [iblk1, d0, d1, d2, e0, e1, e2]
  · blk_ext [iblk1, f0, f1, f2, e0, e1, e2]
  · blk_ext [iblk1, g0, g1, g2, e0, e1, e2]
  · apply Fin.ext; blk_simp [e2]

end Cert.KernelIdeal.Arr

end
-- ==== Proof.Arr2.lean ====
/- The third call (the feed-forward half): what its result array holds when the call is over. -/
module

public import proofs.«01_k».proof.Proof.Parts
public import Idealize.ShloMosaic.Lib.Pipeline.ValueKit

@[expose] public section

set_option maxRecDepth 16384

noncomputable section

namespace Cert.KernelIdeal.Arr

open Idealize.ShloMosaic Idealize.ShloMosaic.TcCoe Idealize.ShloMosaic.Tactic Idealize.ShloMosaic.Pointwise
open Cert.KernelIdeal.Gen Cert.KernelIdeal.Stage Cert

variable (V : (c : Dev nD) → (b : Ref sig .tc) → Buf (Elt Ideal) ((c : Thread nD τ).loc b))

/-- A row of the third call's result, from the arrays the call reads. -/
def G2 (c : Dev nD) (i : S16384x1024.Idx) : EReal :=
  Row.mlp (fun k => V c main_v16 (ix2 (i 0) k)) (fun k n => V c main_v17 (ix2 k n)) (fun k => V c main_v18 (ix2 0 k))
    (fun k n => V c main_v19 (ix2 k n)) (fun k => V c main_v20 (ix2 0 k)) (fun k => V c main_v21 (ix2 0 k)) (fun k => V c main_v22 (ix2 0 k)) (i 1)

theorem idx2_0 (t : Fin grid2.N) : win2_0.index t 0 = t.val ∧ win2_0.index t 1 = 0 := by revert t; decide +kernel
theorem idx2_7 (t : Fin grid2.N) : win2_7.index t 0 = t.val ∧ win2_7.index t 1 = 0 := by revert t; decide +kernel

theorem blk2_1 (c : Dev nD) (t : Fin cfg2.N) (k : Fin 1024) (n : Fin 4096) : iblk2 V c 1 t (ix2 k n) = V c main_v17 (ix2 k n) := by
  have e0 : win2_1.index t 0 = 0 := rfl
  have e1 : win2_1.index t 1 = 0 := rfl
  blk_ext [iblk2, e0, e1]

theorem blk2_2 (c : Dev nD) (t : Fin cfg2.N) (k : Fin 1) (n : Fin 4096) : iblk2 V c 2 t (ix2 k n) = V c main_v18 (ix2 k n) := by
  have e0 : win2_2.index t 0 = 0 := rfl
  have e1 : win2_2.index t 1 = 0 := rfl
  blk_ext [iblk2, e0, e1]

theorem blk2_3 (c : Dev nD) (t : Fin cfg2.N) (k : Fin 4096) (n : Fin 1024) : iblk2 V c 3 t (ix2 k n) = V c main_v19 (ix2 k n) := by
  have e0 : win2_3.index t 0 = 0 := rfl
  have e1 : win2_3.index t 1 = 0 := rfl
  blk_ext [iblk2, e0, e1]

theorem blk2_4 (c : Dev nD) (t : Fin cfg2.N) (k : Fin 1) (n : Fin 1024) : iblk2 V c 4 t (ix2 k n) = V c main_v20 (ix2 k n) := by
  have e0 : win2_4.index t 0 = 0 := rfl
  have e1 : win2_4.index t 1 = 0 := rfl
  blk_ext [iblk2, e0, e1]

theorem blk2_5 (c : Dev nD) (t : Fin cfg2.N) (k : Fin 1) (n : Fin 1024) : iblk2 V c 5 t (ix2 k n) = V c main_v21 (ix2 k n) := by
  have e0 : win2_5.index t 0 = 0 := rfl
  have e1 : win2_5.index t 1 = 0 := rfl
  blk_ext [iblk2, e0, e1]

theorem blk2_6 (c : Dev nD) (t : Fin cfg2.N) (k : Fin 1) (n : Fin 1024) : iblk2 V c 6 t (ix2 k n) = V c main_v22 (ix2 k n) := by
  have e0 : win2_6.index t 0 = 0 := rfl
  have e1 : win2_6.index t 1 = 0 := rfl
  blk_ext [iblk2, e0, e1]

/-- The row a block stores, once its blocks are known entry by entry. -/
theorem row2_eq {x0 : Vec Ideal S1024x1024 .f32} {x1 : Vec Ideal S1024x4096 .bf16} {x2 : Vec Ideal S1x4096 .f32} {x3 : Vec Ideal S4096x1024 .bf16} {x4 x5 x6 : Vec Ideal S1x1024 .f32}
    {h : Fin 1024 → EReal} {w1 : Fin 1024 → Fin 4096 → EReal} {b1 : Fin 4096 → EReal} {w2 : Fin 4096 → Fin 1024 → EReal} {b2 g b : Fin 1024 → EReal} {r j j' : Fin 1024}
    (h0 : ∀ k, x0 (ix2 r k) = h k) (h1 : ∀ k n, x1 (ix2 k n) = w1 k n) (h2 : ∀ k, x2 (ix2 0 k) = b1 k) (h3 : ∀ k n, x3 (ix2 k n) = w2 k n)
    (h4 : ∀ k, x4 (ix2 0 k) = b2 k) (h5 : ∀ k, x5 (ix2 0 k) = g k) (h6 : ∀ k, x6 (ix2 0 k) = b k) (hj : j = j') :
    row2 x0 x1 x2 x3 x4 x5 x6 r j = Row.mlp h w1 b1 w2 b2 g b j' := by
  subst hj
  unfold row2
  rw [funext h0, funext fun k => funext (h1 k), funext h2, funext fun k => funext (h3 k), funext h4, funext h5, funext h6]

theorem arr2 (c : Dev nD) : (dat2 V c).arrAt 7 cfg2.N = G2 V c := by
  refine (dat2 V c).arrAt_eq_of_covers 7 _ (by decide +kernel) fun t hf y => ?_
  blk_simp
  rw [after2_7]
  obtain ⟨e0, e0'⟩ := idx2_0 t
  obtain ⟨e7, e7'⟩ := idx2_7 t
  idx_vars y
  refine (out2_apply _ _ _ _ _ _ _ _ _).trans ?_
  refine row2_eq (fun k => ?_) (blk2_1 V c t) (blk2_2 V c t 0) (blk2_3 V c t) (blk2_4 V c t 0) (blk2_5 V c t 0) (blk2_6 V c t 0) ?_
  · blk_ext [iblk2, e0, e0', e7, e7']
  · apply Fin.ext; blk_simp [e7']

end Cert.KernelIdeal.Arr

end
-- ==== Proof.Result.lean ====
/- The result array read back through the calls and the host operations between them, as rows of the launch arrays. -/
module

public import proofs.«01_k».proof.Proof.Arr0
public import proofs.«01_k».proof.Proof.Arr1
public import proofs.«01_k».proof.Proof.Arr2
public import Idealize.ShloMosaic.Lib.StableHlo.ReadAt

@[expose] public section

set_option maxRecDepth 16384

noncomputable section

namespace Cert.KernelIdeal.Arr

open Idealize.ShloMosaic Idealize.ShloMosaic.TcCoe Idealize.ShloMosaic.Tactic Idealize.ShloMosaic.Pointwise
open Cert.KernelIdeal.Gen Cert.KernelIdeal.Stage Cert

variable (m : (ℓ : Loc nD τ sig) → Buf (Elt Ideal) ℓ) (ρ : Dev nD → PrngReg) (c : Dev nD)

/-- An argument array as launched. -/
abbrev A (a : Ref sig .tc) : Buf (Elt Ideal) ((c : Thread nD τ).loc a) := m ((c : Thread nD τ).loc a)

theorem v5_arg (a : Ref sig .tc) (h : a ∈ argRefs) : W4 m ρ c (Proc.devRef .tc a) = A m c a := W4_args m ρ c a h
theorem v3_arg (a : Ref sig .tc) (h : a ∈ argRefs) : W2 m ρ c (Proc.devRef .tc a) = A m c a := W2_args m ρ c a h

/-! The third call's operands. -/

/-! The third call's operands. -/

theorem V5_16 (r : Fin 16384) (k : Fin 1024) : V5 m ρ c main_v16 (ix2 r k) = V4 m ρ c main_v15 (ix3 ⟨r.val / 2048, by omega⟩ ⟨r.val % 2048, by omega⟩ k) := by
  show W5 m ρ c main_v16 (ix2 r k) = W4 m ρ c main_v15 _
  unfold W5
  after_reads_at

theorem V5_17 (k : Fin 1024) (n : Fin 4096) : V5 m ρ c main_v17 (ix2 k n) = A m c main_arg15 (ix2 k n) := by
  rw [← v5_arg m ρ c main_arg15 (by decide)]
  show W5 m ρ c main_v17 (ix2 k n) = _
  unfold W5
  after_reads_at

theorem V5_18 (n : Fin 4096) : V5 m ρ c main_v18 (ix2 0 n) = A m c main_arg16 (ix1 n) := by
  rw [← v5_arg m ρ c main_arg16 (by decide)]
  show W5 m ρ c main_v18 (ix2 0 n) = _
  unfold W5
  after_reads_at

theorem V5_19 (k : Fin 4096) (n : Fin 1024) : V5 m ρ c main_v19 (ix2 k n) = A m c main_arg17 (ix2 k n) := by
  rw [← v5_arg m ρ c main_arg17 (by decide)]
  show W5 m ρ c main_v19 (ix2 k n) = _
  unfold W5
  after_reads_at

theorem V5_20 (n : Fin 1024) : V5 m ρ c main_v20 (ix2 0 n) = A m c main_arg18 (ix1 n) := by
  rw [← v5_arg m ρ c main_arg18 (by decide)]
  show W5 m ρ c main_v20 (ix2 0 n) = _
  unfold W5
  after_reads_at

theorem V5_21 (n : Fin 1024) : V5 m ρ c main_v21 (ix2 0 n) = A m c main_arg19 (ix1 n) := by
  rw [← v5_arg m ρ c main_arg19 (by decide)]
  show W5 m ρ c main_v21 (ix2 0 n) = _
  unfold W5
  after_reads_at

theorem V5_22 (n : Fin 1024) : V5 m ρ c main_v22 (ix2 0 n) = A m c main_arg20 (ix1 n) := by
  rw [← v5_arg m ρ c main_arg20 (by decide)]
  show W5 m ρ c main_v22 (ix2 0 n) = _
  unfold W5
  after_reads_at

/-! The second call's operands. -/

theorem V3_arg (a : Ref sig .tc) (h : a ∈ argRefs) : V3 m ρ c a = A m c a := W3_args m ρ c a h

theorem V3_2 (b : Fin 8) (s : Fin 2048) (n : Fin 512) : V3 m ρ c main_v2 (ix3 b s n) = A m c main_arg1 (ix3 b s n) := by
  rw [← v3_arg m ρ c main_arg1 (by decide)]
  show W3 m ρ c main_v2 (ix3 b s n) = _
  unfold W3
  after_reads_at

theorem V3_3 (n : Fin 512) : V3 m ρ c main_v3 (ix2 0 n) = A m c main_arg4 (ix1 n) := by
  rw [← v3_arg m ρ c main_arg4 (by decide)]
  show W3 m ρ c main_v3 (ix2 0 n) = _
  unfold W3
  after_reads_at

theorem V3_4 (n : Fin 512) : V3 m ρ c main_v4 (ix2 0 n) = A m c main_arg5 (ix1 n) := by
  rw [← v3_arg m ρ c main_arg5 (by decide)]
  show W3 m ρ c main_v4 (ix2 0 n) = _
  unfold W3
  after_reads_at

theorem V3_5 (n : Fin 512) : V3 m ρ c main_v5 (ix2 0 n) = A m c main_arg6 (ix1 n) := by
  rw [← v3_arg m ρ c main_arg6 (by decide)]
  show W3 m ρ c main_v5 (ix2 0 n) = _
  unfold W3
  after_reads_at

theorem V3_7 (n : Fin 1024) : V3 m ρ c main_v7 (ix2 0 n) = A m c main_arg8 (ix1 n) := by
  rw [← v3_arg m ρ c main_arg8 (by decide)]
  show W3 m ρ c main_v7 (ix2 0 n) = _
  unfold W3
  after_reads_at

theorem V3_8 (n : Fin 1024) : V3 m ρ c main_v8 (ix2 0 n) = A m c main_arg9 (ix1 n) := by
  rw [← v3_arg m ρ c main_arg9 (by decide)]
  show W3 m ρ c main_v8 (ix2 0 n) = _
  unfold W3
  after_reads_at

theorem V3_13 (n : Fin 1024) : V3 m ρ c main_v13 (ix2 0 n) = A m c main_arg13 (ix1 n) := by
  rw [← v3_arg m ρ c main_arg13 (by decide)]
  show W3 m ρ c main_v13 (ix2 0 n) = _
  unfold W3
  after_reads_at

theorem V3_14 (n : Fin 1024) : V3 m ρ c main_v14 (ix2 0 n) = A m c main_arg14 (ix1 n) := by
  rw [← v3_arg m ρ c main_arg14 (by decide)]
  show W3 m ρ c main_v14 (ix2 0 n) = _
  unfold W3
  after_reads_at

theorem V3_6 (k n : Fin 1024) : V3 m ρ c main_v6 (ix2 k n) = A m c main_arg7 (ix2 k n) := by
  rw [← v3_arg m ρ c main_arg7 (by decide)]
  show W3 m ρ c main_v6 (ix2 k n) = _
  unfold W3
  after_reads_at

theorem V3_9 (k n : Fin 1024) : V3 m ρ c main_v9 (ix2 k n) = A m c main_arg10 (ix2 k n) := by
  rw [← v3_arg m ρ c main_arg10 (by decide)]
  show W3 m ρ c main_v9 (ix2 k n) = _
  unfold W3
  after_reads_at

theorem V3_12 (k n : Fin 1024) : V3 m ρ c main_v12 (ix2 k n) = A m c main_arg12 (ix2 k n) := by
  rw [← v3_arg m ρ c main_arg12 (by decide)]
  show W3 m ρ c main_v12 (ix2 k n) = _
  unfold W3
  after_reads_at

theorem V1_0_2 (b : Fin 8) (t : Fin 256) (n : Fin 1024) : W2 m ρ c main_v1_0 (ix2 (⟨b.val * 256 + t.val, by omega⟩ : Fin 2048) n)
    = Row.dot (fun k => A m c main_arg3 (ix3 b t k)) (fun k (n : Fin 1024) => A m c main_arg11 (ix2 k ⟨0 + n.val, by omega⟩)) n := by
  refine (congrFun ((W2_arr m ρ c 2).trans (arr0_2 (V1 m ρ) c)) _).trans ?_
  unfold G0_2
  refine dot_eq (fun k => ?_) (fun k n => ?_) rfl
  · show W1 m ρ c main_v0 (ix2 _ k) = A m c main_arg3 _
    unfold W1
    after_reads_at
  · exact congrFun (W1_args m ρ c main_arg11 (by decide)) _

theorem V3_10 (b : Fin 8) (t : Fin 256) (n : Fin 1024) : V3 m ρ c main_v10 (ix3 b t n)
    = Row.dot (fun k => A m c main_arg3 (ix3 b t k)) (fun k (n : Fin 1024) => A m c main_arg11 (ix2 k ⟨0 + n.val, by omega⟩)) n := by
  rw [← V1_0_2 m ρ c b t n]
  show W3 m ρ c main_v10 (ix3 b t n) = _
  unfold W3
  after_reads_at

theorem V1_0_3 (b : Fin 8) (t : Fin 256) (n : Fin 1024) : W2 m ρ c main_v1_1 (ix2 (⟨b.val * 256 + t.val, by omega⟩ : Fin 2048) n)
    = Row.dot (fun k => A m c main_arg3 (ix3 b t k)) (fun k (n : Fin 1024) => A m c main_arg11 (ix2 k ⟨1024 + n.val, by omega⟩)) n := by
  refine (congrFun ((W2_arr m ρ c 3).trans (arr0_3 (V1 m ρ) c)) _).trans ?_
  unfold G0_3
  refine dot_eq (fun k => ?_) (fun k n => ?_) rfl
  · show W1 m ρ c main_v0 (ix2 _ k) = A m c main_arg3 _
    unfold W1
    after_reads_at
  · exact congrFun (W1_args m ρ c main_arg11 (by decide)) _

theorem V3_11 (b : Fin 8) (t : Fin 256) (n : Fin 1024) : V3 m ρ c main_v11 (ix3 b t n)
    = Row.dot (fun k => A m c main_arg3 (ix3 b t k)) (fun k (n : Fin 1024) => A m c main_arg11 (ix2 k ⟨1024 + n.val, by omega⟩)) n := by
  rw [← V1_0_3 m ρ c b t n]
  show W3 m ρ c main_v11 (ix3 b t n) = _
  unfold W3
  after_reads_at

/-- Row `(b, s)` after the mixer's output half. -/
def mixRow (b : Fin 8) (s : Fin 2048) : Fin 1024 → EReal :=
  Row.mix (fun k => A m c main_arg0 (ix3 b s k)) (fun k => A m c main_arg4 (ix1 k)) (fun k => A m c main_arg5 (ix1 k)) (fun k => A m c main_arg6 (ix1 k))
    (fun k => A m c main_arg1 (ix3 b s k)) (fun k => A m c main_arg2 (ix3 b s k)) (fun k n => A m c main_arg7 (ix2 k n)) (fun k => A m c main_arg8 (ix1 k)) (fun k => A m c main_arg9 (ix1 k))

/-- Row `(b, s)` after the memory attention. -/
def memRow (b : Fin 8) (s : Fin 2048) : Fin 1024 → EReal :=
  Row.mem (mixRow m c b s) (fun k n => A m c main_arg10 (ix2 k n))
    (fun t => Row.dot (fun k => A m c main_arg3 (ix3 b t k)) (fun k (n : Fin 1024) => A m c main_arg11 (ix2 k ⟨0 + n.val, by omega⟩)))
    (fun t => Row.dot (fun k => A m c main_arg3 (ix3 b t k)) (fun k (n : Fin 1024) => A m c main_arg11 (ix2 k ⟨1024 + n.val, by omega⟩)))
    (fun k n => A m c main_arg12 (ix2 k n)) (fun k => A m c main_arg13 (ix1 k)) (fun k => A m c main_arg14 (ix1 k))

/-- Row `(b, s)` of the result. -/
def outRow (b : Fin 8) (s : Fin 2048) : Fin 1024 → EReal :=
  Row.mlp (memRow m c b s) (fun k n => A m c main_arg15 (ix2 k n)) (fun k => A m c main_arg16 (ix1 k)) (fun k n => A m c main_arg17 (ix2 k n))
    (fun k => A m c main_arg18 (ix1 k)) (fun k => A m c main_arg19 (ix1 k)) (fun k => A m c main_arg20 (ix1 k))

/-! The row functions depend on their operands' entries only. -/

theorem mix_congr {cv at' cg cb og cv' at'' cg' cb' og' : Fin 512 → EReal} {h g b h' g' b' : Fin 1024 → EReal} {w w' : Fin 1024 → Fin 1024 → EReal}
    (h0 : ∀ k, cv k = cv' k) (h3 : ∀ k, cg k = cg' k) (h4 : ∀ k, cb k = cb' k) (h5 : ∀ k, og k = og' k) (h1 : ∀ k, at' k = at'' k) (h2 : ∀ k, h k = h' k)
    (h6 : ∀ k n, w k n = w' k n) (h7 : ∀ k, g k = g' k) (h8 : ∀ k, b k = b' k) : Row.mix cv cg cb og at' h w g b = Row.mix cv' cg' cb' og' at'' h' w' g' b' := by
  rw [funext h0, funext h1, funext h2, funext h3, funext h4, funext h5, funext fun k => funext (h6 k), funext h7, funext h8]

theorem mem_congr {h g b h' g' b' : Fin 1024 → EReal} {wq wo wq' wo' : Fin 1024 → Fin 1024 → EReal} {kk vv kk' vv' : Fin 256 → Fin 1024 → EReal}
    (h0 : h = h') (h9 : ∀ k n, wq k n = wq' k n) (h10 : ∀ k n, kk k n = kk' k n) (h11 : ∀ k n, vv k n = vv' k n) (h12 : ∀ k n, wo k n = wo' k n)
    (h13 : ∀ k, g k = g' k) (h14 : ∀ k, b k = b' k) (n : Fin 1024) : Row.mem h wq kk vv wo g b n = Row.mem h' wq' kk' vv' wo' g' b' n := by
  rw [h0, funext fun k => funext (h9 k), funext fun k => funext (h10 k), funext fun k => funext (h11 k), funext fun k => funext (h12 k), funext h13, funext h14]

theorem mlp_congr {h b2 g b h' b2' g' b' : Fin 1024 → EReal} {w1 w1' : Fin 1024 → Fin 4096 → EReal} {b1 b1' : Fin 4096 → EReal} {w2 w2' : Fin 4096 → Fin 1024 → EReal}
    (h0 : ∀ k, h k = h' k) (h1 : ∀ k n, w1 k n = w1' k n) (h2 : ∀ k, b1 k = b1' k) (h3 : ∀ k n, w2 k n = w2' k n) (h4 : ∀ k, b2 k = b2' k) (h5 : ∀ k, g k = g' k) (h6 : ∀ k, b k = b' k)
    (n : Fin 1024) : Row.mlp h w1 b1 w2 b2 g b n = Row.mlp h' w1' b1' w2' b2' g' b' n := by
  rw [funext h0, funext fun k => funext (h1 k), funext h2, funext fun k => funext (h3 k), funext h4, funext h5, funext h6]

theorem V4_15 (b : Fin 8) (s : Fin 2048) (n : Fin 1024) : V4 m ρ c main_v15 (ix3 b s n) = memRow m c b s n := by
  refine (congrFun ((W4_arr m ρ c 15).trans (arr1 (V3 m ρ) c)) _).trans ?_
  unfold G1 memRow
  exact mem_congr (mix_congr (fun k => congrFun (V3_arg m ρ c main_arg0 (by decide)) _) (V3_3 m ρ c) (V3_4 m ρ c) (V3_5 m ρ c) (V3_2 m ρ c b s)
      (fun k => congrFun (V3_arg m ρ c main_arg2 (by decide)) _) (V3_6 m ρ c) (V3_7 m ρ c) (V3_8 m ρ c))
    (V3_9 m ρ c) (V3_10 m ρ c b) (V3_11 m ρ c b) (V3_12 m ρ c) (V3_13 m ρ c) (V3_14 m ρ c) n

theorem V6_23 (r : Fin 16384) (n : Fin 1024) : W6 m ρ c main_v23 (ix2 r n) = outRow m c ⟨r.val / 2048, by omega⟩ ⟨r.val % 2048, by omega⟩ n := by
  refine (congrFun ((W6_arr m ρ c 7).trans (arr2 (V5 m ρ) c)) _).trans ?_
  unfold G2 outRow
  exact mlp_congr (fun k => (V5_16 m ρ c r k).trans (V4_15 m ρ c _ _ k)) (V5_17 m ρ c) (V5_18 m ρ c) (V5_19 m ρ c) (V5_20 m ρ c) (V5_21 m ρ c) (V5_22 m ρ c) n

/-- The result array, read at an index. -/
theorem result (b : Fin 8) (s : Fin 2048) (n : Fin 1024) : W7 m ρ c main_v24 (ix3 b s n) = outRow m c b s n := by
  have h : W7 m ρ c main_v24 (ix3 b s n) = W6 m ρ c main_v23 (ix2 ⟨b.val * 2048 + s.val, by omega⟩ n) := by
    unfold W7
    after_reads_at
  rw [h, V6_23]
  congr 2 <;> dsimp only <;> omega

end Cert.KernelIdeal.Arr

end
-- ==== Proof.Ref.lean ====
/- The reference's operations, read an element at a time as the row functions. -/
module

public import proofs.«01_k».proof.Proof.Rows
public import proofs.«01_k».proof.Proof.Gen.ReferenceIdeal.Read
public import Idealize.ShloMosaic.Lib.Pointwise

@[expose] public section

set_option maxRecDepth 16384

noncomputable section

namespace Cert.ReferenceIdeal.Ref

open Idealize.ShloMosaic Idealize.ShloMosaic.Pointwise
open Cert.ReferenceIdeal Cert.ReferenceIdeal.Gen Cert.ReferenceIdeal.Read Cert

variable (b : Fin 8) (s : Fin 2048)

/-- The convolution's row, normed. -/
theorem v23_at (x0 : FVec Ideal S8x2048x512 .f32) (x4 x5 : FVec Ideal S512 .f32) (c : Fin 512) : val_main_v23 (F := Ideal) x0 x4 x5 (ix3 b s c)
    = Row.ln (Ideal.ofBits .f32 0x44000000#32) (fun k => x0 (ix3 b s k)) (fun k => x4 (ix1 k)) (fun k => x5 (ix1 k)) c := by
  unfold Row.ln Row.mean
  pointwise [val_main_v23, val_main_v22, val_main_v21, val_main_v20, val_main_v19, val_main_v18, val_main_v17, val_main_v16, val_main_v15, val_main_v14, val_main_v13, val_main_cst_3, val_main_v12, val_main_v11, val_main_v10, val_main_v9, val_main_cst_2, val_main_v8, val_main_v7, val_main_cst_1, val_main_v6, val_main_v5, val_main_v4, val_main_v3, val_main_v2, val_main_cst_0, val_main_v1, val_main_v0, val_main_cst]

/-- … and through `silu`. -/
theorem v24_at (x0 : FVec Ideal S8x2048x512 .f32) (x4 x5 : FVec Ideal S512 .f32) (c : Fin 512) : val_main_v24 (F := Ideal) x0 x4 x5 (ix3 b s c)
    = Row.silu (Row.ln (Ideal.ofBits .f32 0x44000000#32) (fun k => x0 (ix3 b s k)) (fun k => x4 (ix1 k)) (fun k => x5 (ix1 k)) c) := by
  unfold Row.silu
  rw [← v23_at]
  pointwise [val_main_v24, val_main_call0_v5, val_main_call0_v4, val_main_call0_cst_0, val_main_call0_v3, val_main_call0_v2, val_main_call0_cst, val_main_call0_v1, val_main_call0_v0]

/-- … and through the group norm. -/
theorem v39_at (x0 : FVec Ideal S8x2048x512 .f32) (x4 x5 x6 : FVec Ideal S512 .f32) (c : Fin 512) : val_main_v39 (F := Ideal) x0 x4 x5 x6 (ix3 b s c)
    = Row.groupRms (fun k => val_main_v24 (F := Ideal) x0 x4 x5 (ix3 b s k)) (fun k => x6 (ix1 k)) c := by
  unfold Row.groupRms Row.groupMean
  pointwise [val_main_v39, val_main_v38, val_main_v37, val_main_v36, val_main_v35, val_main_v34, val_main_v33, val_main_v32, val_main_v31, val_main_cst_6, val_main_v30, val_main_v29, val_main_cst_5, val_main_v28, val_main_v27, val_main_cst_4, val_main_v26, val_main_v25]
  simp only [Nat.mul_comm 64]

/-- The scaled residual plus the projection of the two halves. -/
theorem v44_at (x0 x1 : FVec Ideal S8x2048x512 .f32) (x2 : FVec Ideal S8x2048x1024 .f32) (x4 x5 x6 : FVec Ideal S512 .f32) (x7 : FVec Ideal S1024x1024 .f32) (c : Fin 1024) : val_main_v44 (F := Ideal) x0 x1 x2 x4 x5 x6 x7 (ix3 b s c)
    = Row.resid (fun k => x2 (ix3 b s k)) (Row.outProj (fun k => x1 (ix3 b s k)) (fun k => val_main_v39 (F := Ideal) x0 x4 x5 x6 (ix3 b s k)) (fun k n => x7 (ix2 k n))) c := by
  unfold Row.resid Row.outProj
  pointwise [val_main_v44, val_main_v43, val_main_v42, val_main_v41, val_main_cst_7, val_main_v40, Fin.sum_univ_two_halves 512 512 rfl]

/-- The mixer's row, normed. -/
theorem v68_at (x0 x1 : FVec Ideal S8x2048x512 .f32) (x2 : FVec Ideal S8x2048x1024 .f32) (x4 x5 x6 : FVec Ideal S512 .f32) (x7 : FVec Ideal S1024x1024 .f32) (x8 x9 : FVec Ideal S1024 .f32) (c : Fin 1024) : val_main_v68 (F := Ideal) x0 x1 x2 x4 x5 x6 x7 x8 x9 (ix3 b s c)
    = Row.ln (Ideal.ofBits .f32 0x44800000#32) (fun k => val_main_v44 (F := Ideal) x0 x1 x2 x4 x5 x6 x7 (ix3 b s k)) (fun k => x8 (ix1 k)) (fun k => x9 (ix1 k)) c := by
  unfold Row.ln Row.mean
  pointwise [val_main_v68, val_main_v67, val_main_v66, val_main_v65, val_main_v64, val_main_v63, val_main_v62, val_main_v61, val_main_v60, val_main_v59, val_main_v58, val_main_cst_12, val_main_v57, val_main_v56, val_main_v55, val_main_v54, val_main_cst_11, val_main_v53, val_main_v52, val_main_cst_10, val_main_v51, val_main_v50, val_main_v49, val_main_v48, val_main_v47, val_main_cst_9, val_main_v46, val_main_v45, val_main_cst_8]

/-- The queries. -/
theorem v71_at (x0 x1 : FVec Ideal S8x2048x512 .f32) (x2 : FVec Ideal S8x2048x1024 .f32) (x4 x5 x6 : FVec Ideal S512 .f32) (x7 : FVec Ideal S1024x1024 .f32) (x8 x9 : FVec Ideal S1024 .f32) (x10 : FVec Ideal S1024x1024 .f32) (c : Fin 1024) : val_main_v71 (F := Ideal) x0 x1 x2 x4 x5 x6 x7 x8 x9 x10 (ix3 b s c) = Row.dot (fun k => val_main_v68 (F := Ideal) x0 x1 x2 x4 x5 x6 x7 x8 x9 (ix3 b s k)) (fun k n => x10 (ix2 k n)) c := by
  unfold Row.dot
  pointwise [val_main_v71]

/-- The keys and values. -/
theorem v73_at (x3 : FVec Ideal S8x256x1024 .f32) (x11 : FVec Ideal S1024x2048 .f32) (t : Fin 256) (c : Fin 2048) : val_main_v73 (F := Ideal) x3 x11 (ix3 b t c) = ∑ k : Fin 1024, x3 (ix3 b t k) * x11 (ix2 k c) := by
  pointwise [val_main_v73]

/-- The scores, scaled. -/
theorem v80_at (x0 x1 : FVec Ideal S8x2048x512 .f32) (x2 : FVec Ideal S8x2048x1024 .f32) (x3 : FVec Ideal S8x256x1024 .f32) (x4 x5 x6 : FVec Ideal S512 .f32) (x7 : FVec Ideal S1024x1024 .f32) (x8 x9 : FVec Ideal S1024 .f32) (x10 : FVec Ideal S1024x1024 .f32) (x11 : FVec Ideal S1024x2048 .f32) (h : Fin 4) (t : Fin 256) : val_main_v80 (F := Ideal) x0 x1 x2 x3 x4 x5 x6 x7 x8 x9 x10 x11 (ix4 b h s t)
    = (∑ d : Fin 256, val_main_v71 (F := Ideal) x0 x1 x2 x4 x5 x6 x7 x8 x9 x10 (ix3 b s ⟨h.val * 256 + d.val, by omega⟩) * val_main_v73 (F := Ideal) x3 x11 (ix3 b t ⟨h.val * 256 + d.val, by omega⟩)) * Ideal.ofBits .f32 0x3D800000#32 := by
  pointwise [val_main_v80, val_main_v79, val_main_cst_14, val_main_v78, val_main_v76, val_main_v74, val_main_v72]

/-- A greatest entry along the last axis, as a fold. -/
theorem top_at (X : FVec Ideal S8x4x2048x256 .f32) (h : Fin 4) :
    Host.reduce FloatOps.maximumf X (constant (F := Ideal) S_ .f32 0xFF800000#32) reducesTo_S8x4x2048x256_S8x4x2048_d3 h_S_ (ix3 b h s) = Row.top fun t => X (ix4 b h s t) := by
  unfold Row.top
  pointwise

/-- The greatest score. -/
theorem v83_at (x0 x1 : FVec Ideal S8x2048x512 .f32) (x2 : FVec Ideal S8x2048x1024 .f32) (x3 : FVec Ideal S8x256x1024 .f32) (x4 x5 x6 : FVec Ideal S512 .f32) (x7 : FVec Ideal S1024x1024 .f32) (x8 x9 : FVec Ideal S1024 .f32) (x10 : FVec Ideal S1024x1024 .f32) (x11 : FVec Ideal S1024x2048 .f32) (h : Fin 4) : val_main_v83 (F := Ideal) x0 x1 x2 x3 x4 x5 x6 x7 x8 x9 x10 x11 (ix3 b h s)
    = max (Ideal.ofBits .f32 0xFF800000#32) (Row.top fun t => val_main_v80 (F := Ideal) x0 x1 x2 x3 x4 x5 x6 x7 x8 x9 x10 x11 (ix4 b h s t)) := by
  rw [val_main_v83_apply, val_main_v82_apply, val_main_cst_16_apply]
  unfold val_main_v81 val_main_cst_15
  rw [top_at]
  rfl

/-- The attention weights. -/
theorem v91_at (x0 x1 : FVec Ideal S8x2048x512 .f32) (x2 : FVec Ideal S8x2048x1024 .f32) (x3 : FVec Ideal S8x256x1024 .f32) (x4 x5 x6 : FVec Ideal S512 .f32) (x7 : FVec Ideal S1024x1024 .f32) (x8 x9 : FVec Ideal S1024 .f32) (x10 : FVec Ideal S1024x1024 .f32) (x11 : FVec Ideal S1024x2048 .f32) (h : Fin 4) (t : Fin 256) : val_main_v91 (F := Ideal) x0 x1 x2 x3 x4 x5 x6 x7 x8 x9 x10 x11 (ix4 b h s t)
    = Ideal.div (Ideal.exp (val_main_v80 (F := Ideal) x0 x1 x2 x3 x4 x5 x6 x7 x8 x9 x10 x11 (ix4 b h s t) - val_main_v83 (F := Ideal) x0 x1 x2 x3 x4 x5 x6 x7 x8 x9 x10 x11 (ix3 b h s)))
        (∑ u : Fin 256, Ideal.exp (val_main_v80 (F := Ideal) x0 x1 x2 x3 x4 x5 x6 x7 x8 x9 x10 x11 (ix4 b h s u) - val_main_v83 (F := Ideal) x0 x1 x2 x3 x4 x5 x6 x7 x8 x9 x10 x11 (ix3 b h s))) := by
  pointwise [val_main_v91, val_main_v90, val_main_v89, val_main_v88, val_main_cst_17, val_main_v87, val_main_v86, val_main_v85, val_main_v84]

/-- The heads' outputs, side by side. -/
theorem v94_at (x0 x1 : FVec Ideal S8x2048x512 .f32) (x2 : FVec Ideal S8x2048x1024 .f32) (x3 : FVec Ideal S8x256x1024 .f32) (x4 x5 x6 : FVec Ideal S512 .f32) (x7 : FVec Ideal S1024x1024 .f32) (x8 x9 : FVec Ideal S1024 .f32) (x10 : FVec Ideal S1024x1024 .f32) (x11 : FVec Ideal S1024x2048 .f32) (c : Fin 1024) : val_main_v94 (F := Ideal) x0 x1 x2 x3 x4 x5 x6 x7 x8 x9 x10 x11 (ix3 b s c)
    = ∑ t : Fin 256, val_main_v73 (F := Ideal) x3 x11 (ix3 b t ⟨1024 + c.val, by omega⟩) * val_main_v91 (F := Ideal) x0 x1 x2 x3 x4 x5 x6 x7 x8 x9 x10 x11 (ix4 b ⟨c.val / 256, by omega⟩ s t) := by
  pointwise [val_main_v94, val_main_v93, val_main_v92, val_main_v77, val_main_v75]

/-- The scaled residual plus the projected attention. -/
theorem v96_at (x0 x1 : FVec Ideal S8x2048x512 .f32) (x2 : FVec Ideal S8x2048x1024 .f32) (x3 : FVec Ideal S8x256x1024 .f32) (x4 x5 x6 : FVec Ideal S512 .f32) (x7 : FVec Ideal S1024x1024 .f32) (x8 x9 : FVec Ideal S1024 .f32) (x10 : FVec Ideal S1024x1024 .f32) (x11 : FVec Ideal S1024x2048 .f32) (x12 : FVec Ideal S1024x1024 .f32) (c : Fin 1024) : val_main_v96 (F := Ideal) x0 x1 x2 x3 x4 x5 x6 x7 x8 x9 x10 x11 x12 (ix3 b s c)
    = Row.resid (fun k => val_main_v68 (F := Ideal) x0 x1 x2 x4 x5 x6 x7 x8 x9 (ix3 b s k)) (fun n => ∑ x : Fin 1024, val_main_v94 (F := Ideal) x0 x1 x2 x3 x4 x5 x6 x7 x8 x9 x10 x11 (ix3 b s x) * x12 (ix2 x n)) c := by
  unfold Row.resid
  pointwise [val_main_v96, val_main_v95, val_main_cst_13, val_main_v69, val_main_v70]

/-- The row after the memory attention, normed. -/
theorem v120_at (x0 x1 : FVec Ideal S8x2048x512 .f32) (x2 : FVec Ideal S8x2048x1024 .f32) (x3 : FVec Ideal S8x256x1024 .f32) (x4 x5 x6 : FVec Ideal S512 .f32) (x7 : FVec Ideal S1024x1024 .f32) (x8 x9 : FVec Ideal S1024 .f32) (x10 : FVec Ideal S1024x1024 .f32) (x11 : FVec Ideal S1024x2048 .f32) (x12 : FVec Ideal S1024x1024 .f32) (x13 x14 : FVec Ideal S1024 .f32) (c : Fin 1024) : val_main_v120 (F := Ideal) x0 x1 x2 x3 x4 x5 x6 x7 x8 x9 x10 x11 x12 x13 x14 (ix3 b s c)
    = Row.ln (Ideal.ofBits .f32 0x44800000#32) (fun k => val_main_v96 (F := Ideal) x0 x1 x2 x3 x4 x5 x6 x7 x8 x9 x10 x11 x12 (ix3 b s k)) (fun k => x13 (ix1 k)) (fun k => x14 (ix1 k)) c := by
  unfold Row.ln Row.mean
  pointwise [val_main_v120, val_main_v119, val_main_v118, val_main_v117, val_main_v116, val_main_v115, val_main_v114, val_main_v113, val_main_v112, val_main_v111, val_main_v110, val_main_cst_22, val_main_v109, val_main_v108, val_main_v107, val_main_v106, val_main_cst_21, val_main_v105, val_main_v104, val_main_cst_20, val_main_v103, val_main_v102, val_main_v101, val_main_v100, val_main_v99, val_main_cst_19, val_main_v98, val_main_v97, val_main_cst_18]

/-- The hidden units. -/
theorem v128_at (x0 x1 : FVec Ideal S8x2048x512 .f32) (x2 : FVec Ideal S8x2048x1024 .f32) (x3 : FVec Ideal S8x256x1024 .f32) (x4 x5 x6 : FVec Ideal S512 .f32) (x7 : FVec Ideal S1024x1024 .f32) (x8 x9 : FVec Ideal S1024 .f32) (x10 : FVec Ideal S1024x1024 .f32) (x11 : FVec Ideal S1024x2048 .f32) (x12 : FVec Ideal S1024x1024 .f32) (x13 x14 : FVec Ideal S1024 .f32) (x15 : FVec Ideal S1024x4096 .f32) (x16 : FVec Ideal S4096 .f32) (j : Fin 4096) : val_main_v128 (F := Ideal) x0 x1 x2 x3 x4 x5 x6 x7 x8 x9 x10 x11 x12 x13 x14 x15 x16 (ix3 b s j)
    = Row.hid (fun k => val_main_v120 (F := Ideal) x0 x1 x2 x3 x4 x5 x6 x7 x8 x9 x10 x11 x12 x13 x14 (ix3 b s k)) (fun k n => x15 (ix2 k n)) (fun n => x16 (ix1 n)) j := by
  unfold Row.hid Row.dot
  pointwise [val_main_v128, val_main_v127, val_main_call1_v0, val_main_call1_cst, val_main_v126, val_main_v125, val_main_v124, val_main_v123]

/-- The scaled residual plus the feed-forward output. -/
theorem v133_at (x0 x1 : FVec Ideal S8x2048x512 .f32) (x2 : FVec Ideal S8x2048x1024 .f32) (x3 : FVec Ideal S8x256x1024 .f32) (x4 x5 x6 : FVec Ideal S512 .f32) (x7 : FVec Ideal S1024x1024 .f32) (x8 x9 : FVec Ideal S1024 .f32) (x10 : FVec Ideal S1024x1024 .f32) (x11 : FVec Ideal S1024x2048 .f32) (x12 : FVec Ideal S1024x1024 .f32) (x13 x14 : FVec Ideal S1024 .f32) (x15 : FVec Ideal S1024x4096 .f32) (x16 : FVec Ideal S4096 .f32) (x17 : FVec Ideal S4096x1024 .f32) (x18 : FVec Ideal S1024 .f32) (c : Fin 1024) : val_main_v133 (F := Ideal) x0 x1 x2 x3 x4 x5 x6 x7 x8 x9 x10 x11 x12 x13 x14 x15 x16 x17 x18 (ix3 b s c)
    = Row.resid (fun k => val_main_v120 (F := Ideal) x0 x1 x2 x3 x4 x5 x6 x7 x8 x9 x10 x11 x12 x13 x14 (ix3 b s k)) (fun n => Row.dot (fun j => val_main_v128 (F := Ideal) x0 x1 x2 x3 x4 x5 x6 x7 x8 x9 x10 x11 x12 x13 x14 x15 x16 (ix3 b s j)) (fun k n => x17 (ix2 k n)) n + x18 (ix1 n)) c := by
  unfold Row.resid Row.dot
  pointwise [val_main_v133, val_main_v132, val_main_v131, val_main_v130, val_main_v129, val_main_cst_23, val_main_v121, val_main_v122]

/-- The result. -/
theorem v157_at (x0 x1 : FVec Ideal S8x2048x512 .f32) (x2 : FVec Ideal S8x2048x1024 .f32) (x3 : FVec Ideal S8x256x1024 .f32) (x4 x5 x6 : FVec Ideal S512 .f32) (x7 : FVec Ideal S1024x1024 .f32) (x8 x9 : FVec Ideal S1024 .f32) (x10 : FVec Ideal S1024x1024 .f32) (x11 : FVec Ideal S1024x2048 .f32) (x12 : FVec Ideal S1024x1024 .f32) (x13 x14 : FVec Ideal S1024 .f32) (x15 : FVec Ideal S1024x4096 .f32) (x16 : FVec Ideal S4096 .f32) (x17 : FVec Ideal S4096x1024 .f32) (x18 x19 x20 : FVec Ideal S1024 .f32) (c : Fin 1024) : val_main_v157 (F := Ideal) x0 x1 x2 x3 x4 x5 x6 x7 x8 x9 x10 x11 x12 x13 x14 x15 x16 x17 x18 x19 x20 (ix3 b s c)
    = Row.ln (Ideal.ofBits .f32 0x44800000#32) (fun k => val_main_v133 (F := Ideal) x0 x1 x2 x3 x4 x5 x6 x7 x8 x9 x10 x11 x12 x13 x14 x15 x16 x17 x18 (ix3 b s k)) (fun k => x19 (ix1 k)) (fun k => x20 (ix1 k)) c := by
  unfold Row.ln Row.mean
  pointwise [val_main_v157, val_main_v156, val_main_v155, val_main_v154, val_main_v153, val_main_v152, val_main_v151, val_main_v150, val_main_v149, val_main_v148, val_main_v147, val_main_cst_28, val_main_v146, val_main_v145, val_main_v144, val_main_v143, val_main_cst_27, val_main_v142, val_main_v141, val_main_cst_26, val_main_v140, val_main_v139, val_main_v138, val_main_v137, val_main_v136, val_main_cst_25, val_main_v135, val_main_v134, val_main_cst_24]

end Cert.ReferenceIdeal.Ref

end
-- ==== Proof.Reals.lean ====
/- Which row functions send real entries to real entries. -/
module

public import proofs.«01_k».proof.Proof.Rows
public import proofs.«01_k».proof.Proof.Consts

@[expose] public section

noncomputable section

namespace Cert.Row

open Idealize.ShloMosaic Cert.Consts

/-- A real number among the extended reals. -/
def IsR (x : EReal) : Prop := ∃ r : ℝ, (r : EReal) = x

theorem IsR.coe (r : ℝ) : IsR (r : EReal) := ⟨r, rfl⟩

theorem IsR.add {x y : EReal} : IsR x → IsR y → IsR (x + y) := by
  rintro ⟨a, rfl⟩ ⟨b, rfl⟩; exact ⟨a + b, EReal.coe_add a b⟩

theorem IsR.sub {x y : EReal} : IsR x → IsR y → IsR (x - y) := by
  rintro ⟨a, rfl⟩ ⟨b, rfl⟩; exact ⟨a - b, EReal.coe_sub a b⟩

theorem IsR.mul {x y : EReal} : IsR x → IsR y → IsR (x * y) := by
  rintro ⟨a, rfl⟩ ⟨b, rfl⟩; exact ⟨a * b, EReal.coe_mul a b⟩

theorem IsR.neg {x : EReal} : IsR x → IsR (-x) := by
  rintro ⟨a, rfl⟩; exact ⟨-a, EReal.coe_neg a⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.sum {ι : Type} [Fintype ι] {f : ι → EReal} (h : ∀ i, IsR (f i)) : IsR (∑ i, f i) := by
  choose g hg using h
  obtain rfl : (fun i => (g i : EReal)) = f := funext hg
  exact ⟨∑ i, g i, coe_sum _ _⟩

theorem IsR.div {x : EReal} (h : IsR x) {y : ℝ} (hy : y ≠ 0) : IsR (Ideal.div x (y : EReal)) := by
  rw [Ideal.div_coe hy]; exact h.mul (IsR.coe _)

theorem IsR.exp {x : EReal} : IsR x → ∃ r : ℝ, 0 < r ∧ (r : EReal) = Ideal.exp x := by
  rintro ⟨a, rfl⟩; exact ⟨Real.exp a, Real.exp_pos a, rfl⟩

theorem rsqrt_pos {r : ℝ} (h : 0 < r) : IsR (Ideal.rsqrt (r : EReal)) := by
  refine ⟨(Real.sqrt r)⁻¹, ?_⟩
  show _ = (if r < 0 then (⊥ : EReal) else if r = 0 then ⊤ else ((Real.sqrt r)⁻¹ : ℝ))
  rw [if_neg (not_lt.mpr h.le), if_neg h.ne']

theorem IsR.silu {z : EReal} (h : IsR z) : IsR (silu z) := by
  obtain ⟨e, he, hE⟩ := h.neg.exp
  unfold Row.silu
  rw [← hE, show (1 : EReal) + (e : EReal) = ((1 + e : ℝ) : EReal) by rw [EReal.coe_add]; rfl]
  exact h.mul ((IsR.coe 1).div (by positivity))

/-- The mean of squares of reals plus the small constant has a real inverse square root. -/
theorem rsqrt_mean {n : ℕ} {N : ℝ} (hN : 0 < N) {y : Fin n → EReal} (hy : ∀ k, IsR (y k)) :
    IsR (Ideal.rsqrt (Ideal.div (∑ k, y k * y k) (N : EReal) + Ideal.ofBits .f32 0x3727C5AC#32)) := by
  obtain ⟨e, he, hE⟩ := eps
  choose g hg using hy
  obtain rfl : (fun i => (g i : EReal)) = y := funext hg
  rw [hE, Ideal.div_coe hN.ne', show (∑ k, (g k : EReal) * (g k : EReal)) = ((∑ k, g k * g k : ℝ) : EReal) by
    rw [coe_sum]; exact Finset.sum_congr rfl fun k _ => (EReal.coe_mul _ _).symm, ← EReal.coe_mul, ← EReal.coe_add]
  refine rsqrt_pos ?_
  have h0 : 0 ≤ ∑ k, g k * g k := Finset.sum_nonneg fun k _ => mul_self_nonneg _
  have : 0 ≤ (∑ k, g k * g k) * (1 / N) := mul_nonneg h0 (by positivity)
  linarith

theorem IsR.ln {n : ℕ} {N : ℝ} (hN : 0 < N) {x g b : Fin n → EReal} (hx : ∀ k, IsR (x k)) (hg : ∀ k, IsR (g k)) (hb : ∀ k, IsR (b k)) (c : Fin n) :
    IsR (ln (N : EReal) x g b c) := by
  have hm : IsR (mean (N : EReal) x) := (IsR.sum hx).div hN.ne'
  exact ((((hx c).sub hm).mul (rsqrt_mean hN fun k => (hx k).sub hm)).mul (hg c)).add (hb c)

theorem IsR.groupRms {z g : Fin 512 → EReal} (hz : ∀ k, IsR (z k)) (hg : ∀ k, IsR (g k)) (c : Fin 512) : IsR (groupRms z g c) := by
  unfold Row.groupRms groupMean
  rw [c64]
  exact ((hz c).mul (rsqrt_mean (by norm_num) fun k => hz _)).mul (hg c)

theorem IsR.dot {n k : ℕ} {x : Fin n → EReal} {w : Fin n → Fin k → EReal} (hx : ∀ j, IsR (x j)) (hw : ∀ j c, IsR (w j c)) (c : Fin k) : IsR (dot x w c) :=
  IsR.sum fun j => (hx j).mul (hw j c)

theorem IsR.mix {conv cg cb og attn : Fin 512 → EReal} {h g b : Fin 1024 → EReal} {w : Fin 1024 → Fin 1024 → EReal}
    (hc : ∀ k, IsR (conv k)) (hcg : ∀ k, IsR (cg k)) (hcb : ∀ k, IsR (cb k)) (hog : ∀ k, IsR (og k)) (ha : ∀ k, IsR (attn k)) (hh : ∀ k, IsR (h k))
    (hw : ∀ k c, IsR (w k c)) (hg : ∀ k, IsR (g k)) (hb : ∀ k, IsR (b k)) (c : Fin 1024) : IsR (mix conv cg cb og attn h w g b c) := by
  obtain ⟨a, hA⟩ := alpha
  unfold Row.mix
  rw [c1024]
  refine IsR.ln (by norm_num) (fun k => ?_) hg hb c
  unfold resid outProj
  rw [hA, c512]
  exact ((IsR.coe a).mul (hh k)).add
    ((IsR.sum fun j => (ha j).mul (hw _ _)).add (IsR.sum fun j => (IsR.groupRms (fun i => (IsR.ln (by norm_num) hc hcg hcb i).silu) hog j).mul (hw _ _)))

/-- The greatest of real scores is real. -/
theorem IsR.top {s : Fin 256 → EReal} (hs : ∀ t, IsR (s t)) : IsR (top s) := by
  choose g hg using hs
  obtain rfl : (fun i => (g i : EReal)) = s := funext hg
  have key : ∀ S : Finset (Fin 256), Finset.fold max (⊥ : EReal) (fun i => (g i : EReal)) S = ⊥ ∧ S = ∅ ∨ IsR (Finset.fold max (⊥ : EReal) (fun i => (g i : EReal)) S) := by
    intro S
    induction S using Finset.induction_on with
    | empty => exact Or.inl ⟨Finset.fold_empty, rfl⟩
    | insert a S ha ih =>
      right
      rw [Finset.fold_insert ha]
      rcases ih with ⟨h, -⟩ | ⟨r, h⟩
      · rw [h, max_eq_left bot_le]; exact IsR.coe _
      · rw [← h]; exact ⟨max (g a) r, EReal.coe_strictMono.monotone.map_max⟩
  unfold Row.top
  rw [negInf]
  rcases key Finset.univ with ⟨-, h⟩ | h
  · exact absurd h (Finset.univ_nonempty.ne_empty)
  · exact h

/-- Multiplying a sum by a nonnegative real, term by term. -/
theorem sum_mul_real {ι : Type} (S : Finset ι) (f : ι → EReal) {r : ℝ} (hr : 0 ≤ r) : (∑ i ∈ S, f i) * (r : EReal) = ∑ i ∈ S, f i * (r : EReal) := by
  classical
  induction S using Finset.induction_on with
  | empty => simp
  | insert a S ha ih =>
    rw [Finset.sum_insert ha, Finset.sum_insert ha, EReal.right_distrib_of_nonneg_of_ne_top (EReal.coe_nonneg.mpr hr) (EReal.coe_ne_top r), ih]

/-- A weighted sum with real scores: each weight may be normalised before the sum instead of the sum after it. -/
theorem wavg_eq {s v : Fin 256 → EReal} (hs : ∀ t, IsR (s t)) :
    wavg s v = ∑ t, v t * Ideal.div (Ideal.exp (s t - max (Ideal.ofBits .f32 0xFF800000#32) (top s))) (∑ u, Ideal.exp (s u - max (Ideal.ofBits .f32 0xFF800000#32) (top s))) := by
  rw [negInf, max_eq_right bot_le]
  unfold wavg
  have he : ∀ t, ∃ r : ℝ, 0 < r ∧ (r : EReal) = Ideal.exp (s t - top s) := fun t => ((hs t).sub (IsR.top hs)).exp
  choose g hg0 hg using he
  have hl : (∑ u, Ideal.exp (s u - top s)) = ((∑ u, g u : ℝ) : EReal) := by
    rw [coe_sum]; exact Finset.sum_congr rfl fun u _ => (hg u).symm
  have hpos : 0 < ∑ u, g u := Finset.sum_pos (fun u _ => hg0 u) Finset.univ_nonempty
  rw [hl, Ideal.div_coe hpos.ne', sum_mul_real _ _ (by positivity)]
  refine Finset.sum_congr rfl fun t _ => ?_
  rw [Ideal.div_coe hpos.ne', mul_comm (Ideal.exp _) (v t), mul_assoc]

/-- Scaling the queries scales the score. -/
theorem score_eq {n : ℕ} {q k : Fin n → EReal} : (∑ d, (q d * Ideal.ofBits .f32 0x3D800000#32) * k d) = (∑ d, q d * k d) * Ideal.ofBits .f32 0x3D800000#32 := by
  rw [sixteenth, sum_mul_real _ _ (by norm_num)]
  exact Finset.sum_congr rfl fun d _ => by rw [mul_assoc, mul_comm _ (k d), mul_assoc]

end Cert.Row

end
-- ==== Proof.Equation.lean ====
/- The reference's result as the row functions of its arguments: the equation between the two programs. -/
module

public import proofs.«01_k».proof.Proof.Ref
public import proofs.«01_k».proof.Proof.Reals

@[expose] public section

set_option maxRecDepth 16384

noncomputable section

namespace Cert.ReferenceIdeal.Ref

open Idealize.ShloMosaic Idealize.ShloMosaic.Pointwise
open Cert.ReferenceIdeal Cert.ReferenceIdeal.Gen Cert.ReferenceIdeal.Read Cert Cert.Row

variable (b : Fin 8) (s : Fin 2048)

/-- The row after the mixer. -/
theorem mix_row (x0 x1 : FVec Ideal S8x2048x512 .f32) (x2 : FVec Ideal S8x2048x1024 .f32) (x4 x5 x6 : FVec Ideal S512 .f32) (x7 : FVec Ideal S1024x1024 .f32) (x8 x9 : FVec Ideal S1024 .f32) (c : Fin 1024) : val_main_v68 (F := Ideal) x0 x1 x2 x4 x5 x6 x7 x8 x9 (ix3 b s c)
    = Row.mix (fun k => x0 (ix3 b s k)) (fun k => x4 (ix1 k)) (fun k => x5 (ix1 k)) (fun k => x6 (ix1 k)) (fun k => x1 (ix3 b s k)) (fun k => x2 (ix3 b s k)) (fun k n => x7 (ix2 k n)) (fun k => x8 (ix1 k)) (fun k => x9 (ix1 k)) c := by
  rw [v68_at]
  unfold Row.mix
  simp only [v44_at, v39_at, v24_at]

/-- A scaled score, the scale moved to the query. -/
theorem score_row (x0 x1 : FVec Ideal S8x2048x512 .f32) (x2 : FVec Ideal S8x2048x1024 .f32) (x3 : FVec Ideal S8x256x1024 .f32) (x4 x5 x6 : FVec Ideal S512 .f32) (x7 : FVec Ideal S1024x1024 .f32) (x8 x9 : FVec Ideal S1024 .f32) (x10 : FVec Ideal S1024x1024 .f32) (x11 : FVec Ideal S1024x2048 .f32) (c : Fin 1024) (t : Fin 256) : val_main_v80 (F := Ideal) x0 x1 x2 x3 x4 x5 x6 x7 x8 x9 x10 x11 (ix4 b ⟨c.val / 256, by omega⟩ s t)
    = ∑ d : Fin 256, (Row.dot (fun k => val_main_v68 (F := Ideal) x0 x1 x2 x4 x5 x6 x7 x8 x9 (ix3 b s k)) (fun k n => x10 (ix2 k n)) (headCol c d) * Ideal.ofBits .f32 0x3D800000#32)
        * Row.dot (fun k => x3 (ix3 b t k)) (fun k (n : Fin 1024) => x11 (ix2 k ⟨0 + n.val, by omega⟩)) (headCol c d) := by
  rw [v80_at, score_eq]
  congr 1
  refine Finset.sum_congr rfl fun d _ => ?_
  rw [v71_at, v73_at]
  have e : (⟨c.val / 256 * 256 + d.val, by omega⟩ : Fin 1024) = headCol c d := Fin.ext (by unfold headCol; dsimp only; omega)
  have e' : (⟨c.val / 256 * 256 + d.val, by omega⟩ : Fin 2048) = ⟨0 + (headCol c d).val, by omega⟩ := Fin.ext (by unfold headCol; dsimp only; omega)
  dsimp only
  rw [e, e']
  rfl

/-- The row after the memory attention. -/
theorem mem_row (x0 x1 : FVec Ideal S8x2048x512 .f32) (x2 : FVec Ideal S8x2048x1024 .f32) (x3 : FVec Ideal S8x256x1024 .f32) (x4 x5 x6 : FVec Ideal S512 .f32) (x7 : FVec Ideal S1024x1024 .f32) (x8 x9 : FVec Ideal S1024 .f32) (x10 : FVec Ideal S1024x1024 .f32) (x11 : FVec Ideal S1024x2048 .f32) (x12 : FVec Ideal S1024x1024 .f32) (x13 x14 : FVec Ideal S1024 .f32) (h0 : ∀ i, IsR (x0 i)) (h1 : ∀ i, IsR (x1 i)) (h2 : ∀ i, IsR (x2 i)) (h3 : ∀ i, IsR (x3 i)) (h4 : ∀ i, IsR (x4 i)) (h5 : ∀ i, IsR (x5 i)) (h6 : ∀ i, IsR (x6 i)) (h7 : ∀ i, IsR (x7 i)) (h8 : ∀ i, IsR (x8 i)) (h9 : ∀ i, IsR (x9 i)) (h10 : ∀ i, IsR (x10 i)) (h11 : ∀ i, IsR (x11 i)) (c : Fin 1024) : val_main_v120 (F := Ideal) x0 x1 x2 x3 x4 x5 x6 x7 x8 x9 x10 x11 x12 x13 x14 (ix3 b s c)
    = Row.mem (Row.mix (fun k => x0 (ix3 b s k)) (fun k => x4 (ix1 k)) (fun k => x5 (ix1 k)) (fun k => x6 (ix1 k)) (fun k => x1 (ix3 b s k)) (fun k => x2 (ix3 b s k)) (fun k n => x7 (ix2 k n)) (fun k => x8 (ix1 k)) (fun k => x9 (ix1 k))) (fun k n => x10 (ix2 k n))
      (fun t => Row.dot (fun k => x3 (ix3 b t k)) (fun k (n : Fin 1024) => x11 (ix2 k ⟨0 + n.val, by omega⟩)))
      (fun t => Row.dot (fun k => x3 (ix3 b t k)) (fun k (n : Fin 1024) => x11 (ix2 k ⟨1024 + n.val, by omega⟩)))
      (fun k n => x12 (ix2 k n)) (fun k => x13 (ix1 k)) (fun k => x14 (ix1 k)) c := by
  have hm : ∀ k, IsR (Row.mix (fun k => x0 (ix3 b s k)) (fun k => x4 (ix1 k)) (fun k => x5 (ix1 k)) (fun k => x6 (ix1 k)) (fun k => x1 (ix3 b s k)) (fun k => x2 (ix3 b s k)) (fun k n => x7 (ix2 k n)) (fun k => x8 (ix1 k)) (fun k => x9 (ix1 k)) k) := IsR.mix (fun _ => h0 _) (fun _ => h4 _) (fun _ => h5 _) (fun _ => h6 _) (fun _ => h1 _) (fun _ => h2 _) (fun _ _ => h7 _) (fun _ => h8 _) (fun _ => h9 _)
  rw [v120_at]
  unfold Row.mem
  congr 1
  funext k
  rw [v96_at]
  simp only [mix_row]
  congr 1
  funext n
  unfold Row.memAttn
  refine Finset.sum_congr rfl fun x _ => ?_
  congr 1
  rw [wavg_eq (fun t => IsR.sum fun d => ((IsR.dot hm (fun _ _ => h10 _) _).mul (by rw [Consts.sixteenth]; exact IsR.coe _)).mul (IsR.dot (fun _ => h3 _) (fun _ _ => h11 _) _)), v94_at]
  refine Finset.sum_congr rfl fun t _ => ?_
  rw [v91_at, v83_at, v73_at]
  simp only [score_row, mix_row]
  rfl

/-- The result's row. -/
theorem out_row (x0 x1 : FVec Ideal S8x2048x512 .f32) (x2 : FVec Ideal S8x2048x1024 .f32) (x3 : FVec Ideal S8x256x1024 .f32) (x4 x5 x6 : FVec Ideal S512 .f32) (x7 : FVec Ideal S1024x1024 .f32) (x8 x9 : FVec Ideal S1024 .f32) (x10 : FVec Ideal S1024x1024 .f32) (x11 : FVec Ideal S1024x2048 .f32) (x12 : FVec Ideal S1024x1024 .f32) (x13 x14 : FVec Ideal S1024 .f32) (x15 : FVec Ideal S1024x4096 .f32) (x16 : FVec Ideal S4096 .f32) (x17 : FVec Ideal S4096x1024 .f32) (x18 x19 x20 : FVec Ideal S1024 .f32) (h0 : ∀ i, IsR (x0 i)) (h1 : ∀ i, IsR (x1 i)) (h2 : ∀ i, IsR (x2 i)) (h3 : ∀ i, IsR (x3 i)) (h4 : ∀ i, IsR (x4 i)) (h5 : ∀ i, IsR (x5 i)) (h6 : ∀ i, IsR (x6 i)) (h7 : ∀ i, IsR (x7 i)) (h8 : ∀ i, IsR (x8 i)) (h9 : ∀ i, IsR (x9 i)) (h10 : ∀ i, IsR (x10 i)) (h11 : ∀ i, IsR (x11 i)) (c : Fin 1024) : val_main_v157 (F := Ideal) x0 x1 x2 x3 x4 x5 x6 x7 x8 x9 x10 x11 x12 x13 x14 x15 x16 x17 x18 x19 x20 (ix3 b s c)
    = Row.mlp (Row.mem (Row.mix (fun k => x0 (ix3 b s k)) (fun k => x4 (ix1 k)) (fun k => x5 (ix1 k)) (fun k => x6 (ix1 k)) (fun k => x1 (ix3 b s k)) (fun k => x2 (ix3 b s k)) (fun k n => x7 (ix2 k n)) (fun k => x8 (ix1 k)) (fun k => x9 (ix1 k))) (fun k n => x10 (ix2 k n))
      (fun t => Row.dot (fun k => x3 (ix3 b t k)) (fun k (n : Fin 1024) => x11 (ix2 k ⟨0 + n.val, by omega⟩)))
      (fun t => Row.dot (fun k => x3 (ix3 b t k)) (fun k (n : Fin 1024) => x11 (ix2 k ⟨1024 + n.val, by omega⟩)))
      (fun k n => x12 (ix2 k n)) (fun k => x13 (ix1 k)) (fun k => x14 (ix1 k))) (fun k n => x15 (ix2 k n)) (fun k => x16 (ix1 k)) (fun k n => x17 (ix2 k n)) (fun k => x18 (ix1 k)) (fun k => x19 (ix1 k)) (fun k => x20 (ix1 k)) c := by
  rw [v157_at]
  unfold Row.mlp
  simp only [v133_at, v128_at, mem_row b s x0 x1 x2 x3 x4 x5 x6 x7 x8 x9 x10 x11 x12 x13 x14 h0 h1 h2 h3 h4 h5 h6 h7 h8 h9 h10 h11]

end Cert.ReferenceIdeal.Ref

end
-- ==== Proof.Pre.lean ====
/- What the precondition gives: every entry of the arrays it names is a real number. -/
module

public import proofs.«01_k».proof.Proof.Reals
public import proofs.«01_k».proof.Pre_finite
public import Idealize.ShloMosaic.Lib.ReduceAll
public import Idealize.ShloMosaic.Lib.Pointwise

@[expose] public section

noncomputable section

namespace Cert.Pre_finite

open Idealize.ShloMosaic Cert.Row Cert.Consts

theorem andi_both {S : Shape} (a b : IVec S 1) (j : S.Idx) (h : andi a b j = 1#1) : a j = 1#1 ∧ b j = 1#1 := by
  have h' : IntOp.andi (a j) (b j) = 1#1 := h
  revert h'
  generalize a j = p
  generalize b j = q
  revert p q
  decide

/-- An entry whose size is below infinity is real. -/
theorem isR_of_all {S T : Shape} {d : List (Fin S.rank)} (x : FVec Ideal S .f32) (bc : S_.BroadcastsInDim S (![] : Fin 0 → Fin S.rank)) (red : S.ReducesTo d T) (hu : 0 < S_.numel)
    (hT : Subsingleton T.Idx) (j : T.Idx)
    (e : Host.reduce IntOp.andi (cmpf .olt (Host.absf x) (broadcastInDim S ![] bc (constant (F := Ideal) S_ .f32 0x7F800000#32))) (constantI S_ 1 1#1) red hu j = 1#1) (i : S.Idx) : IsR (x i) := by
  have h := Host.reduce_andi_all _ _ red hu j e i
  have h2 : (cmpf .olt (Host.absf x) (broadcastInDim S ![] bc (constant (F := Ideal) S_ .f32 0x7F800000#32))) i = BitVec.ofBool (decide (max (x i) (-(x i)) < (⊤ : EReal))) := by
    rw [← posInf]
    rfl
  rw [h2] at h
  have h3 : max (x i) (-(x i)) < (⊤ : EReal) := by
    by_contra hc
    rw [decide_eq_false hc] at h
    exact absurd h (by decide)
  have h4 := max_lt_iff.mp h3
  induction hx : x i using EReal.rec with
  | bot => rw [hx] at h4; exact absurd h4.2 (by simp)
  | top => rw [hx] at h4; exact absurd h4.1 (by simp)
  | coe r => exact IsR.coe r

variable [Facts]
open Facts

/-- The named arrays' entries are real where the precondition holds. -/
theorem real_of_pre (a0 : FVec Ideal S8x2048x512 .f32) (a1 : FVec Ideal S8x2048x512 .f32) (a2 : FVec Ideal S8x2048x1024 .f32) (a3 : FVec Ideal S8x256x1024 .f32) (a4 : FVec Ideal S512 .f32) (a5 : FVec Ideal S512 .f32) (a6 : FVec Ideal S512 .f32) (a7 : FVec Ideal S1024x1024 .f32) (a8 : FVec Ideal S1024 .f32) (a9 : FVec Ideal S1024 .f32) (a10 : FVec Ideal S1024x1024 .f32) (a11 : FVec Ideal S1024x2048 .f32) (a12 : FVec Ideal S1024x1024 .f32) (a13 : FVec Ideal S1024 .f32) (a14 : FVec Ideal S1024 .f32) (a15 : FVec Ideal S1024x4096 .f32) (a16 : FVec Ideal S4096 .f32) (a17 : FVec Ideal S4096x1024 .f32) (a18 : FVec Ideal S1024 .f32) (a19 : FVec Ideal S1024 .f32) (a20 : FVec Ideal S1024 .f32)
    (h : fn (F := Ideal) a0 a1 a2 a3 a4 a5 a6 a7 a8 a9 a10 a11 a12 a13 a14 a15 a16 a17 a18 a19 a20 = fun _ => 1#1) :
    (∀ i, IsR (a0 i)) ∧ (∀ i, IsR (a1 i)) ∧ (∀ i, IsR (a2 i)) ∧ (∀ i, IsR (a3 i)) ∧ (∀ i, IsR (a4 i)) ∧ (∀ i, IsR (a5 i)) ∧ (∀ i, IsR (a6 i)) ∧ (∀ i, IsR (a7 i)) ∧ (∀ i, IsR (a8 i)) ∧ (∀ i, IsR (a9 i)) ∧ (∀ i, IsR (a10 i)) ∧ (∀ i, IsR (a11 i)) := by
  have hT : Subsingleton S_.Idx := ⟨fun x y => funext fun a => a.elim0⟩
  have e := congrFun h (fun a => a.elim0 : S_.Idx)
  dsimp only [fn, fn_part1, fn_part2, fn_part3] at e
  obtain ⟨e, e11⟩ := andi_both _ _ _ e
  obtain ⟨e, e10⟩ := andi_both _ _ _ e
  obtain ⟨e, e9⟩ := andi_both _ _ _ e
  obtain ⟨e, e8⟩ := andi_both _ _ _ e
  obtain ⟨e, e7⟩ := andi_both _ _ _ e
  obtain ⟨e, e6⟩ := andi_both _ _ _ e
  obtain ⟨e, e5⟩ := andi_both _ _ _ e
  obtain ⟨e, e4⟩ := andi_both _ _ _ e
  obtain ⟨e, e3⟩ := andi_both _ _ _ e
  obtain ⟨e, e2⟩ := andi_both _ _ _ e
  obtain ⟨e, e1⟩ := andi_both _ _ _ e
  exact ⟨isR_of_all _ _ _ _ hT _ e, isR_of_all _ _ _ _ hT _ e1, isR_of_all _ _ _ _ hT _ e2, isR_of_all _ _ _ _ hT _ e3, isR_of_all _ _ _ _ hT _ e4, isR_of_all _ _ _ _ hT _ e5, isR_of_all _ _ _ _ hT _ e6, isR_of_all _ _ _ _ hT _ e7, isR_of_all _ _ _ _ hT _ e8, isR_of_all _ _ _ _ hT _ e9, isR_of_all _ _ _ _ hT _ e10, isR_of_all _ _ _ _ hT _ e11⟩

end Cert.Pre_finite

end
-- ==== Proof.AttnRow.lean ====
/- The self-attention, one head and one query row at a time. -/
module

public import Idealize.ShloMosaic.PureOps.Ideal

@[expose] public section

noncomputable section

namespace Cert.Attn

open Idealize.ShloMosaic

/-- The greatest of 2048 scores. -/
def top (s : Fin 2048 → EReal) : EReal := Finset.fold max (Ideal.ofBits .f32 0xFF800000#32) s Finset.univ

/-- A key row's weight: the exponential of its score less the greatest, over the sum of these exponentials. -/
def wgt (s : Fin 2048 → EReal) (t : Fin 2048) : EReal :=
  Ideal.div (Ideal.exp (s t - max (Ideal.ofBits .f32 0xFF800000#32) (top s))) (∑ u, Ideal.exp (s u - max (Ideal.ofBits .f32 0xFF800000#32) (top s)))

/-- The weighted sum of `v`. -/
def soft (s v : Fin 2048 → EReal) : EReal := ∑ t, v t * wgt s t

/-- The root-mean-square norm of a head's 64 entries. -/
def rms (o : Fin 64 → EReal) (d : Fin 64) : EReal :=
  o d * Ideal.rsqrt (Ideal.div (∑ k, o k * o k) (Ideal.ofBits .f32 0x42800000#32) + Ideal.ofBits .f32 0x3727C5AC#32)

/-- One head's row of the attention: the scores of a query row against the key rows, an eighth of each, softmax, the
    weighted values, the norm. -/
def head (q : Fin 64 → EReal) (k v : Fin 2048 → Fin 64 → EReal) (d : Fin 64) : EReal :=
  rms (fun d => soft (fun t => (∑ j, k t j * q j) * Ideal.ofBits .f32 0x3E000000#32) (fun t => v t d)) d

/-- A weight: two to the score of a query row and a key row. -/
def wt {n : ℕ} (a k : Fin n → EReal) : EReal := Ideal.exp2 (∑ j, a j * k j)

/-- The weighted values over the summed weights. -/
def avg {n : ℕ} (a : Fin n → EReal) (k : Fin 2048 → Fin n → EReal) (v w : Fin 2048 → EReal) : EReal :=
  Ideal.div (∑ s, wt a (k s) * v s) (∑ s, wt a (k s) * w s)

end Cert.Attn

end
-- ==== Proof.AttnPiece.lean ====
/- The self-attention call: one stored tile (256 query rows by the 128 lanes of two heads) as a function of the query
   lanes, the keys, the values and the gain, read entry by entry. -/
module

public import proofs.«01_k».proof.Proof.AttnRow
public import proofs.«01_k».proof.Proof.Gen.AttentionIdeal
public import Idealize.ShloMosaic.Lib.Pointwise

@[expose] public section

set_option maxRecDepth 65536

noncomputable section

namespace Cert.AttentionIdeal.Piece

open Cert.Attn Cert.AttentionIdeal Cert.AttentionIdeal.Gen Idealize.ShloMosaic Idealize.SL.Sem

variable {F : FTy → Type} [FloatOps F]

/-- One head: the exponentials of its scores, the weighted values over the sum of the weights, and the root-mean-square
    norm of each row. -/
def half (a : FVec F S256x128 .bf16) (k : FVec F S2048x128 .bf16) (v : FVec F S2048x256 .bf16) : FVec F S256x128 .f32 :=
  have p : FVec F S256x2048 .f32 :=
    exp2 (matmul dot_S256x128_S2048x128_S256x2048_1_1_0_0_n_n none a k (constant S256x2048 .f32 0x00000000#32))
  have r : FVec F S256x256 .f32 :=
    matmul dot_S256x2048_S2048x256_S256x256_1_0_0_1_n_n none p v (constant S256x256 .f32 0x00000000#32)
  have o : FVec F S256x128 .f32 := divf (extractStridedSlice S256x128 ![0, 0] r slices_S256x256_o0_0_S256x128)
    (extractStridedSlice S256x128 ![0, 128] r slices_S256x256_o0_128_S256x128)
  have s : FVec F S256 .f32 := multiReduction .add [1] S256 (mulf o o) 0x00000000#32 reduces_S256x128_S256 (.inl rfl) rfl
  have ms : FVec F S256x1 .f32 := divf (shapeCast S256x1 s shapeCasts_S256_S256x1) (broadcast S256x1 (Scalar.ofBits .f32 0x43000000#32))
  mulf o (broadcastTo S256x128 (rsqrt (addf ms (broadcast S256x1 (Scalar.ofBits .f32 0x3727C5AC#32)))) broadcasts_S256x1_S256x128)

/-- The stored tile: the low lanes' head from the queries' low lanes, the high lanes' head from their high lanes (the
    other lanes replaced by `zl` and `zh`), times the gain. -/
def piece (q : FVec F S256x128 .bf16) (k : FVec F S2048x128 .bf16) (v : FVec F S2048x256 .bf16) (lo : IVec S256x128 1)
    (zl zh : FVec F S256x128 .bf16) (g : Vec F S1x128 .f32) : FVec F S1x256x128 .bf16 :=
  shapeCast S1x256x128 (truncf .bf16 (mulf (select lo (half (select lo q zl) k v) (half (select lo zh q) k v))
    (broadcastTo S256x128 (shapeCast S1x128 g shapeCasts_S1x128_S1x128) broadcasts_S1x128_S256x128)) bitsLt_bf16_f32) shapeCasts_S256x128_S1x256x128

/-- A head's tile, an entry at a time. -/
theorem half_apply (a : FVec Ideal S256x128 .bf16) (k : FVec Ideal S2048x128 .bf16) (v : FVec Ideal S2048x256 .bf16) (r : Fin 256) (l : Fin 128) :
    half a k v (ix2 r l)
      = avg (fun j : Fin 128 => a (ix2 r j)) (fun s j => k (ix2 s j)) (fun s => v (ix2 s ⟨l.val, by omega⟩)) (fun s => v (ix2 s ⟨128 + l.val, by omega⟩))
        * Ideal.rsqrt (Ideal.div (∑ l' : Fin 128,
            avg (fun j : Fin 128 => a (ix2 r j)) (fun s j => k (ix2 s j)) (fun s => v (ix2 s ⟨l'.val, by omega⟩)) (fun s => v (ix2 s ⟨128 + l'.val, by omega⟩))
            * avg (fun j : Fin 128 => a (ix2 r j)) (fun s j => k (ix2 s j)) (fun s => v (ix2 s ⟨l'.val, by omega⟩)) (fun s => v (ix2 s ⟨128 + l'.val, by omega⟩)))
            (Ideal.ofBits .f32 0x43000000#32) + Ideal.ofBits .f32 0x3727C5AC#32) := by
  unfold half avg wt
  pointwise
  rfl

/-- The stored tile, an entry at a time: the head whose lane it is, times the gain. -/
theorem piece_apply (q : FVec Ideal S256x128 .bf16) (k : FVec Ideal S2048x128 .bf16) (v : FVec Ideal S2048x256 .bf16) (lo : IVec S256x128 1)
    (zl zh : FVec Ideal S256x128 .bf16) (g : Vec Ideal S1x128 .f32) (r : Fin 256) (l : Fin 128) :
    piece q k v lo zl zh g (ix3 (0 : Fin 1) r l)
      = (if lo (ix2 r l) = 1#1 then half (select lo q zl) k v (ix2 r l) else half (select lo zh q) k v (ix2 r l)) * g (ix2 (0 : Fin 1) l) := by
  unfold piece
  pointwise
  rfl

end Cert.AttentionIdeal.Piece

end
-- ==== Proof.AttnReals.lean ====
/- The equation of the self-attention: for real queries, keys and values, two to the scores (the logarithm's base folded
   into the queries' scale, no greatest score taken away) weighs the values as the softmax does. -/
module

public import proofs.«01_k».proof.Proof.AttnRow
public import proofs.«01_k».proof.Proof.Reals

@[expose] public section

noncomputable section

namespace Cert.Attn

open Idealize.ShloMosaic Cert.Consts Cert.Row

/-- The greatest of real scores is real. -/
theorem top_real (g : Fin 2048 → ℝ) : ∃ m : ℝ, (m : EReal) = top fun t => (g t : EReal) := by
  have key : ∀ S : Finset (Fin 2048), S = ∅ ∨ IsR (Finset.fold max (⊥ : EReal) (fun i => (g i : EReal)) S) := by
    intro S
    induction S using Finset.induction_on with
    | empty => exact Or.inl rfl
    | insert a S ha ih =>
      right
      rw [Finset.fold_insert ha]
      rcases ih with rfl | ⟨r, h⟩
      · rw [Finset.fold_empty, max_eq_left bot_le]; exact IsR.coe _
      · rw [← h]; exact ⟨max (g a) r, EReal.coe_strictMono.monotone.map_max⟩
  unfold top
  rw [negInf]
  rcases key Finset.univ with h | h
  · exact absurd h (Finset.univ_nonempty.ne_empty)
  · exact h

theorem eighth : Ideal.ofBits .f32 0x3E000000#32 = ((1 / 8 : ℝ) : EReal) := by
  simp [Ideal.ofBits, Ideal.ieee, -EReal.coe_mul]; norm_num

theorem c128 : Ideal.ofBits .f32 0x43000000#32 = ((128 : ℝ) : EReal) := by
  simp [Ideal.ofBits, Ideal.ieee, -EReal.coe_mul]; norm_num

/-- The queries' scale: an eighth, over the logarithm of two. -/
def scale : EReal := (((1 / 8) * (Real.log 2)⁻¹ : ℝ) : EReal)

/-- Two to a scaled real score is the exponential of an eighth of the score. -/
theorem exp2_scale (x : ℝ) : Ideal.exp2 ((x : EReal) * scale) = ((Real.exp (x * (1 / 8)) : ℝ) : EReal) := by
  unfold scale
  rw [← EReal.coe_mul, Ideal.exp2_coe]
  have h2 : Real.log 2 ≠ 0 := (Real.log_pos (by norm_num)).ne'
  congr 1
  show (2 : ℝ) ^ (x * (1 / 8 * (Real.log 2)⁻¹)) = Real.exp (x * (1 / 8))
  rw [Real.rpow_def_of_pos (by norm_num)]
  congr 1
  field_simp

/-- The softmax-weighted sum of reals. -/
def wsum (x v : Fin 2048 → ℝ) : ℝ := (∑ t, Real.exp (x t * (1 / 8)) * v t) * (1 / ∑ t, Real.exp (x t * (1 / 8)))

theorem soft_real (x v : Fin 2048 → ℝ) :
    soft (fun t => (x t : EReal) * Ideal.ofBits .f32 0x3E000000#32) (fun t => (v t : EReal)) = (wsum x v : EReal) := by
  simp only [eighth, ← EReal.coe_mul]
  obtain ⟨m, hm⟩ := top_real fun t => x t * (1 / 8)
  have he : ∀ t, Ideal.exp (((x t * (1 / 8) : ℝ) : EReal) - max (Ideal.ofBits .f32 0xFF800000#32) (top fun t => ((x t * (1 / 8) : ℝ) : EReal)))
      = ((Real.exp (x t * (1 / 8)) * Real.exp (-m) : ℝ) : EReal) := fun t => by
    rw [negInf, max_eq_right bot_le, ← hm, ← EReal.coe_sub, sub_eq_add_neg, ← Real.exp_add]; rfl
  unfold soft wgt wsum
  simp only [he]
  have hs : 0 < ∑ t, Real.exp (x t * (1 / 8)) := Finset.sum_pos (fun u _ => Real.exp_pos _) Finset.univ_nonempty
  have hm0 := Real.exp_pos (-m)
  rw [← coe_sum Finset.univ fun t => Real.exp (x t * (1 / 8)) * Real.exp (-m), ← Finset.sum_mul]
  have hne : (∑ t, Real.exp (x t * (1 / 8))) * Real.exp (-m) ≠ 0 := (mul_pos hs hm0).ne'
  simp only [Ideal.div_coe hne, ← EReal.coe_mul, ← coe_sum]
  congr 1
  refine Eq.trans (Finset.sum_congr rfl fun t _ => ?_) (Finset.sum_mul _ _ _).symm
  field_simp

theorem avg_real {n : ℕ} (a : Fin n → EReal) (k : Fin 2048 → Fin n → EReal) (x v : Fin 2048 → ℝ)
    (hx : ∀ t, ∑ j, a j * k t j = (x t : EReal) * scale) :
    avg a k (fun t => (v t : EReal)) (fun _ => 1) = (wsum x v : EReal) := by
  unfold avg wt wsum
  simp only [hx, exp2_scale, mul_one, ← EReal.coe_mul, ← coe_sum]
  have hs : 0 < ∑ t, Real.exp (x t * (1 / 8)) := Finset.sum_pos (fun u _ => Real.exp_pos _) Finset.univ_nonempty
  rw [Ideal.div_coe hs.ne', ← EReal.coe_mul]

/-- A sum over 128 lanes, by its two halves of 64. -/
theorem sum_halves (f : Fin 128 → EReal) : ∑ l, f l = (∑ j : Fin 64, f ⟨j.val, by omega⟩) + ∑ j : Fin 64, f ⟨64 + j.val, by omega⟩ :=
  Fin.sum_univ_add (a := 64) (b := 64) f

/-- The mean of 128 squares, each of 64 twice, is the mean of the 64. -/
theorem mean_twice (o : Fin 64 → EReal) (ho : ∀ d, IsR (o d)) :
    Ideal.div (∑ l : Fin 128, o ⟨l.val % 64, by omega⟩ * o ⟨l.val % 64, by omega⟩) (Ideal.ofBits .f32 0x43000000#32)
      = Ideal.div (∑ k, o k * o k) (Ideal.ofBits .f32 0x42800000#32) := by
  choose g hg using ho
  obtain rfl : (fun i => (g i : EReal)) = o := funext hg
  have e1 : ∀ j : Fin 64, (⟨j.val % 64, by omega⟩ : Fin 64) = j := fun j => Fin.ext (by simp only; omega)
  have e2 : ∀ j : Fin 64, (⟨(64 + j.val) % 64, by omega⟩ : Fin 64) = j := fun j => Fin.ext (by simp only; omega)
  rw [sum_halves]
  simp only [e1, e2, c128, c64, ← EReal.coe_mul, ← coe_sum, ← EReal.coe_add]
  rw [Ideal.div_coe (by norm_num), Ideal.div_coe (by norm_num), ← EReal.coe_mul, ← EReal.coe_mul]
  congr 1
  ring

/-- The kernel's row of a head, from lanes that hold each value twice, is the attention's. -/
theorem head_eq {n : ℕ} (a : Fin n → EReal) (kk : Fin 2048 → Fin n → EReal) (q : Fin 64 → EReal) (k v : Fin 2048 → Fin 64 → EReal) (l : Fin 128)
    (hq : ∀ j, IsR (q j)) (hk : ∀ t j, IsR (k t j)) (hv : ∀ t j, IsR (v t j))
    (hs : ∀ t, ∑ j, a j * kk t j = ∑ j, q j * scale * k t j) :
    avg a kk (fun t => v t ⟨l.val % 64, by omega⟩) (fun _ => 1)
        * Ideal.rsqrt (Ideal.div (∑ l' : Fin 128, avg a kk (fun t => v t ⟨l'.val % 64, by omega⟩) (fun _ => 1)
            * avg a kk (fun t => v t ⟨l'.val % 64, by omega⟩) (fun _ => 1)) (Ideal.ofBits .f32 0x43000000#32) + Ideal.ofBits .f32 0x3727C5AC#32)
      = head q k v ⟨l.val % 64, by omega⟩ := by
  choose qr hqr using hq
  choose kr hkr using hk
  choose vr hvr using hv
  obtain rfl : (fun j => (qr j : EReal)) = q := funext hqr
  obtain rfl : (fun t j => (kr t j : EReal)) = k := funext fun t => funext (hkr t)
  obtain rfl : (fun t j => (vr t j : EReal)) = v := funext fun t => funext (hvr t)
  have hx : ∀ t, ∑ j, a j * kk t j = ((∑ j, kr t j * qr j : ℝ) : EReal) * scale := fun t => by
    rw [hs]
    unfold scale
    simp only [← EReal.coe_mul, ← coe_sum]
    congr 1
    rw [Finset.sum_mul]
    exact Finset.sum_congr rfl fun j _ => by ring
  have ha : ∀ d : Fin 64, avg a kk (fun t => (vr t d : EReal)) (fun _ => 1) = (wsum (fun t => ∑ j, kr t j * qr j) (fun t => vr t d) : EReal) :=
    fun d => avg_real a kk (fun t => ∑ j, kr t j * qr j) (fun t => vr t d) hx
  unfold head rms
  have hr : ∀ d : Fin 64, soft (fun t => (∑ j, (kr t j : EReal) * (qr j : EReal)) * Ideal.ofBits .f32 0x3E000000#32) (fun t => (vr t d : EReal))
      = (wsum (fun t => ∑ j, kr t j * qr j) (fun t => vr t d) : EReal) := fun d => by
    rw [← soft_real]
    simp only [← EReal.coe_mul, ← coe_sum]
  simp only [ha, hr]
  rw [mean_twice (fun d => (wsum (fun t => ∑ j, kr t j * qr j) (fun t => vr t d) : EReal)) (fun d => IsR.coe _)]

end Cert.Attn

end
-- ==== Proof.AttnHead.lean ====
/- A stored tile is the attention of its two heads. -/
module

public import proofs.«01_k».proof.Proof.AttnPiece
public import proofs.«01_k».proof.Proof.AttnReals

@[expose] public section

noncomputable section

namespace Cert.AttentionIdeal.Piece

open Cert.Attn Cert.AttentionIdeal Cert.AttentionIdeal.Gen Idealize.ShloMosaic Idealize.SL.Sem

/-- What a tile's operands hold, for one query row: the scaled queries of two heads, the keys and the values twice, ones. -/
structure Holds (q : FVec Ideal S256x128 .bf16) (k : FVec Ideal S2048x128 .bf16) (v : FVec Ideal S2048x256 .bf16) (lo : IVec S256x128 1)
    (r : Fin 256) (Q : Fin 128 → EReal) (K V : Fin 2048 → Fin 64 → EReal) : Prop where
  q_at : ∀ j, q (ix2 r j) = Q j * scale
  k_at : ∀ s (j : Fin 128), k (ix2 s j) = K s ⟨j.val % 64, by omega⟩
  v_at : ∀ s (j : Fin 128), v (ix2 s ⟨j.val, by omega⟩) = V s ⟨j.val % 64, by omega⟩
  one_at : ∀ s (j : Fin 128), v (ix2 s ⟨128 + j.val, by omega⟩) = 1
  lo_at : ∀ j : Fin 128, lo (ix2 r j) = BitVec.ofBool (decide (j.val < 64))
  q_real : ∀ j, Row.IsR (Q j)
  k_real : ∀ s j, Row.IsR (K s j)
  v_real : ∀ s j, Row.IsR (V s j)

variable {q : FVec Ideal S256x128 .bf16} {k : FVec Ideal S2048x128 .bf16} {v : FVec Ideal S2048x256 .bf16} {lo : IVec S256x128 1}
  {r : Fin 256} {Q : Fin 128 → EReal} {K V : Fin 2048 → Fin 64 → EReal}

/-- A head's tile, for lanes `a` whose products with the keys are the head's scaled scores. -/
theorem half_head (H : Holds q k v lo r Q K V) (a : FVec Ideal S256x128 .bf16) (A : Fin 64 → EReal) (hA : ∀ j, Row.IsR (A j)) (l : Fin 128)
    (hs : ∀ t, ∑ j : Fin 128, a (ix2 r j) * K t ⟨j.val % 64, by omega⟩ = ∑ j, A j * scale * K t j) :
    half a k v (ix2 r l) = head A K V ⟨l.val % 64, by omega⟩ := by
  rw [half_apply]
  simp only [H.k_at, H.v_at, H.one_at]
  exact head_eq _ _ A K V l hA H.k_real H.v_real hs

theorem sel_lo (H : Holds q k v lo r Q K V) (x y : FVec Ideal S256x128 .bf16) (j : Fin 128) :
    select lo x y (ix2 r j) = if j.val < 64 then x (ix2 r j) else y (ix2 r j) := by
  show (if lo (ix2 r j) = 1#1 then x (ix2 r j) else y (ix2 r j)) = _
  rw [H.lo_at]
  by_cases h : j.val < 64 <;> simp [h]

/-- The tile's entry: the attention of the head whose lane it is, times the gain. -/
theorem piece_head (H : Holds q k v lo r Q K V) (zl zh : FVec Ideal S256x128 .bf16) (hzl : ∀ i, zl i = 0) (hzh : ∀ i, zh i = 0)
    (g : Vec Ideal S1x128 .f32) (l : Fin 128) :
    piece q k v lo zl zh g (ix3 (0 : Fin 1) r l)
      = head (fun j => Q ⟨64 * (l.val / 64) + j.val, by omega⟩) K V ⟨l.val % 64, by omega⟩ * g (ix2 (0 : Fin 1) l) := by
  rw [piece_apply, H.lo_at]
  congr 1
  have e1 : ∀ j : Fin 64, (⟨j.val % 64, by omega⟩ : Fin 64) = j := fun j => Fin.ext (by show j.val % 64 = j.val; omega)
  have e2 : ∀ j : Fin 64, (⟨(64 + j.val) % 64, by omega⟩ : Fin 64) = j := fun j => Fin.ext (by show (64 + j.val) % 64 = j.val; omega)
  have hlt : ∀ j : Fin 64, (j.val < 64) = True := fun j => eq_true j.isLt
  have hge : ∀ j : Fin 64, (64 + j.val < 64) = False := fun j => eq_false (by omega)
  by_cases h : l.val < 64
  · have e : l.val / 64 = 0 := by omega
    rw [if_pos (by simp [h])]
    refine half_head H _ _ (fun j => H.q_real _) l fun t => ?_
    rw [sum_halves]
    simp only [sel_lo H, hlt, hge, if_true, if_false, hzl, zero_mul, Finset.sum_const_zero, add_zero, H.q_at, e1, e, Nat.mul_zero, Nat.zero_add]
  · have e : l.val / 64 = 1 := by omega
    rw [if_neg (by simp [h])]
    refine half_head H _ _ (fun j => H.q_real _) l fun t => ?_
    rw [sum_halves]
    simp only [sel_lo H, hlt, hge, if_true, if_false, hzh, zero_mul, Finset.sum_const_zero, zero_add, H.q_at, e2, e, Nat.mul_one]

end Cert.AttentionIdeal.Piece

end
-- ==== Proof.AttnTile.lean ====
/- One tile, and the block, of what the self-attention call stores: eight tiles of 256 query rows by the 128 lanes of two heads,
   each `piece` of the block's queries, keys, values and gain, read entry by entry. -/
module

public import proofs.«01_k».proof.Proof.AttnHead
public import proofs.«01_k».proof.Proof.Gen.AttentionIdeal.Frame.Runs

@[expose] public section

set_option maxRecDepth 65536

noncomputable section

namespace Cert.AttentionIdeal.Block

open Cert.Attn Cert.AttentionIdeal Cert.AttentionIdeal.Gen Cert.AttentionIdeal.Piece Idealize.ShloMosaic Idealize.SL.Sem

/-- A head that is never selected reads zero: no lane index reaches `128 + j` for the grid coordinate `j`. -/
theorem never_zero (i : grid0.Coords) (Z : FVec Ideal S256x128 .f32) (h : FTy.bits .bf16 < FTy.bits .f32) (y : S256x128.Idx) :
    truncf (F := Ideal) .bf16 (select (k0_pay41 i) Z (broadcast S256x128 (Scalar.ofBits .f32 0x00000000#32))) h y = 0 := by
  have key : ∀ (j : Fin 2) (l : Fin 128), IntOp.cmpi .sge (BitVec.ofNat 32 l.val) (Scalar.addi 128#32 (BitVec.ofNat 32 j.val)) = 0#1 := by decide
  idx_vars y
  have hn : k0_pay41 i (ix2 y0 y1) = 0#1 := by
    unfold k0_pay41
    pointwise
    exact key (i 2) y1
  show (if k0_pay41 i (ix2 y0 y1) = 1#1 then Z (ix2 y0 y1) else Ideal.ofBits .f32 0x00000000#32) = 0
  rw [hn, if_neg (by decide)]
  exact Ideal.ofBits_zero .f32

/-- A tile of zeros reads zero. -/
theorem plain_zero (h : FTy.bits .bf16 < FTy.bits .f32) (y : S256x128.Idx) :
    truncf (F := Ideal) .bf16 (broadcast S256x128 (Scalar.ofBits .f32 0x00000000#32)) h y = 0 := Ideal.ofBits_zero .f32

theorem lo_at (r : Fin 256) (l : Fin 128) : k0_pay40 (ix2 r l) = BitVec.ofBool (decide (l.val < 64)) := by
  have key : ∀ (l : Fin 128), IntOp.cmpi .slt (BitVec.ofNat 32 l.val) 64#32 = BitVec.ofBool (decide (l.val < 64)) := by decide
  unfold k0_pay40
  pointwise
  exact key l

theorem q_at (q : Vec Ideal S1x1024x256 .f32) (r : Fin 1024) (n : Fin 256) : k0_pay37 q (ix2 r n) = q (ix3 0 r n) * scale := by
  unfold k0_pay37
  pointwise
  rfl

theorem k_at (k : Vec Ideal S1x2048x128 .bf16) (s : Fin 2048) (n : Fin 128) : k0_pay38 k (ix2 s n) = k (ix3 0 s n) := by
  unfold k0_pay38
  pointwise

theorem v_at (v : Vec Ideal S1x2048x256 .bf16) (s : Fin 2048) (n : Fin 256) : k0_pay39 v (ix2 s n) = v (ix3 0 s n) := by
  unfold k0_pay39
  pointwise

/-- The block's entry at a row and a lane, from the block's queries, the keys and values of its kv head, and the gain. -/
def entry (q : Vec Ideal S1x1024x256 .f32) (K V : Fin 2048 → Fin 64 → EReal) (g : Fin 256 → EReal) (R : Fin 1024) (C : Fin 256) : EReal :=
  head (fun j : Fin 64 => q (ix3 0 R ⟨64 * (C.val / 64) + j.val, by omega⟩)) K V ⟨C.val % 64, by omega⟩ * g C

/-- What the block's arguments are: keys repeated over the lanes, values followed by ones, and every number real. -/
structure Args (q : Vec Ideal S1x1024x256 .f32) (k : Vec Ideal S1x2048x128 .bf16) (v : Vec Ideal S1x2048x256 .bf16)
    (K V : Fin 2048 → Fin 64 → EReal) : Prop where
  k_at : ∀ s (n : Fin 128), k (ix3 0 s n) = K s ⟨n.val % 64, by omega⟩
  v_at : ∀ s (n : Fin 256), v (ix3 0 s n) = if n.val < 128 then V s ⟨n.val % 64, by omega⟩ else 1
  q_real : ∀ i, Row.IsR (q i)
  k_real : ∀ s j, Row.IsR (K s j)
  v_real : ∀ s j, Row.IsR (V s j)

variable {q : Vec Ideal S1x1024x256 .f32} {k : Vec Ideal S1x2048x128 .bf16} {v : Vec Ideal S1x2048x256 .bf16} {K V : Fin 2048 → Fin 64 → EReal}

/-- One stored tile's entry is the block's entry at its row and lane. -/
theorem tile_at (H : Args q k v K V) (rb lb : ℕ) (hrb : rb ≤ 768) (hlb : lb = 0 ∨ lb = 128) (a z z' : FVec Ideal S256x128 .bf16)
    (ha : ∀ (r : Fin 256) (l : Fin 128), a (ix2 r l) = q (ix3 0 ⟨rb + r.val, by omega⟩ ⟨lb + l.val, by omega⟩) * scale)
    (hz : ∀ y, z y = 0) (hz' : ∀ y, z' y = 0) (gt : Vec Ideal S1x128 .f32) (g : Fin 256 → EReal)
    (hg : ∀ l : Fin 128, gt (ix2 0 l) = g ⟨lb + l.val, by omega⟩) (r : Fin 256) (l : Fin 128) :
    piece a (k0_pay38 k) (k0_pay39 v) k0_pay40 z z' gt (ix3 (0 : Fin 1) r l)
      = entry q K V g ⟨rb + r.val, by omega⟩ ⟨lb + l.val, by omega⟩ := by
  have hh : Holds a (k0_pay38 k) (k0_pay39 v) k0_pay40 r (fun j => q (ix3 0 ⟨rb + r.val, by omega⟩ ⟨lb + j.val, by omega⟩)) K V :=
    { q_at := fun j => ha r j
      k_at := fun s j => (Block.k_at k s j).trans (H.k_at s j)
      v_at := fun s j => ((Block.v_at v s _).trans (H.v_at s _)).trans (if_pos j.isLt)
      one_at := fun s j => ((Block.v_at v s _).trans (H.v_at s _)).trans (if_neg (by show ¬ 128 + j.val < 128; omega))
      lo_at := fun j => Block.lo_at r j
      q_real := fun j => H.q_real _
      k_real := H.k_real
      v_real := H.v_real }
  rw [piece_head hh z z' hz hz', hg]
  unfold entry
  have e1 : ∀ j : Fin 64, lb + (64 * (l.val / 64) + j.val) = 64 * ((lb + l.val) / 64) + j.val := fun j => by omega
  have e2 : (⟨l.val % 64, by omega⟩ : Fin 64) = ⟨(lb + l.val) % 64, by omega⟩ := Fin.ext (by show l.val % 64 = (lb + l.val) % 64; omega)
  simp only [e1, e2]

theorem slice_at (q : Vec Ideal S1x1024x256 .f32) (rb lb : ℕ) (h : Idealize.ShloMosaic.Shape.Slices S1024x256 ![rb, lb] S256x128) (r : Fin 256) (l : Fin 128) (h1 : rb + r.val < 1024) (h2 : lb + l.val < 256) :
    extractStridedSlice S256x128 ![rb, lb] (k0_pay37 q) h (ix2 r l) = q (ix3 0 ⟨rb + r.val, h1⟩ ⟨lb + l.val, h2⟩) * scale := by
  refine Eq.trans (congrArg (k0_pay37 q) (funext fun a => ?_)) (q_at q ⟨rb + r.val, h1⟩ ⟨lb + l.val, h2⟩)
  fin_cases a <;> rfl

theorem entry_at {g : Fin 256 → EReal} {R R' : Fin 1024} {C C' : Fin 256} (hR : R.val = R'.val) (hC : C.val = C'.val) :
    entry q K V g R C = entry q K V g R' C' := by
  rw [Fin.ext hR, Fin.ext hC]

/-- The eight stores, from the block's queries, keys, values and the gain of each pair of heads. -/
def Tiles (L : List (View.Piece (Elt Ideal) S1x1024x256 .bf16)) (q : Vec Ideal S1x1024x256 .f32) (k : Vec Ideal S1x2048x128 .bf16)
    (v : Vec Ideal S1x2048x256 .bf16) (g0 g1 : Vec Ideal S1x128 .f32) : Prop :=
  ∃ z1 z2 z3 z4 z5 z6 z7 z8 z9 z10 z11 z12 z13 z14 z15 z16 : FVec Ideal S256x128 .bf16,
    L = [
      ⟨Rect.unit ![0, 768, 128] S1x256x128.size inb_S1x1024x256_S1x256x128_0_768_128,
        piece (extractStridedSlice S256x128 ![768, 128] (k0_pay37 q) slices_S1024x256_o768_128_S256x128) (k0_pay38 k) (k0_pay39 v) k0_pay40 z1 z2 g1⟩,
      ⟨Rect.unit ![0, 768, 0] S1x256x128.size inb_S1x1024x256_S1x256x128_0_768_0,
        piece (extractStridedSlice S256x128 ![768, 0] (k0_pay37 q) slices_S1024x256_o768_0_S256x128) (k0_pay38 k) (k0_pay39 v) k0_pay40 z3 z4 g0⟩,
      ⟨Rect.unit ![0, 512, 128] S1x256x128.size inb_S1x1024x256_S1x256x128_0_512_128,
        piece (extractStridedSlice S256x128 ![512, 128] (k0_pay37 q) slices_S1024x256_o512_128_S256x128) (k0_pay38 k) (k0_pay39 v) k0_pay40 z5 z6 g1⟩,
      ⟨Rect.unit ![0, 512, 0] S1x256x128.size inb_S1x1024x256_S1x256x128_0_512_0,
        piece (extractStridedSlice S256x128 ![512, 0] (k0_pay37 q) slices_S1024x256_o512_0_S256x128) (k0_pay38 k) (k0_pay39 v) k0_pay40 z7 z8 g0⟩,
      ⟨Rect.unit ![0, 256, 128] S1x256x128.size inb_S1x1024x256_S1x256x128_0_256_128,
        piece (extractStridedSlice S256x128 ![256, 128] (k0_pay37 q) slices_S1024x256_o256_128_S256x128) (k0_pay38 k) (k0_pay39 v) k0_pay40 z9 z10 g1⟩,
      ⟨Rect.unit ![0, 256, 0] S1x256x128.size inb_S1x1024x256_S1x256x128_0_256_0,
        piece (extractStridedSlice S256x128 ![256, 0] (k0_pay37 q) slices_S1024x256_o256_0_S256x128) (k0_pay38 k) (k0_pay39 v) k0_pay40 z11 z12 g0⟩,
      ⟨Rect.unit ![0, 0, 128] S1x256x128.size inb_S1x1024x256_S1x256x128_0_0_128,
        piece (extractStridedSlice S256x128 ![0, 128] (k0_pay37 q) slices_S1024x256_o0_128_S256x128) (k0_pay38 k) (k0_pay39 v) k0_pay40 z13 z14 g1⟩,
      ⟨Rect.unit ![0, 0, 0] S1x256x128.size inb_S1x1024x256_S1x256x128_0_0_0,
        piece (extractStridedSlice S256x128 ![0, 0] (k0_pay37 q) slices_S1024x256_o0_0_S256x128) (k0_pay38 k) (k0_pay39 v) k0_pay40 z15 z16 g0⟩]
    ∧ (∀ y, z1 y = 0) ∧ (∀ y, z2 y = 0) ∧ (∀ y, z3 y = 0) ∧ (∀ y, z4 y = 0) ∧ (∀ y, z5 y = 0) ∧ (∀ y, z6 y = 0) ∧ (∀ y, z7 y = 0) ∧ (∀ y, z8 y = 0) ∧ (∀ y, z9 y = 0) ∧ (∀ y, z10 y = 0) ∧ (∀ y, z11 y = 0) ∧ (∀ y, z12 y = 0) ∧ (∀ y, z13 y = 0) ∧ (∀ y, z14 y = 0) ∧ (∀ y, z15 y = 0) ∧ (∀ y, z16 y = 0)

/-- The block the eight stores leave, an entry at a time. -/
theorem canon_at (H : Args q k v K V) {L : List (View.Piece (Elt Ideal) S1x1024x256 .bf16)} {g0 g1 : Vec Ideal S1x128 .f32} (hT : Tiles L q k v g0 g1)
    (g : Fin 256 → EReal) (h0 : ∀ l : Fin 128, g0 (ix2 0 l) = g ⟨l.val, by omega⟩) (h1 : ∀ l : Fin 128, g1 (ix2 0 l) = g ⟨128 + l.val, by omega⟩)
    (hcov : ∀ y : S1x1024x256.Idx, ∃ p ∈ L, y ∈ p.1.set) (R : Fin 1024) (C : Fin 256) :
    View.canon (Val := Elt Ideal) L (ix3 0 R C) = entry q K V g R C := by
  obtain ⟨z1, z2, z3, z4, z5, z6, z7, z8, z9, z10, z11, z12, z13, z14, z15, z16, rfl, hz1, hz2, hz3, hz4, hz5, hz6, hz7, hz8, hz9, hz10, hz11, hz12, hz13, hz14, hz15, hz16⟩ := hT
  have h0' : ∀ l : Fin 128, g0 (ix2 0 l) = g ⟨0 + l.val, by omega⟩ := fun l => (h0 l).trans (congrArg g (Fin.ext (by simp)))
  refine View.canon_apply_of_pieces (Val := Elt Ideal) (fun y : S1x1024x256.Idx => entry q K V g (y 1) (y 2)) _ ?_ (ix3 0 R C) (hcov _)
  simp only [List.mem_cons, List.not_mem_nil, or_false, forall_eq_or_imp, forall_eq]
  refine ⟨fun y => ?_, fun y => ?_, fun y => ?_, fun y => ?_, fun y => ?_, fun y => ?_, fun y => ?_, fun y => ?_⟩ <;>
    (idx_vars y; obtain rfl : y0 = 0 := Subsingleton.elim _ _)
  · refine (tile_at H 768 128 (by omega) (by omega) _ z1 z2 (fun r l => ?_) hz1 hz2 g1 g h1 y1 y2).trans ?_
    · exact slice_at q 768 128 _ r l _ _
    · exact entry_at (by simp [Rect.emb_apply]) (by simp [Rect.emb_apply])
  · refine (tile_at H 768 0 (by omega) (by omega) _ z3 z4 (fun r l => ?_) hz3 hz4 g0 g h0' y1 y2).trans ?_
    · exact slice_at q 768 0 _ r l _ _
    · exact entry_at (by simp [Rect.emb_apply]) (by simp [Rect.emb_apply])
  · refine (tile_at H 512 128 (by omega) (by omega) _ z5 z6 (fun r l => ?_) hz5 hz6 g1 g h1 y1 y2).trans ?_
    · exact slice_at q 512 128 _ r l _ _
    · exact entry_at (by simp [Rect.emb_apply]) (by simp [Rect.emb_apply])
  · refine (tile_at H 512 0 (by omega) (by omega) _ z7 z8 (fun r l => ?_) hz7 hz8 g0 g h0' y1 y2).trans ?_
    · exact slice_at q 512 0 _ r l _ _
    · exact entry_at (by simp [Rect.emb_apply]) (by simp [Rect.emb_apply])
  · refine (tile_at H 256 128 (by omega) (by omega) _ z9 z10 (fun r l => ?_) hz9 hz10 g1 g h1 y1 y2).trans ?_
    · exact slice_at q 256 128 _ r l _ _
    · exact entry_at (by simp [Rect.emb_apply]) (by simp [Rect.emb_apply])
  · refine (tile_at H 256 0 (by omega) (by omega) _ z11 z12 (fun r l => ?_) hz11 hz12 g0 g h0' y1 y2).trans ?_
    · exact slice_at q 256 0 _ r l _ _
    · exact entry_at (by simp [Rect.emb_apply]) (by simp [Rect.emb_apply])
  · refine (tile_at H 0 128 (by omega) (by omega) _ z13 z14 (fun r l => ?_) hz13 hz14 g1 g h1 y1 y2).trans ?_
    · exact slice_at q 0 128 _ r l _ _
    · exact entry_at (by simp [Rect.emb_apply]) (by simp [Rect.emb_apply])
  · refine (tile_at H 0 0 (by omega) (by omega) _ z15 z16 (fun r l => ?_) hz15 hz16 g0 g h0' y1 y2).trans ?_
    · exact slice_at q 0 0 _ r l _ _
    · exact entry_at (by simp [Rect.emb_apply]) (by simp [Rect.emb_apply])

end Cert.AttentionIdeal.Block

end
-- ==== Proof.AttnBlock.lean ====
/- The pieces the self-attention call stores in its output's block, whatever the grid step: eight tiles of 256 query rows by
   the 128 lanes of two heads, each `piece` of the block's queries, keys, values and gain. -/
module

public import proofs.«01_k».proof.Proof.AttnTile
public import proofs.«01_k».proof.Proof.Gen.AttentionIdeal.Frame.RunA
public import proofs.«01_k».proof.Proof.Gen.AttentionIdeal.Frame.RunB

@[expose] public section

set_option maxRecDepth 65536

noncomputable section

namespace Cert.AttentionIdeal.Block

open Cert.Attn Cert.AttentionIdeal Cert.AttentionIdeal.Gen Cert.AttentionIdeal.Piece Idealize.ShloMosaic Idealize.SL.Sem

variable (c : Dev nD) (i : grid0.Coords) (arg3 : Memref sig .tc .vmem S1x1024x256 .f32) (harg3 : arg3.IsWhole) (arg4 : Memref sig .tc .vmem S1x2048x128 .bf16) (harg4 : arg4.IsWhole) (arg5 : Memref sig .tc .vmem S1x2048x256 .bf16) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S31x256 .f32) (harg8 : arg8.IsWhole) (arg9 : Memref sig .tc .vmem S1x256 .f32) (harg9 : arg9.IsWhole) (arg10 : Memref sig .tc .vmem S1x1024x256 .bf16) (harg10 : arg10.IsWhole) (arg11 : Memref sig .tc .vmem S1x1024x256 .f32) (harg11 : arg11.IsWhole) (arg12 : Memref sig .tc .vmem S2080x256 .f32) (harg12 : arg12.IsWhole) (arg13 : Memref sig .tc .vmem S31x8x256 .f32) (harg13 : arg13.IsWhole)
  (x0 : Vec Ideal S1x1024x256 .f32) (x1 : Vec Ideal S1x2048x128 .bf16) (x2 : Vec Ideal S1x2048x256 .bf16) (x3 : Vec Ideal S1x256 .f32) (x4 : Vec Ideal S1x2048x256 .f32) (x5 : Vec Ideal S31x256 .f32) (x6 : Vec Ideal S1x256 .f32)

theorem tiles_A (hc0 : cond0_0 i) : Tiles (kernelRun0_A c i arg3 harg3 arg4 harg4 arg5 harg5 arg6 harg6 arg7 harg7 arg8 harg8 arg9 harg9 arg10 harg10 arg11 harg11 arg12 harg12 arg13 harg13 hc0 x0 x1 x2 x3 x4 x5 x6).1
    (arg3.view.readAt (Elt Ideal) (Rect.unit ![0, 0, 0] S1x1024x256.size inb_S1x1024x256_S1x1024x256_0_0_0).toLoadRect (harg3.unread x0))
    (arg4.view.readAt (Elt Ideal) (Rect.unit ![0, 0, 0] S1x2048x128.size inb_S1x2048x128_S1x2048x128_0_0_0).toLoadRect (harg4.unread x1))
    (arg5.view.readAt (Elt Ideal) (Rect.unit ![0, 0, 0] S1x2048x256.size inb_S1x2048x256_S1x2048x256_0_0_0).toLoadRect (harg5.unread x2))
    (arg6.view.readAt (Elt Ideal) (Rect.unit (s := S1x256) ![0, 0] S1x128.size inb_S1x256_S1x128_0_0).toLoadRect (harg6.unread x3))
    (arg6.view.readAt (Elt Ideal) (Rect.unit (s := S1x256) ![0, 128] S1x128.size inb_S1x256_S1x128_0_128).toLoadRect (harg6.unread x3)) := by
  refine ⟨_, _, _, _, _, _, _, _, _, _, _, _, _, _, _, _, rfl, ?_⟩
  refine ⟨?_, ?_, ?_, ?_, ?_, ?_, ?_, ?_, ?_, ?_, ?_, ?_, ?_, ?_, ?_, ?_⟩ <;> first | exact never_zero i _ _ | exact plain_zero _

theorem tiles_B (hc0 : ¬cond0_0 i) (xs0 : Vec Ideal S2080x256 .f32) (xs1 : Vec Ideal S31x8x256 .f32) : Tiles (kernelRun0_B c i arg3 harg3 arg4 harg4 arg5 harg5 arg6 harg6 arg7 harg7 arg8 harg8 arg9 harg9 arg10 harg10 arg11 harg11 arg12 harg12 arg13 harg13 hc0 x0 x1 x2 x3 x4 x5 x6 xs0 xs1).1
    (arg3.view.readAt (Elt Ideal) (Rect.unit ![0, 0, 0] S1x1024x256.size inb_S1x1024x256_S1x1024x256_0_0_0).toLoadRect (harg3.unread x0))
    (arg4.view.readAt (Elt Ideal) (Rect.unit ![0, 0, 0] S1x2048x128.size inb_S1x2048x128_S1x2048x128_0_0_0).toLoadRect (harg4.unread x1))
    (arg5.view.readAt (Elt Ideal) (Rect.unit ![0, 0, 0] S1x2048x256.size inb_S1x2048x256_S1x2048x256_0_0_0).toLoadRect (harg5.unread x2))
    (arg6.view.readAt (Elt Ideal) (Rect.unit (s := S1x256) ![0, 0] S1x128.size inb_S1x256_S1x128_0_0).toLoadRect (harg6.unread x3))
    (arg6.view.readAt (Elt Ideal) (Rect.unit (s := S1x256) ![0, 128] S1x128.size inb_S1x256_S1x128_0_128).toLoadRect (harg6.unread x3)) := by
  refine ⟨_, _, _, _, _, _, _, _, _, _, _, _, _, _, _, _, rfl, ?_⟩
  refine ⟨?_, ?_, ?_, ?_, ?_, ?_, ?_, ?_, ?_, ?_, ?_, ?_, ?_, ?_, ?_, ?_⟩ <;> first | exact never_zero i _ _ | exact plain_zero _

end Cert.AttentionIdeal.Block

end
-- ==== Proof.AttnOut.lean ====
/- The block the self-attention call leaves in its output, at each grid step. -/
module

public import proofs.«01_k».proof.Proof.AttnBlock
public import proofs.«01_k».proof.Proof.Gen.AttentionIdeal.Frame

@[expose] public section

set_option maxRecDepth 65536

noncomputable section

namespace Cert.AttentionIdeal.Block

open Cert.Attn Cert.AttentionIdeal Cert.AttentionIdeal.Gen Cert.AttentionIdeal.Piece Idealize.ShloMosaic Idealize.SL.Sem

theorem load_q {m : Memref sig .tc .vmem S1x1024x256 .f32} (h : m.IsWhole) (X : Vec Ideal S1x1024x256 .f32) :
    m.view.readAt (Elt Ideal) (Rect.unit ![0, 0, 0] S1x1024x256.size inb_S1x1024x256_S1x1024x256_0_0_0).toLoadRect (h.unread X) = X := by
  rw [View.readAt_eq_ld, h.read_unread]
  funext y
  refine congrArg X (funext fun a => Fin.ext ?_)
  fin_cases a <;> simp [LoadRect.idx_apply]

theorem load_k {m : Memref sig .tc .vmem S1x2048x128 .bf16} (h : m.IsWhole) (X : Vec Ideal S1x2048x128 .bf16) :
    m.view.readAt (Elt Ideal) (Rect.unit ![0, 0, 0] S1x2048x128.size inb_S1x2048x128_S1x2048x128_0_0_0).toLoadRect (h.unread X) = X := by
  rw [View.readAt_eq_ld, h.read_unread]
  funext y
  refine congrArg X (funext fun a => Fin.ext ?_)
  fin_cases a <;> simp [LoadRect.idx_apply]

theorem load_v {m : Memref sig .tc .vmem S1x2048x256 .bf16} (h : m.IsWhole) (X : Vec Ideal S1x2048x256 .bf16) :
    m.view.readAt (Elt Ideal) (Rect.unit ![0, 0, 0] S1x2048x256.size inb_S1x2048x256_S1x2048x256_0_0_0).toLoadRect (h.unread X) = X := by
  rw [View.readAt_eq_ld, h.read_unread]
  funext y
  refine congrArg X (funext fun a => Fin.ext ?_)
  fin_cases a <;> simp [LoadRect.idx_apply]

/-- The gain of the first pair of heads. -/
theorem load_g0 {m : Memref sig .tc .vmem S1x256 .f32} (h : m.IsWhole) (X : Vec Ideal S1x256 .f32) (l : Fin 128) :
    m.view.readAt (Elt Ideal) (Rect.unit (s := S1x256) ![0, 0] S1x128.size inb_S1x256_S1x128_0_0).toLoadRect (h.unread X) (ix2 0 l)
      = X (ix2 0 ⟨l.val, by omega⟩) := by
  rw [View.readAt_eq_ld, h.read_unread]
  refine congrArg X (funext fun a => Fin.ext ?_)
  fin_cases a <;> simp [LoadRect.idx_apply]

/-- The gain of the second pair of heads. -/
theorem load_g1 {m : Memref sig .tc .vmem S1x256 .f32} (h : m.IsWhole) (X : Vec Ideal S1x256 .f32) (l : Fin 128) :
    m.view.readAt (Elt Ideal) (Rect.unit (s := S1x256) ![0, 128] S1x128.size inb_S1x256_S1x128_0_128).toLoadRect (h.unread X) (ix2 0 l)
      = X (ix2 0 ⟨128 + l.val, by omega⟩) := by
  rw [View.readAt_eq_ld, h.read_unread]
  refine congrArg X (funext fun a => Fin.ext ?_)
  fin_cases a <;> simp [LoadRect.idx_apply]

/-- The stored block, from the block's arguments. -/
theorem left_at {L : List (View.Piece (Elt Ideal) S1x1024x256 .bf16)} {arg3 : Memref sig .tc .vmem S1x1024x256 .f32} (harg3 : arg3.IsWhole)
    {arg4 : Memref sig .tc .vmem S1x2048x128 .bf16} (harg4 : arg4.IsWhole) {arg5 : Memref sig .tc .vmem S1x2048x256 .bf16} (harg5 : arg5.IsWhole)
    {arg6 : Memref sig .tc .vmem S1x256 .f32} (harg6 : arg6.IsWhole)
    {x0 : Vec Ideal S1x1024x256 .f32} {x1 : Vec Ideal S1x2048x128 .bf16} {x2 : Vec Ideal S1x2048x256 .bf16} {x3 : Vec Ideal S1x256 .f32}
    {K V : Fin 2048 → Fin 64 → EReal} (H : Args x0 x1 x2 K V)
    (hT : Tiles L
    (arg3.view.readAt (Elt Ideal) (Rect.unit ![0, 0, 0] S1x1024x256.size inb_S1x1024x256_S1x1024x256_0_0_0).toLoadRect (harg3.unread x0))
    (arg4.view.readAt (Elt Ideal) (Rect.unit ![0, 0, 0] S1x2048x128.size inb_S1x2048x128_S1x2048x128_0_0_0).toLoadRect (harg4.unread x1))
    (arg5.view.readAt (Elt Ideal) (Rect.unit ![0, 0, 0] S1x2048x256.size inb_S1x2048x256_S1x2048x256_0_0_0).toLoadRect (harg5.unread x2))
    (arg6.view.readAt (Elt Ideal) (Rect.unit (s := S1x256) ![0, 0] S1x128.size inb_S1x256_S1x128_0_0).toLoadRect (harg6.unread x3))
    (arg6.view.readAt (Elt Ideal) (Rect.unit (s := S1x256) ![0, 128] S1x128.size inb_S1x256_S1x128_0_128).toLoadRect (harg6.unread x3)))
    (hcov : ∀ y : S1x1024x256.Idx, ∃ p ∈ L, y ∈ p.1.set) (R : Fin 1024) (C : Fin 256) :
    VO0_7.read (Elt Ideal) (VO0_7.writes (Elt Ideal) VO0_7.junk L) (ix3 0 R C) = entry x0 K V (fun n => x3 (ix2 0 n)) R C := by
  rw [View.read_writes_junk_eq_canon]
  rw [load_q harg3, load_k harg4, load_v harg5] at hT
  exact canon_at H hT _ (load_g0 harg6 x3) (load_g1 harg6 x3) hcov R C

variable (c : Dev nD) (i : grid0.Coords) (arg3 : Memref sig .tc .vmem S1x1024x256 .f32) (harg3 : arg3.IsWhole) (arg4 : Memref sig .tc .vmem S1x2048x128 .bf16) (harg4 : arg4.IsWhole) (arg5 : Memref sig .tc .vmem S1x2048x256 .bf16) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S31x256 .f32) (harg8 : arg8.IsWhole) (arg9 : Memref sig .tc .vmem S1x256 .f32) (harg9 : arg9.IsWhole) (arg10 : Memref sig .tc .vmem S1x1024x256 .bf16) (harg10 : arg10.IsWhole) (arg11 : Memref sig .tc .vmem S1x1024x256 .f32) (harg11 : arg11.IsWhole) (arg12 : Memref sig .tc .vmem S2080x256 .f32) (harg12 : arg12.IsWhole) (arg13 : Memref sig .tc .vmem S31x8x256 .f32) (harg13 : arg13.IsWhole)
  (x0 : Vec Ideal S1x1024x256 .f32) (x1 : Vec Ideal S1x2048x128 .bf16) (x2 : Vec Ideal S1x2048x256 .bf16) (x3 : Vec Ideal S1x256 .f32) (x4 : Vec Ideal S1x2048x256 .f32) (x5 : Vec Ideal S31x256 .f32) (x6 : Vec Ideal S1x256 .f32)

theorem out_A (hc0 : cond0_0 i) (K V : Fin 2048 → Fin 64 → EReal) (H : Args x0 x1 x2 K V) (R : Fin 1024) (C : Fin 256) :
    out0_A_7 c i arg3 harg3 arg4 harg4 arg5 harg5 arg6 harg6 arg7 harg7 arg8 harg8 arg9 harg9 arg10 harg10 arg11 harg11 arg12 harg12 arg13 harg13 hc0 x0 x1 x2 x3 x4 x5 x6 (ix3 0 R C) = entry x0 K V (fun n => x3 (ix2 0 n)) R C :=
  left_at harg3 harg4 harg5 harg6 H (tiles_A c i arg3 harg3 arg4 harg4 arg5 harg5 arg6 harg6 arg7 harg7 arg8 harg8 arg9 harg9 arg10 harg10 arg11 harg11 arg12 harg12 arg13 harg13 x0 x1 x2 x3 x4 x5 x6 hc0) (cover0_A_7 c i arg3 harg3 arg4 harg4 arg5 harg5 arg6 harg6 arg7 harg7 arg8 harg8 arg9 harg9 arg10 harg10 arg11 harg11 arg12 harg12 arg13 harg13 hc0 x0 x1 x2 x3 x4 x5 x6) R C

theorem out_B (hc0 : ¬cond0_0 i) (xs0 : Vec Ideal S2080x256 .f32) (xs1 : Vec Ideal S31x8x256 .f32) (K V : Fin 2048 → Fin 64 → EReal) (H : Args x0 x1 x2 K V) (R : Fin 1024) (C : Fin 256) :
    out0_B_7 c i arg3 harg3 arg4 harg4 arg5 harg5 arg6 harg6 arg7 harg7 arg8 harg8 arg9 harg9 arg10 harg10 arg11 harg11 arg12 harg12 arg13 harg13 hc0 x0 x1 x2 x3 x4 x5 x6 xs0 xs1 (ix3 0 R C) = entry x0 K V (fun n => x3 (ix2 0 n)) R C :=
  left_at harg3 harg4 harg5 harg6 H (tiles_B c i arg3 harg3 arg4 harg4 arg5 harg5 arg6 harg6 arg7 harg7 arg8 harg8 arg9 harg9 arg10 harg10 arg11 harg11 arg12 harg12 arg13 harg13 x0 x1 x2 x3 x4 x5 x6 hc0 xs0 xs1) (cover0_B_7 c i arg3 harg3 arg4 harg4 arg5 harg5 arg6 harg6 arg7 harg7 arg8 harg8 arg9 harg9 arg10 harg10 arg11 harg11 arg12 harg12 arg13 harg13 hc0 x0 x1 x2 x3 x4 x5 x6 xs0 xs1) R C

end Cert.AttentionIdeal.Block

end
-- ==== Proof.AttnHost.lean ====
/- The self-attention call: the arrays the host prepares for it, read at an index from the arguments. -/
module

public import proofs.«01_k».proof.Proof.Gen.AttentionIdeal.Launch
public import Idealize.ShloMosaic.Lib.Pointwise
public import Idealize.ShloMosaic.Lib.Pipeline.ValueKit
public import Idealize.ShloMosaic.Lib.StableHlo.ReadAt

@[expose] public section

set_option maxRecDepth 16384

noncomputable section

namespace Cert.AttentionIdeal.Host

open Idealize.ShloMosaic Idealize.ShloMosaic.TcCoe Idealize.ShloMosaic.Tactic Idealize.ShloMosaic.Pointwise
open Cert.AttentionIdeal Cert.AttentionIdeal.Gen

variable (m : (ℓ : Loc nD τ sig) → Buf (Elt Ideal) ℓ) (c : Dev nD)

/-- The queries' heads side by side. -/
theorem v0_at (b : Fin 8) (s : Fin 2048) (n : Fin 512) :
    StableHlo.after hostOps0 (fun b => m (c, b)) main_v0 (ix3 b s n) = m ((c : Thread nD τ).loc main_arg0) (ix4 b s ⟨n.val / 64, by omega⟩ ⟨n.val % 64, by omega⟩) := by
  after_reads_at

/-- Each key head twice. -/
theorem v3_at (b : Fin 8) (s : Fin 2048) (n : Fin 256) :
    StableHlo.after hostOps0 (fun b => m (c, b)) main_v3 (ix3 b s n) = m ((c : Thread nD τ).loc main_arg1) (ix4 b s ⟨n.val / 128, by omega⟩ ⟨n.val % 64, by omega⟩) := by
  after_reads_at
  by_cases h : n.val % 128 < 64
  · rw [dif_pos h]
    exact congrArg (fun z => m ((c : Thread nD τ).loc main_arg1) (ix4 b s ⟨n.val / 128, by omega⟩ z)) (Fin.ext (by show n.val % 128 = n.val % 64; omega))
  · rw [dif_neg h]
    exact congrArg (fun z => m ((c : Thread nD τ).loc main_arg1) (ix4 b s ⟨n.val / 128, by omega⟩ z)) (Fin.ext (by show n.val % 128 - 64 = n.val % 64; omega))

theorem v4_at (b : Fin 8) (s : Fin 2048) (h : Fin 2) (n : Fin 128) :
    StableHlo.upto hostOps0 (fun b => m (c, b)) 6 (Proc.tc.devRef main_v4) (ix4 b s h n) = (1 : EReal) := by
  after_reads_at

/-- Each value head twice, and 128 ones. -/
theorem v7_at (b : Fin 8) (s : Fin 2048) (n : Fin 512) :
    StableHlo.after hostOps0 (fun b => m (c, b)) main_v7 (ix3 b s n)
      = if n.val % 256 < 128 then m ((c : Thread nD τ).loc main_arg2) (ix4 b s ⟨n.val / 256, by omega⟩ ⟨n.val % 64, by omega⟩) else (1 : EReal) := by
  after_reads_at
  by_cases h : n.val % 256 < 64
  · rw [dif_pos h]
    refine Eq.trans ?_ (if_pos (by omega)).symm
    exact congrArg (fun z => m ((c : Thread nD τ).loc main_arg2) (ix4 b s ⟨n.val / 256, by omega⟩ z)) (Fin.ext (by show n.val % 256 = n.val % 64; omega))
  · rw [dif_neg h]
    by_cases h' : n.val % 256 - 64 < 64
    · rw [dif_pos h']
      refine Eq.trans ?_ (if_pos (by omega)).symm
      exact congrArg (fun z => m ((c : Thread nD τ).loc main_arg2) (ix4 b s ⟨n.val / 256, by omega⟩ z)) (Fin.ext (by show n.val % 256 - 64 = n.val % 64; omega))
    · rw [dif_neg h']
      exact (v4_at m c b s _ _).trans (if_neg (by omega)).symm

/-- The gain's row. -/
theorem v8_at (n : Fin 512) : StableHlo.after hostOps0 (fun b => m (c, b)) main_v8 (ix2 0 n) = m ((c : Thread nD τ).loc main_arg3) (ix1 n) := by
  after_reads_at

end Cert.AttentionIdeal.Host

end
-- ==== Proof.AttnWin.lean ====
/- The self-attention call: which entries of its arguments each grid step reads. -/
module

public import proofs.«01_k».proof.Proof.AttnOut
public import proofs.«01_k».proof.Proof.AttnHost
public import proofs.«01_k».proof.Proof.Gen.AttentionIdeal.Value
public import Idealize.ShloMosaic.Lib.Pipeline.ValueKit

@[expose] public section

set_option maxRecDepth 16384

noncomputable section

namespace Cert.AttentionIdeal.Block

open Idealize.ShloMosaic Idealize.ShloMosaic.TcCoe Idealize.ShloMosaic.Tactic Idealize.ShloMosaic.Pointwise
open Cert.AttentionIdeal Cert.AttentionIdeal.Gen Cert

variable (m : (ℓ : Loc nD τ sig) → Buf (Elt Ideal) ℓ)

/-- Which block each grid step reads and writes. -/
theorem idx_q (t : Fin grid0.N) : win0_0.index t 0 = t.val / 4 ∧ win0_0.index t 1 = t.val % 2 ∧ win0_0.index t 2 = t.val / 2 % 2 := by
  revert t; decide +kernel
theorem idx_k (t : Fin grid0.N) : win0_1.index t 0 = t.val / 4 ∧ win0_1.index t 1 = 0 ∧ win0_1.index t 2 = t.val / 2 % 2 := by
  revert t; decide +kernel
theorem idx_v (t : Fin grid0.N) : win0_2.index t 0 = t.val / 4 ∧ win0_2.index t 1 = 0 ∧ win0_2.index t 2 = t.val / 2 % 2 := by
  revert t; decide +kernel
theorem idx_g (t : Fin grid0.N) : win0_3.index t 0 = 0 ∧ win0_3.index t 1 = t.val / 2 % 2 := by
  revert t; decide +kernel
theorem idx_o (t : Fin grid0.N) : win0_7.index t 0 = t.val / 4 ∧ win0_7.index t 1 = t.val % 2 ∧ win0_7.index t 2 = t.val / 2 % 2 := by
  revert t; decide +kernel

variable (c : Dev nD) (t : Fin cfg0.N)

theorem blk_q (r : Fin 1024) (n : Fin 256) (hb : t.val / 4 < 8) (hr : 1024 * (t.val % 2) + r.val < 2048) (hn : 256 * (t.val / 2 % 2) + n.val < 512) :
    iblk m c 0 t (ix3 0 r n) = V m c main_v0 (ix3 ⟨t.val / 4, hb⟩ ⟨1024 * (t.val % 2) + r.val, hr⟩ ⟨256 * (t.val / 2 % 2) + n.val, hn⟩) := by
  obtain ⟨e0, e1, e2⟩ := idx_q t
  blk_ext [iblk, e0, e1, e2]

theorem blk_k (s : Fin 2048) (n : Fin 128) (hb : t.val / 4 < 8) (hn : 128 * (t.val / 2 % 2) + n.val < 256) :
    iblk m c 1 t (ix3 0 s n) = V m c main_v3 (ix3 ⟨t.val / 4, hb⟩ s ⟨128 * (t.val / 2 % 2) + n.val, hn⟩) := by
  obtain ⟨e0, e1, e2⟩ := idx_k t
  blk_ext [iblk, e0, e1, e2]

theorem blk_v (s : Fin 2048) (n : Fin 256) (hb : t.val / 4 < 8) (hn : 256 * (t.val / 2 % 2) + n.val < 512) :
    iblk m c 2 t (ix3 0 s n) = V m c main_v7 (ix3 ⟨t.val / 4, hb⟩ s ⟨256 * (t.val / 2 % 2) + n.val, hn⟩) := by
  obtain ⟨e0, e1, e2⟩ := idx_v t
  blk_ext [iblk, e0, e1, e2]

theorem blk_g (n : Fin 256) (hn : 256 * (t.val / 2 % 2) + n.val < 512) :
    iblk m c 3 t (ix2 0 n) = V m c main_v8 (ix2 0 ⟨256 * (t.val / 2 % 2) + n.val, hn⟩) := by
  obtain ⟨e0, e1⟩ := idx_g t
  blk_ext [iblk, e0, e1]

end Cert.AttentionIdeal.Block

end
-- ==== Proof.AttnArr.lean ====
/- The self-attention call: what its first result array holds when the call is over. -/
module

public import proofs.«01_k».proof.Proof.AttnWin

@[expose] public section

set_option maxRecDepth 16384

noncomputable section

namespace Cert.AttentionIdeal.Block

open Idealize.ShloMosaic Idealize.ShloMosaic.TcCoe Idealize.ShloMosaic.Tactic Idealize.ShloMosaic.Pointwise
open Cert.AttentionIdeal Cert.AttentionIdeal.Gen Cert

variable (m : (ℓ : Loc nD τ sig) → Buf (Elt Ideal) ℓ)

/-- The result's entry, from the call's arguments. -/
def result (c : Dev nD) (b : Fin 8) (s : Fin 2048) (n : Fin 512) : EReal :=
  Attn.head (fun j : Fin 64 => m ((c : Thread nD τ).loc main_arg0) (ix4 b s ⟨n.val / 64, by omega⟩ j))
    (fun (u : Fin 2048) j => m ((c : Thread nD τ).loc main_arg1) (ix4 b u ⟨n.val / 256, by omega⟩ j))
    (fun (u : Fin 2048) j => m ((c : Thread nD τ).loc main_arg2) (ix4 b u ⟨n.val / 256, by omega⟩ j)) ⟨n.val % 64, by omega⟩
    * m ((c : Thread nD τ).loc main_arg3) (ix1 n)

theorem bounds (t : Fin cfg0.N) : t.val / 4 < 8 ∧ t.val % 2 < 2 ∧ t.val / 2 % 2 < 2 := by
  have : t.val < 32 := t.isLt
  omega

/-- The queries, keys and values the call is given are real. -/
def Real (c : Dev nD) : Prop :=
  (∀ i, Row.IsR (m ((c : Thread nD τ).loc main_arg0) i)) ∧ (∀ i, Row.IsR (m ((c : Thread nD τ).loc main_arg1) i))
    ∧ (∀ i, Row.IsR (m ((c : Thread nD τ).loc main_arg2) i))

variable (c : Dev nD) (t : Fin cfg0.N)

/-- A grid step's blocks are the queries of four heads, their kv head's keys repeated, and its values followed by ones. -/
theorem args_at (hR : Real m c) :
    Args (iblk m c 0 t) (iblk m c 1 t) (iblk m c 2 t)
      (fun (u : Fin 2048) (j : Fin 64) => m ((c : Thread nD τ).loc main_arg1) (ix4 ⟨t.val / 4, (bounds t).1⟩ u ⟨t.val / 2 % 2, (bounds t).2.2⟩ j))
      (fun (u : Fin 2048) (j : Fin 64) => m ((c : Thread nD τ).loc main_arg2) (ix4 ⟨t.val / 4, (bounds t).1⟩ u ⟨t.val / 2 % 2, (bounds t).2.2⟩ j)) where
  k_at s n := by
    obtain ⟨h0, h1, h2⟩ := bounds t
    refine ((blk_k m c t s n h0 (by omega)).trans (Host.v3_at m c _ s _)).trans ?_
    exact congrArg _ (congrArg₂ _ (Fin.ext (by show (128 * (t.val / 2 % 2) + n.val) / 128 = t.val / 2 % 2; omega))
      (Fin.ext (by show (128 * (t.val / 2 % 2) + n.val) % 64 = n.val % 64; omega)))
  v_at s n := by
    obtain ⟨h0, h1, h2⟩ := bounds t
    refine ((blk_v m c t s n h0 (by omega)).trans (Host.v7_at m c _ s _)).trans ?_
    by_cases h : n.val < 128
    · rw [if_pos h, if_pos (by show (256 * (t.val / 2 % 2) + n.val) % 256 < 128; omega)]
      exact congrArg _ (congrArg₂ _ (Fin.ext (by show (256 * (t.val / 2 % 2) + n.val) / 256 = t.val / 2 % 2; omega))
        (Fin.ext (by show (256 * (t.val / 2 % 2) + n.val) % 64 = n.val % 64; omega)))
    · rw [if_neg h, if_neg (by show ¬ (256 * (t.val / 2 % 2) + n.val) % 256 < 128; omega)]
  q_real i := by
    obtain ⟨h0, h1, h2⟩ := bounds t
    idx_vars i
    obtain rfl : i0 = 0 := Subsingleton.elim _ _
    rw [(blk_q m c t i1 i2 h0 (by omega) (by omega)).trans (Host.v0_at m c _ _ _)]
    exact hR.1 _
  k_real s j := hR.2.1 _
  v_real s j := hR.2.2 _

/-- A block's entry is the result's entry there. -/
theorem entry_result (R : Fin 1024) (C : Fin 256) :
    entry (iblk m c 0 t)
      (fun (u : Fin 2048) (j : Fin 64) => m ((c : Thread nD τ).loc main_arg1) (ix4 ⟨t.val / 4, (bounds t).1⟩ u ⟨t.val / 2 % 2, (bounds t).2.2⟩ j))
      (fun (u : Fin 2048) (j : Fin 64) => m ((c : Thread nD τ).loc main_arg2) (ix4 ⟨t.val / 4, (bounds t).1⟩ u ⟨t.val / 2 % 2, (bounds t).2.2⟩ j))
      (fun n => iblk m c 3 t (ix2 0 n)) R C
      = result m c ⟨t.val / 4, (bounds t).1⟩ ⟨1024 * (t.val % 2) + R.val, by have := bounds t; omega⟩
          ⟨256 * (t.val / 2 % 2) + C.val, by have := bounds t; omega⟩ := by
  obtain ⟨h0, h1, h2⟩ := bounds t
  unfold entry result
  refine congr_arg₂ (· * ·) ?_ ((blk_g m c t C (by omega)).trans (Host.v8_at m c _))
  have e1 : (⟨(256 * (t.val / 2 % 2) + C.val) / 256, by omega⟩ : Fin 2) = ⟨t.val / 2 % 2, h2⟩ := Fin.ext (by show (256 * (t.val / 2 % 2) + C.val) / 256 = t.val / 2 % 2; omega)
  have e2 : (⟨(256 * (t.val / 2 % 2) + C.val) % 64, by omega⟩ : Fin 64) = ⟨C.val % 64, by omega⟩ := Fin.ext (by show (256 * (t.val / 2 % 2) + C.val) % 64 = C.val % 64; omega)
  rw [e1, e2]
  refine congrArg (fun a => Attn.head a _ _ _) (funext fun j => ?_)
  refine ((blk_q m c t R _ h0 (by omega) (by show 256 * (t.val / 2 % 2) + (64 * (C.val / 64) + j.val) < 512; omega)).trans (Host.v0_at m c _ _ _)).trans ?_
  exact congrArg _ (congrArg₂ _ (Fin.ext (by show (256 * (t.val / 2 % 2) + (64 * (C.val / 64) + j.val)) / 64 = (256 * (t.val / 2 % 2) + C.val) / 64; omega))
    (Fin.ext (by show (256 * (t.val / 2 % 2) + (64 * (C.val / 64) + j.val)) % 64 = j.val; omega)))

/-- What a grid step leaves in the result's block. -/
theorem step_at (hR : Real m c) (R : Fin 1024) (C : Fin 256) :
    (outsAt0 m c t.val t.isLt).1 (ix3 0 R C)
      = result m c ⟨t.val / 4, (bounds t).1⟩ ⟨1024 * (t.val % 2) + R.val, by have := bounds t; omega⟩
          ⟨256 * (t.val / 2 % 2) + C.val, by have := bounds t; omega⟩ := by
  refine Eq.trans ?_ (entry_result m c t R C)
  by_cases h0 : t.val % 2 = 0
  · rw [outsAt0_A m c t h0]
    dsimp only
    exact out_A _ _ _ _ _ _ _ _ _ _ _ _ _ _ _ _ _ _ _ _ _ _ _ _ _ _ _ _ _ _ _ _ _ _ (args_at m c t hR) R C
  · rw [outsAt0_B m c t h0]
    dsimp only
    exact out_B _ _ _ _ _ _ _ _ _ _ _ _ _ _ _ _ _ _ _ _ _ _ _ _ _ _ _ _ _ _ _ _ _ _ _ _ (args_at m c t hR) R C

/-- The result array. -/
theorem arr (hR : Real m c) : (dats m 0 c).arrAt 7 cfg0.N = (fun i : S8x2048x512.Idx => result m c (i 0) (i 1) (i 2)) := by
  refine (dats m 0 c).arrAt_eq_of_covers 7 _ (by decide +kernel) fun t hf y => ?_
  blk_simp
  rw [after0_7]
  obtain ⟨e0, e1, e2⟩ := idx_o t
  idx_vars y
  obtain rfl : y0 = 0 := Subsingleton.elim _ _
  refine (step_at m c t hR y1 y2).trans ?_
  refine congr (congr (congrArg (result m c) (Fin.ext ?_)) (Fin.ext ?_)) (Fin.ext ?_)
  · blk_simp [e0]; rfl
  · blk_simp [e1]; show 1024 * (t.val % 2) + y1.val = t.val % 2 * 1024 + y1.val; omega
  · blk_simp [e2]; show 256 * (t.val / 2 % 2) + y2.val = t.val / 2 % 2 * 256 + y2.val; omega

end Cert.AttentionIdeal.Block

end
-- ==== Proof.AttnRef.lean ====
/- The self-attention's reference, read an element at a time. -/
module

public import proofs.«01_k».proof.Proof.AttnRow
public import proofs.«01_k».proof.Proof.Gen.SoftmaxIdeal.Read
public import Idealize.ShloMosaic.Lib.Pointwise

@[expose] public section

set_option maxRecDepth 16384

noncomputable section

namespace Cert.SoftmaxIdeal.Ref

open Idealize.ShloMosaic Idealize.ShloMosaic.Pointwise
open Cert.SoftmaxIdeal Cert.SoftmaxIdeal.Gen Cert.SoftmaxIdeal.Read Cert

variable (x0 : FVec Ideal S8x2048x8x64 .f32) (x1 x2 : FVec Ideal S8x2048x2x64 .f32) (x3 : FVec Ideal S512 .f32) (b : Fin 8) (s : Fin 2048)

/-- A scaled score: key head `g`, query head `4 g + h`. -/
theorem v4_at (g : Fin 2) (h : Fin 4) (t : Fin 2048) : val_main_v4 (F := Ideal) x0 x1 (ix5 b g h s t)
    = (∑ j : Fin 64, x1 (ix4 b t g j) * x0 (ix4 b s ⟨g.val * 4 + h.val, by omega⟩ j)) * Ideal.ofBits .f32 0x3E000000#32 := by
  pointwise [val_main_v4, val_main_v3, val_main_cst, val_main_v2, val_main_v1, val_main_v0]

/-- The host's greatest over the last axis. -/
theorem top_at (X : FVec Ideal S8x2x4x2048x2048 .f32) (g : Fin 2) (h : Fin 4) :
    Host.reduce FloatOps.maximumf X (constant (F := Ideal) S_ .f32 0xFF800000#32) reducesTo_S8x2x4x2048x2048_S8x2x4x2048_d4 h_S_ (ix4 b g h s) = Attn.top fun t => X (ix5 b g h s t) := by
  unfold Attn.top
  pointwise

theorem v7_at (g : Fin 2) (h : Fin 4) : val_main_v7 (F := Ideal) x0 x1 (ix4 b g h s)
    = max (Ideal.ofBits .f32 0xFF800000#32) (Attn.top fun t => val_main_v4 (F := Ideal) x0 x1 (ix5 b g h s t)) := by
  rw [val_main_v7_apply, val_main_v6_apply, val_main_cst_1_apply]
  unfold val_main_v5 val_main_cst_0
  rw [top_at]
  rfl

/-- The attention weights. -/
theorem v15_at (g : Fin 2) (h : Fin 4) (t : Fin 2048) : val_main_v15 (F := Ideal) x0 x1 (ix5 b g h s t)
    = Ideal.div (Ideal.exp (val_main_v4 (F := Ideal) x0 x1 (ix5 b g h s t) - val_main_v7 (F := Ideal) x0 x1 (ix4 b g h s)))
        (∑ u : Fin 2048, Ideal.exp (val_main_v4 (F := Ideal) x0 x1 (ix5 b g h s u) - val_main_v7 (F := Ideal) x0 x1 (ix4 b g h s))) := by
  pointwise [val_main_v15, val_main_v14, val_main_v13, val_main_v12, val_main_cst_2, val_main_v11, val_main_v10, val_main_v9, val_main_v8]

/-- The heads' outputs, side by side. -/
theorem v18_at (c : Fin 512) : val_main_v18 (F := Ideal) x0 x1 x2 (ix3 b s c)
    = ∑ t : Fin 2048, x2 (ix4 b t ⟨c.val / 256, by omega⟩ ⟨c.val % 64, by omega⟩)
        * val_main_v15 (F := Ideal) x0 x1 (ix5 b ⟨c.val / 256, by omega⟩ ⟨c.val / 64 % 4, by omega⟩ s t) := by
  pointwise [val_main_v18, val_main_v17, val_main_v16]

/-- The group norm of a row of heads. -/
theorem v34_at (c : Fin 512) : val_main_v34 (F := Ideal) x0 x1 x2 x3 (ix3 b s c)
    = Attn.rms (fun d => val_main_v18 (F := Ideal) x0 x1 x2 (ix3 b s ⟨c.val / 64 * 64 + d.val, by omega⟩)) ⟨c.val % 64, by omega⟩ * x3 (ix1 c) := by
  have e : (⟨c.val / 64 * 64 + c.val % 64, by omega⟩ : Fin 512) = c := Fin.ext (by simp only; omega)
  unfold Attn.rms
  simp only [e]
  pointwise [val_main_v34, val_main_v33, val_main_v32, val_main_v31, val_main_v30, val_main_v29, val_main_v28, val_main_v27, val_main_v26, val_main_v25, val_main_cst_5, val_main_v24, val_main_v23, val_main_cst_4, val_main_v22, val_main_v21, val_main_cst_3, val_main_v20, val_main_v19]

/-- The reference's result. -/
theorem result_at (c : Fin 512) : val_main_v34 (F := Ideal) x0 x1 x2 x3 (ix3 b s c)
    = Attn.head (fun j => x0 (ix4 b s ⟨c.val / 64, by omega⟩ j)) (fun t j => x1 (ix4 b t ⟨c.val / 256, by omega⟩ j)) (fun t j => x2 (ix4 b t ⟨c.val / 256, by omega⟩ j))
        ⟨c.val % 64, by omega⟩ * x3 (ix1 c) := by
  have hc := c.isLt
  rw [v34_at]
  unfold Attn.head
  congr 2
  funext d
  have hd := d.isLt
  rw [v18_at]
  unfold Attn.soft Attn.wgt
  have e1 : (⟨(c.val / 64 * 64 + d.val) / 256, by omega⟩ : Fin 2) = ⟨c.val / 256, by omega⟩ := Fin.ext (by simp only; omega)
  have e2 : (⟨(c.val / 64 * 64 + d.val) % 64, by omega⟩ : Fin 64) = d := Fin.ext (by simp only; omega)
  have e3 : (⟨(c.val / 64 * 64 + d.val) / 64 % 4, by omega⟩ : Fin 4) = ⟨c.val / 64 % 4, by omega⟩ := Fin.ext (by simp only; omega)
  have e4 : (⟨c.val / 256 * 4 + c.val / 64 % 4, by omega⟩ : Fin 8) = ⟨c.val / 64, by omega⟩ := Fin.ext (by simp only; omega)
  rw [e1, e2, e3]
  refine Finset.sum_congr rfl fun t _ => ?_
  rw [v15_at, v7_at]
  simp only [v4_at, e4]

end Cert.SoftmaxIdeal.Ref

end
-- ==== Proof.AttnPre.lean ====
/- What the self-attention's precondition gives: every query, key and value is a real number. -/
module

public import proofs.«01_k».proof.Proof.Pre
public import proofs.«01_k».proof.Pre_finite_qkv

@[expose] public section

noncomputable section

namespace Cert.Pre_finite_qkv

open Idealize.ShloMosaic Cert.Row

variable [Facts]
open Facts

theorem real_of_pre (a0 : FVec Ideal S8x2048x8x64 .f32) (a1 a2 : FVec Ideal S8x2048x2x64 .f32) (a3 : FVec Ideal S512 .f32) (a4 : FVec Ideal S8x2048x512 .f32)
    (a5 : FVec Ideal S31x512 .f32) (a6 : FVec Ideal S512 .f32) (h : fn (F := Ideal) a0 a1 a2 a3 a4 a5 a6 = fun _ => 1#1) :
    (∀ i, IsR (a0 i)) ∧ (∀ i, IsR (a1 i)) ∧ (∀ i, IsR (a2 i)) := by
  have hT : Subsingleton S_.Idx := ⟨fun x y => funext fun a => a.elim0⟩
  have e := congrFun h (fun a => a.elim0 : S_.Idx)
  dsimp only [fn] at e
  obtain ⟨e, e2⟩ := Cert.Pre_finite.andi_both _ _ _ e
  obtain ⟨e, e1⟩ := Cert.Pre_finite.andi_both _ _ _ e
  exact ⟨Cert.Pre_finite.isR_of_all _ _ _ _ hT _ e, Cert.Pre_finite.isR_of_all _ _ _ _ hT _ e1, Cert.Pre_finite.isR_of_all _ _ _ _ hT _ e2⟩

end Cert.Pre_finite_qkv

end
-- ==== Proof.AttnValue.lean ====
/- The self-attention: the call's result is the reference's, under the precondition. -/
module

public import proofs.«01_k».proof.Defs
public import proofs.«01_k».proof.Proof.AttnArr
public import proofs.«01_k».proof.Proof.AttnRef
public import proofs.«01_k».proof.Proof.AttnPre
public import proofs.«01_k».proof.Proof.Gen.SoftmaxIdeal.Run
public import proofs.«01_k».proof.Proof.Gen.SoftmaxIdeal.Read

@[expose] public section

set_option maxRecDepth 16384

noncomputable section

namespace Cert.Proof

open Idealize.ShloMosaic Idealize.ShloMosaic.TcCoe Idealize.ShloMosaic.Pointwise Idealize.SL.Sem

/-- Under the precondition the two attentions' results are the same array. -/
theorem same_attention [hP : Cert.Pre_finite_qkv.Facts] (m : (ℓ : Loc Cert.AttentionIdeal.nD Cert.AttentionIdeal.τ Cert.AttentionIdeal.sig) → Buf (Elt Ideal) ℓ)
    (hpre : Cert.Pre_AttentionIdeal_finite_qkv m) (c : Dev Cert.AttentionIdeal.nD) :
    Cert.SoftmaxIdeal.Read.val_main_v34 (F := Ideal) (m ((c.tc : Thread Cert.AttentionIdeal.nD Cert.AttentionIdeal.τ).loc Cert.AttentionIdeal.main_arg0))
        (m ((c.tc : Thread Cert.AttentionIdeal.nD Cert.AttentionIdeal.τ).loc Cert.AttentionIdeal.main_arg1))
        (m ((c.tc : Thread Cert.AttentionIdeal.nD Cert.AttentionIdeal.τ).loc Cert.AttentionIdeal.main_arg2))
        (m ((c.tc : Thread Cert.AttentionIdeal.nD Cert.AttentionIdeal.τ).loc Cert.AttentionIdeal.main_arg3))
      = (Cert.AttentionIdeal.Gen.dats m 0 c).arrAt 7 Cert.AttentionIdeal.cfg0.N := by
  refine Eq.trans ?_ (Cert.AttentionIdeal.Block.arr m c (Cert.Pre_finite_qkv.real_of_pre _ _ _ _ _ _ _ (hpre c))).symm
  funext i
  obtain ⟨b, s, n, rfl⟩ : ∃ (b : Fin 8) (s : Fin 2048) (n : Fin 512), i = ix3 b s n := ⟨i 0, i 1, i 2, by funext a; fin_cases a <;> rfl⟩
  exact Cert.SoftmaxIdeal.Ref.result_at _ _ _ _ b s n

/-- The attention's value claim. -/
theorem attention [hP : Cert.Pre_finite_qkv.Facts] : Cert.algebraic_AttentionIdeal_SoftmaxIdeal_pre_finite_qkv := by
  intro m ρ m' ρ' hpre hag
  refine ⟨fun c => (Cert.AttentionIdeal.Gen.dats m 0 c).arrAt 7 Cert.AttentionIdeal.cfg0.N, ?_, ?_⟩
  · refine (θ_run Cert.AttentionIdeal.defs _ _).mono (fun _ h c => ?_) (Cert.AttentionIdeal.Value.run_blocks m ρ)
    exact ⟨(h c).1, (h c).2.2⟩
  · refine (θ_run Cert.SoftmaxIdeal.defs _ _).mono (fun _ h c => ⟨((h c).1.trans (Cert.SoftmaxIdeal.Read.val_main_v34_eq _ _)).trans ?_, (h c).2⟩) (Cert.SoftmaxIdeal.Value.run m' ρ')
    obtain ⟨g0, g1, g2, g3, g4, g5, g6⟩ := hag c
    refine Eq.trans ?_ (same_attention m hpre c)
    rw [← g0, ← g1, ← g2, ← g3]

end Cert.Proof

end
-- ==== Proof.InHost.lean ====
/- The host code before the input projection: the arrays the call reads, entry by entry. -/
module

public import proofs.«01_k».proof.Proof.Rows
public import proofs.«01_k».proof.Proof.Gen.InProjIdeal.Frame
public import Idealize.ShloMosaic.Lib.StableHlo.ReadAt

@[expose] public section

set_option maxRecDepth 16384

noncomputable section

namespace Cert.InProjIdeal.Host

open Idealize.ShloMosaic Idealize.ShloMosaic.TcCoe Idealize.ShloMosaic.Tactic Idealize.ShloMosaic.Pointwise
open Cert.InProjIdeal Cert.InProjIdeal.Gen

variable (m : (ℓ : Loc nD τ sig) → Buf (Elt Ideal) ℓ) (c : Dev nD)

theorem x_at (r : Fin 16384) (n : Fin 1024) :
    V m c main_v136 (ix2 r n) = m ((c : Thread nD τ).loc main_arg0) (ix3 ⟨r.val / 2048, by omega⟩ ⟨r.val % 2048, by omega⟩ n) := by
  after_reads_at

theorem g_at (n : Fin 1024) : V m c main_v137 (ix2 0 n) = m ((c : Thread nD τ).loc main_arg1) (ix1 n) := by
  after_reads_at

theorem b_at (n : Fin 1024) : V m c main_v138 (ix2 0 n) = m ((c : Thread nD τ).loc main_arg2) (ix1 n) := by
  after_reads_at

theorem w_at (k : Fin 1024) (n : Fin 1792) : V m c main_v139 (ix2 k n) = m ((c : Thread nD τ).loc main_arg3) (ix2 k n) := by
  after_reads_at

end Cert.InProjIdeal.Host

end
-- ==== Proof.InTile.lean ====
/- The input projection's tiles, read entry by entry: the layer norm of 256 rows, its products with column groups of the
   weights, the gated values, and the value heads each written twice and followed by ones. -/
module

public import proofs.«01_k».proof.Proof.Rows
public import proofs.«01_k».proof.Proof.Gen.InProjIdeal.Frame

@[expose] public section

set_option maxRecDepth 65536

noncomputable section

namespace Cert.InProjIdeal.Block

open Cert Cert.InProjIdeal Cert.InProjIdeal.Gen Idealize.ShloMosaic Idealize.ShloMosaic.Pointwise Idealize.SL.Sem

/-- The number of entries of a row, as both programs write it. -/
abbrev cN : EReal := Ideal.ofBits .f32 0x44800000#32

theorem ln_at (X : Vec Ideal S256x1024 .f32) (G B : Vec Ideal S1x1024 .f32) (r : Fin 256) (n : Fin 1024) :
    k0_pay6 X G B (ix2 r n) = Row.ln cN (fun k => X (ix2 r k)) (fun k => G (ix2 0 k)) (fun k => B (ix2 0 k)) n := by
  unfold k0_pay6 Row.ln Row.mean
  pointwise

theorem lnb_at (X : Vec Ideal S256x1024 .f32) (G B : Vec Ideal S1x1024 .f32) (r : Fin 256) (n : Fin 1024) :
    k0_pay7 X G B (ix2 r n) = Row.ln cN (fun k => X (ix2 r k)) (fun k => G (ix2 0 k)) (fun k => B (ix2 0 k)) n :=
  ln_at X G B r n

theorem wide_at (H : FVec Ideal S256x1024 .bf16) (W : Vec Ideal S1024x512 .bf16) (r : Fin 256) (n : Fin 512) :
    k0_pay20 H W (ix2 r n) = Row.dot (fun k => H (ix2 r k)) (fun k n => W (ix2 k n)) n := by
  unfold k0_pay20 Row.dot
  pointwise

theorem narrow_at (H : FVec Ideal S256x1024 .bf16) (W : Vec Ideal S1024x256 .bf16) (r : Fin 256) (n : Fin 256) :
    k0_pay19 H W (ix2 r n) = Row.dot (fun k => H (ix2 r k)) (fun k n => W (ix2 k n)) n := by
  unfold k0_pay19 Row.dot
  pointwise

theorem glu_at (a b : FVec Ideal S256x512 .f32) (r : Fin 256) (n : Fin 512) :
    k0_pay34 a b (ix2 r n) = a (ix2 r n) * Ideal.div 1 (1 + Ideal.exp (-(b (ix2 r n)))) := by
  unfold k0_pay34
  pointwise
  rfl

theorem lo_at (r : Fin 256) (l : Fin 128) : k0_pay4 (ix2 r l) = BitVec.ofBool (decide (l.val < 64)) := by
  have key : ∀ (l : Fin 128), IntOp.cmpi .slt (BitVec.ofNat 32 l.val) 64#32 = BitVec.ofBool (decide (l.val < 64)) := by decide
  unfold k0_pay4
  pointwise
  exact key l

/-- A tile of values: the first head in both halves. -/
theorem v0_at (z : FVec Ideal S256x256 .f32) (r : Fin 256) (l : Fin 128) :
    k0_pay51 k0_pay4 z (ix2 r l) = z (ix2 r ⟨128 + l.val % 64, by omega⟩) := by
  have hl := l.isLt
  unfold k0_pay51 k0_pay50 k0_pay49
  pointwise [lo_at]
  by_cases h : l.val < 64
  · rw [if_pos h]; exact congrArg (fun n => z (ix2 r n)) (Fin.ext (by show 128 + l.val = 128 + l.val % 64; omega))
  · rw [if_neg h]; exact congrArg (fun n => z (ix2 r n)) (Fin.ext (by show 128 + (l.val + 128 - 64) % 128 = 128 + l.val % 64; omega))

/-- A tile of values: the second head in both halves. -/
theorem v1_at (z : FVec Ideal S256x256 .f32) (r : Fin 256) (l : Fin 128) :
    k0_pay52 k0_pay4 (k0_pay49 z) (k0_pay50 z) (ix2 r l) = z (ix2 r ⟨192 + l.val % 64, by omega⟩) := by
  have hl := l.isLt
  unfold k0_pay52 k0_pay50 k0_pay49
  pointwise [lo_at]
  by_cases h : l.val < 64
  · rw [if_pos h]; exact congrArg (fun n => z (ix2 r n)) (Fin.ext (by show 128 + (l.val + 128 - 64) % 128 = 192 + l.val % 64; omega))
  · rw [if_neg h]; exact congrArg (fun n => z (ix2 r n)) (Fin.ext (by show 128 + l.val = 192 + l.val % 64; omega))

end Cert.InProjIdeal.Block

end
-- ==== Proof.InBlock.lean ====
/- The blocks the input projection leaves in its outputs, read entry by entry. -/
module

public import proofs.«01_k».proof.Proof.InTile

@[expose] public section

set_option maxRecDepth 65536

noncomputable section

namespace Cert.InProjIdeal.Block

open Cert Cert.InProjIdeal Cert.InProjIdeal.Gen Idealize.ShloMosaic Idealize.ShloMosaic.Pointwise Idealize.SL.Sem

variable (x0 : Vec Ideal S1024x1024 .f32) (x1 x2 : Vec Ideal S1x1024 .f32) (x3 : Vec Ideal S1024x1792 .bf16)
  (x4 x5 x6 x7 : Vec Ideal S1024x128 .f32) (x8 : Vec Ideal S128x128 .bf16)

/-- The layer norm of a block's row. -/
def hRow (R : Fin 1024) : Fin 1024 → EReal :=
  Row.ln cN (fun k => x0 (ix2 R k)) (fun k => x1 (ix2 0 k)) (fun k => x2 (ix2 0 k))

/-- The projection of a block's row. -/
def proj (R : Fin 1024) (n : Fin 1792) : EReal := Row.dot (hRow x0 x1 x2 R) (fun k n => x3 (ix2 k n)) n

/-- The gated values of a block's row. -/
def glu (R : Fin 1024) (n : Fin 512) : EReal :=
  proj x0 x1 x2 x3 R ⟨768 + n.val, by omega⟩ * Ideal.div 1 (1 + Ideal.exp (-(proj x0 x1 x2 x3 R ⟨1280 + n.val, by omega⟩)))

/-- The values of a block's row, each head twice and then ones. -/
def vals (R : Fin 1024) (n : Fin 512) : EReal :=
  if n.val % 256 < 128 then proj x0 x1 x2 x3 R ⟨640 + 64 * (n.val / 256) + n.val % 64, by omega⟩ else Ideal.ofBits .bf16 0x3F80#16

/-- A tile's rows are rows of the block. -/
theorem tile_row {X : Vec Ideal S256x1024 .f32} {G B : Vec Ideal S1x1024 .f32} {r : Fin 256} {R : Fin 1024}
    (hX : ∀ k, X (ix2 r k) = x0 (ix2 R k)) (hG : G = x1) (hB : B = x2) (n : Fin 1024) :
    k0_pay6 X G B (ix2 r n) = hRow x0 x1 x2 R n := by
  subst hG hB
  rw [ln_at]
  unfold hRow
  rw [funext hX]

theorem ld_x (o : ℕ) (h : ∀ a, ![o, 0] a + S256x1024.size a ≤ S1024x1024.size a) (r : Fin 256) (k : Fin 1024) (ho : o + r.val < 1024) :
    View.ld x0 (Rect.unit (s := S1024x1024) ![o, 0] S256x1024.size h) (ix2 r k) = x0 (ix2 ⟨o + r.val, ho⟩ k) := by
  refine congrArg x0 (funext fun a => Fin.ext ?_)
  fin_cases a <;> simp [LoadRect.idx_apply]

theorem ld_g (g : Vec Ideal S1x1024 .f32) : View.ld g r0_2 = g := by
  funext y
  refine congrArg g (funext fun a => Fin.ext ?_)
  fin_cases a <;> simp [LoadRect.idx_apply]

theorem out9_eq : out0_9 x0 x1 x2 x3 x4 x5 x6 x7 x8
    = View.canon [⟨r0_5, k0_pay6 (View.ld x0 r0_5) (View.ld x1 r0_2) (View.ld x2 r0_2)⟩, ⟨r0_4, k0_pay6 (View.ld x0 r0_4) (View.ld x1 r0_2) (View.ld x2 r0_2)⟩,
        ⟨r0_3, k0_pay6 (View.ld x0 r0_3) (View.ld x1 r0_2) (View.ld x2 r0_2)⟩, ⟨r0_1, k0_pay6 (View.ld x0 r0_1) (View.ld x1 r0_2) (View.ld x2 r0_2)⟩] := by
  unfold_out out0_9
  rfl

/-- The stored normed rows. -/
theorem out9_at (R n : Fin 1024) : out0_9 x0 x1 x2 x3 x4 x5 x6 x7 x8 (ix2 R n) = hRow x0 x1 x2 R n := by
  rw [out9_eq]
  refine View.canon_apply_of_pieces (Val := Elt Ideal) (fun y : S1024x1024.Idx => hRow x0 x1 x2 (y 0) (y 1)) _ ?_ (ix2 R n) (cover0_9 _ _ _ _ _)
  simp only [List.mem_cons, List.not_mem_nil, or_false, forall_eq_or_imp, forall_eq]
  refine ⟨fun y => ?_, fun y => ?_, fun y => ?_, fun y => ?_⟩ <;> idx_vars y
  · refine (tile_row x0 x1 x2 (fun k => ld_x x0 768 _ y0 k (by omega)) (ld_g x1) (ld_g x2) y1).trans ?_
    exact congr (congrArg _ (Fin.ext (by simp [Rect.emb_apply]))) (Fin.ext (by simp [Rect.emb_apply]))
  · refine (tile_row x0 x1 x2 (fun k => ld_x x0 512 _ y0 k (by omega)) (ld_g x1) (ld_g x2) y1).trans ?_
    exact congr (congrArg _ (Fin.ext (by simp [Rect.emb_apply]))) (Fin.ext (by simp [Rect.emb_apply]))
  · refine (tile_row x0 x1 x2 (fun k => ld_x x0 256 _ y0 k (by omega)) (ld_g x1) (ld_g x2) y1).trans ?_
    exact congr (congrArg _ (Fin.ext (by simp [Rect.emb_apply]))) (Fin.ext (by simp [Rect.emb_apply]))
  · refine (tile_row x0 x1 x2 (fun k => ld_x x0 0 _ y0 k (by omega)) (ld_g x1) (ld_g x2) y1).trans ?_
    exact congr (congrArg _ (Fin.ext (by simp [Rect.emb_apply]))) (Fin.ext (by simp [Rect.emb_apply]))

/-- The gated values' tile of some rows. -/
def uTile (X : Vec Ideal S256x1024 .f32) : FVec Ideal S256x512 .f32 :=
  k0_pay34 (k0_pay20 (k0_pay7 X (View.ld x1 r0_2) (View.ld x2 r0_2)) (View.ld x3 r0_8)) (k0_pay20 (k0_pay7 X (View.ld x1 r0_2) (View.ld x2 r0_2)) (View.ld x3 r0_9))

theorem out13_eq : out0_13 x0 x1 x2 x3 x4 x5 x6 x7 x8
    = View.canon [⟨r0_34, uTile x1 x2 x3 (View.ld x0 r0_5)⟩, ⟨r0_26, uTile x1 x2 x3 (View.ld x0 r0_4)⟩,
        ⟨r0_18, uTile x1 x2 x3 (View.ld x0 r0_3)⟩, ⟨r0_10, uTile x1 x2 x3 (View.ld x0 r0_1)⟩] := by
  unfold_out out0_13
  rfl

theorem ld_w8 (k : Fin 1024) (n : Fin 512) : View.ld x3 r0_8 (ix2 k n) = x3 (ix2 k ⟨768 + n.val, by omega⟩) := by
  refine congrArg x3 (funext fun a => Fin.ext ?_)
  fin_cases a <;> simp [LoadRect.idx_apply]
theorem ld_w9 (k : Fin 1024) (n : Fin 512) : View.ld x3 r0_9 (ix2 k n) = x3 (ix2 k ⟨1280 + n.val, by omega⟩) := by
  refine congrArg x3 (funext fun a => Fin.ext ?_)
  fin_cases a <;> simp [LoadRect.idx_apply]
theorem ld_w7 (k : Fin 1024) (n : Fin 256) : View.ld x3 r0_7 (ix2 k n) = x3 (ix2 k ⟨512 + n.val, by omega⟩) := by
  refine congrArg x3 (funext fun a => Fin.ext ?_)
  fin_cases a <;> simp [LoadRect.idx_apply]

/-- A product of a tile's row with a column of a group of the weights. -/
theorem tile_dot {X : Vec Ideal S256x1024 .f32} {r : Fin 256} {R : Fin 1024} {w : ℕ} {W : Fin 1024 → Fin w → EReal} {n : Fin w} {N : Fin 1792}
    (hX : ∀ k, X (ix2 r k) = x0 (ix2 R k)) (hW : ∀ k, W k n = x3 (ix2 k N)) :
    Row.dot (fun k => k0_pay7 X (View.ld x1 r0_2) (View.ld x2 r0_2) (ix2 r k)) W n = proj x0 x1 x2 x3 R N := by
  unfold proj Row.dot
  refine Finset.sum_congr rfl fun k _ => ?_
  rw [hW k]
  exact congrArg (· * _) (tile_row x0 x1 x2 hX (ld_g x1) (ld_g x2) k)

theorem uTile_at {X : Vec Ideal S256x1024 .f32} {r : Fin 256} {R : Fin 1024} (hX : ∀ k, X (ix2 r k) = x0 (ix2 R k)) (n : Fin 512) :
    uTile x1 x2 x3 X (ix2 r n) = glu x0 x1 x2 x3 R n := by
  unfold uTile glu
  rw [glu_at, wide_at, wide_at, tile_dot x0 x1 x2 x3 hX (fun k => ld_w8 x3 k n), tile_dot x0 x1 x2 x3 hX (fun k => ld_w9 x3 k n)]

/-- The stored gated values. -/
theorem out13_at (R : Fin 1024) (n : Fin 512) : out0_13 x0 x1 x2 x3 x4 x5 x6 x7 x8 (ix2 R n) = glu x0 x1 x2 x3 R n := by
  rw [out13_eq]
  refine View.canon_apply_of_pieces (Val := Elt Ideal) (fun y : S1024x512.Idx => glu x0 x1 x2 x3 (y 0) (y 1)) _ ?_ (ix2 R n) (cover0_13 _ _ _ _ _)
  simp only [List.mem_cons, List.not_mem_nil, or_false, forall_eq_or_imp, forall_eq]
  refine ⟨fun y => ?_, fun y => ?_, fun y => ?_, fun y => ?_⟩ <;> idx_vars y
  · refine (uTile_at x0 x1 x2 x3 (fun k => ld_x x0 768 _ y0 k (by omega)) y1).trans ?_
    exact congr (congrArg _ (Fin.ext (by simp [Rect.emb_apply]))) (Fin.ext (by simp [Rect.emb_apply]))
  · refine (uTile_at x0 x1 x2 x3 (fun k => ld_x x0 512 _ y0 k (by omega)) y1).trans ?_
    exact congr (congrArg _ (Fin.ext (by simp [Rect.emb_apply]))) (Fin.ext (by simp [Rect.emb_apply]))
  · refine (uTile_at x0 x1 x2 x3 (fun k => ld_x x0 256 _ y0 k (by omega)) y1).trans ?_
    exact congr (congrArg _ (Fin.ext (by simp [Rect.emb_apply]))) (Fin.ext (by simp [Rect.emb_apply]))
  · refine (uTile_at x0 x1 x2 x3 (fun k => ld_x x0 0 _ y0 k (by omega)) y1).trans ?_
    exact congr (congrArg _ (Fin.ext (by simp [Rect.emb_apply]))) (Fin.ext (by simp [Rect.emb_apply]))

/-- The values' tile of some rows, one for each head. -/
def vTile0 (X : Vec Ideal S256x1024 .f32) : FVec Ideal S256x128 .bf16 :=
  k0_pay51 k0_pay4 (k0_pay19 (k0_pay7 X (View.ld x1 r0_2) (View.ld x2 r0_2)) (View.ld x3 r0_7))
def vTile1 (X : Vec Ideal S256x1024 .f32) : FVec Ideal S256x128 .bf16 :=
  k0_pay52 k0_pay4 (k0_pay49 (k0_pay19 (k0_pay7 X (View.ld x1 r0_2) (View.ld x2 r0_2)) (View.ld x3 r0_7)))
    (k0_pay50 (k0_pay19 (k0_pay7 X (View.ld x1 r0_2) (View.ld x2 r0_2)) (View.ld x3 r0_7)))

theorem out12_eq : out0_12 x0 x1 x2 x3 x4 x5 x6 x7 x8
    = View.canon [⟨r0_39, k0_pay5 (F := Ideal)⟩, ⟨r0_38, vTile1 x1 x2 x3 (View.ld x0 r0_5)⟩, ⟨r0_37, k0_pay5 (F := Ideal)⟩, ⟨r0_36, vTile0 x1 x2 x3 (View.ld x0 r0_5)⟩,
        ⟨r0_31, k0_pay5 (F := Ideal)⟩, ⟨r0_30, vTile1 x1 x2 x3 (View.ld x0 r0_4)⟩, ⟨r0_29, k0_pay5 (F := Ideal)⟩, ⟨r0_28, vTile0 x1 x2 x3 (View.ld x0 r0_4)⟩,
        ⟨r0_23, k0_pay5 (F := Ideal)⟩, ⟨r0_22, vTile1 x1 x2 x3 (View.ld x0 r0_3)⟩, ⟨r0_21, k0_pay5 (F := Ideal)⟩, ⟨r0_20, vTile0 x1 x2 x3 (View.ld x0 r0_3)⟩,
        ⟨r0_15, k0_pay5 (F := Ideal)⟩, ⟨r0_14, vTile1 x1 x2 x3 (View.ld x0 r0_1)⟩, ⟨r0_13, k0_pay5 (F := Ideal)⟩, ⟨r0_12, vTile0 x1 x2 x3 (View.ld x0 r0_1)⟩] := by
  unfold_out out0_12
  rfl

theorem vTile0_at {X : Vec Ideal S256x1024 .f32} {r : Fin 256} {R : Fin 1024} (hX : ∀ k, X (ix2 r k) = x0 (ix2 R k)) (l : Fin 128) (N : Fin 512) (hN : N.val = l.val) :
    vTile0 x1 x2 x3 X (ix2 r l) = vals x0 x1 x2 x3 R N := by
  unfold vTile0 vals
  rw [v0_at, narrow_at, if_pos (by omega), tile_dot x0 x1 x2 x3 hX (fun k => ld_w7 x3 k _)]
  exact congrArg _ (Fin.ext (by show 512 + (128 + l.val % 64) = 640 + 64 * (N.val / 256) + N.val % 64; omega))

theorem vTile1_at {X : Vec Ideal S256x1024 .f32} {r : Fin 256} {R : Fin 1024} (hX : ∀ k, X (ix2 r k) = x0 (ix2 R k)) (l : Fin 128) (N : Fin 512) (hN : N.val = 256 + l.val) :
    vTile1 x1 x2 x3 X (ix2 r l) = vals x0 x1 x2 x3 R N := by
  unfold vTile1 vals
  rw [v1_at, narrow_at, if_pos (by omega), tile_dot x0 x1 x2 x3 hX (fun k => ld_w7 x3 k _)]
  exact congrArg _ (Fin.ext (by show 512 + (192 + l.val % 64) = 640 + 64 * (N.val / 256) + N.val % 64; omega))

theorem ones_at (y : S256x128.Idx) (R : Fin 1024) (N : Fin 512) (hN : 128 ≤ N.val % 256) : k0_pay5 (F := Ideal) y = vals x0 x1 x2 x3 R N := by
  unfold vals
  rw [if_neg (by omega)]
  rfl

/-- The stored values. -/
theorem out12_at (R : Fin 1024) (n : Fin 512) : out0_12 x0 x1 x2 x3 x4 x5 x6 x7 x8 (ix2 R n) = vals x0 x1 x2 x3 R n := by
  rw [out12_eq]
  refine View.canon_apply_of_pieces (Val := Elt Ideal) (fun y : S1024x512.Idx => vals x0 x1 x2 x3 (y 0) (y 1)) _ ?_ (ix2 R n) (cover0_12 _ _ _ _ _ _ _ _ _ _ _ _ _ _ _ _ _)
  simp only [List.mem_cons, List.not_mem_nil, or_false, forall_eq_or_imp, forall_eq]
  refine ⟨fun y => ?_, fun y => ?_, fun y => ?_, fun y => ?_, fun y => ?_, fun y => ?_, fun y => ?_, fun y => ?_,
    fun y => ?_, fun y => ?_, fun y => ?_, fun y => ?_, fun y => ?_, fun y => ?_, fun y => ?_, fun y => ?_⟩ <;> idx_vars y
  · exact ones_at x0 x1 x2 x3 _ _ _ (by simp [Rect.emb_apply]; omega)
  · exact vTile1_at x0 x1 x2 x3 (fun k => (ld_x x0 768 _ y0 k (by omega)).trans (congrArg (fun r => x0 (ix2 r k)) (Fin.ext (by simp [Rect.emb_apply])))) y1 _ (by simp [Rect.emb_apply])
  · exact ones_at x0 x1 x2 x3 _ _ _ (by simp [Rect.emb_apply]; omega)
  · exact vTile0_at x0 x1 x2 x3 (fun k => (ld_x x0 768 _ y0 k (by omega)).trans (congrArg (fun r => x0 (ix2 r k)) (Fin.ext (by simp [Rect.emb_apply])))) y1 _ (by simp [Rect.emb_apply])
  · exact ones_at x0 x1 x2 x3 _ _ _ (by simp [Rect.emb_apply]; omega)
  · exact vTile1_at x0 x1 x2 x3 (fun k => (ld_x x0 512 _ y0 k (by omega)).trans (congrArg (fun r => x0 (ix2 r k)) (Fin.ext (by simp [Rect.emb_apply])))) y1 _ (by simp [Rect.emb_apply])
  · exact ones_at x0 x1 x2 x3 _ _ _ (by simp [Rect.emb_apply]; omega)
  · exact vTile0_at x0 x1 x2 x3 (fun k => (ld_x x0 512 _ y0 k (by omega)).trans (congrArg (fun r => x0 (ix2 r k)) (Fin.ext (by simp [Rect.emb_apply])))) y1 _ (by simp [Rect.emb_apply])
  · exact ones_at x0 x1 x2 x3 _ _ _ (by simp [Rect.emb_apply]; omega)
  · exact vTile1_at x0 x1 x2 x3 (fun k => (ld_x x0 256 _ y0 k (by omega)).trans (congrArg (fun r => x0 (ix2 r k)) (Fin.ext (by simp [Rect.emb_apply])))) y1 _ (by simp [Rect.emb_apply])
  · exact ones_at x0 x1 x2 x3 _ _ _ (by simp [Rect.emb_apply]; omega)
  · exact vTile0_at x0 x1 x2 x3 (fun k => (ld_x x0 256 _ y0 k (by omega)).trans (congrArg (fun r => x0 (ix2 r k)) (Fin.ext (by simp [Rect.emb_apply])))) y1 _ (by simp [Rect.emb_apply])
  · exact ones_at x0 x1 x2 x3 _ _ _ (by simp [Rect.emb_apply]; omega)
  · exact vTile1_at x0 x1 x2 x3 (fun k => (ld_x x0 0 _ y0 k (by omega)).trans (congrArg (fun r => x0 (ix2 r k)) (Fin.ext (by simp [Rect.emb_apply])))) y1 _ (by simp [Rect.emb_apply])
  · exact ones_at x0 x1 x2 x3 _ _ _ (by simp [Rect.emb_apply]; omega)
  · exact vTile0_at x0 x1 x2 x3 (fun k => (ld_x x0 0 _ y0 k (by omega)).trans (congrArg (fun r => x0 (ix2 r k)) (Fin.ext (by simp [Rect.emb_apply])))) y1 _ (by simp [Rect.emb_apply])

end Cert.InProjIdeal.Block

end
-- ==== Proof.InArr.lean ====
/- The input projection: what its result arrays hold when the call is over. -/
module

public import proofs.«01_k».proof.Proof.InBlock
public import proofs.«01_k».proof.Proof.InHost
public import Idealize.ShloMosaic.Lib.Pipeline.ValueKit

@[expose] public section

set_option maxRecDepth 16384

noncomputable section

namespace Cert.InProjIdeal.Block

open Idealize.ShloMosaic Idealize.ShloMosaic.TcCoe Idealize.ShloMosaic.Tactic Idealize.ShloMosaic.Pointwise
open Cert.InProjIdeal Cert.InProjIdeal.Gen Cert

variable (m : (ℓ : Loc nD τ sig) → Buf (Elt Ideal) ℓ)

/-- Which block each grid step reads and writes. -/
theorem idx_x (t : Fin grid0.N) : win0_0.index t 0 = t.val ∧ win0_0.index t 1 = 0 := by revert t; decide +kernel
theorem idx_h (t : Fin grid0.N) : win0_9.index t 0 = t.val ∧ win0_9.index t 1 = 0 := by revert t; decide +kernel
theorem idx_v (t : Fin grid0.N) : win0_12.index t 0 = t.val ∧ win0_12.index t 1 = 0 := by revert t; decide +kernel
theorem idx_u (t : Fin grid0.N) : win0_13.index t 0 = t.val ∧ win0_13.index t 1 = 0 := by revert t; decide +kernel

variable (c : Dev nD) (t : Fin cfg0.N)

theorem steps : t.val < 16 := t.isLt

theorem blk_x (r n : Fin 1024) (hr : 1024 * t.val + r.val < 16384) : iblk m c 0 t (ix2 r n) = V m c main_v136 (ix2 ⟨1024 * t.val + r.val, hr⟩ n) := by
  obtain ⟨e0, e1⟩ := idx_x t
  blk_ext [iblk, e0, e1]

theorem blk_g (n : Fin 1024) : iblk m c 1 t (ix2 0 n) = V m c main_v137 (ix2 0 n) := by
  have e0 : win0_1.index t 0 = 0 := rfl
  have e1 : win0_1.index t 1 = 0 := rfl
  blk_ext [iblk, e0, e1]

theorem blk_b (n : Fin 1024) : iblk m c 2 t (ix2 0 n) = V m c main_v138 (ix2 0 n) := by
  have e0 : win0_2.index t 0 = 0 := rfl
  have e1 : win0_2.index t 1 = 0 := rfl
  blk_ext [iblk, e0, e1]

theorem blk_w (k : Fin 1024) (n : Fin 1792) : iblk m c 3 t (ix2 k n) = V m c main_v139 (ix2 k n) := by
  have e0 : win0_3.index t 0 = 0 := rfl
  have e1 : win0_3.index t 1 = 0 := rfl
  blk_ext [iblk, e0, e1]

/-- The layer norm of row `r` of the flattened input. -/
def normed (r : Fin 16384) : Fin 1024 → EReal :=
  Row.ln cN (fun k => m ((c : Thread nD τ).loc main_arg0) (ix3 ⟨r.val / 2048, by omega⟩ ⟨r.val % 2048, by omega⟩ k))
    (fun k => m ((c : Thread nD τ).loc main_arg1) (ix1 k)) (fun k => m ((c : Thread nD τ).loc main_arg2) (ix1 k))

/-- Its projection. -/
def projected (r : Fin 16384) (n : Fin 1792) : EReal :=
  Row.dot (normed m c r) (fun k n => m ((c : Thread nD τ).loc main_arg3) (ix2 k n)) n

theorem hRow_eq (R : Fin 1024) (hr : 1024 * t.val + R.val < 16384) : hRow (iblk m c 0 t) (iblk m c 1 t) (iblk m c 2 t) R = normed m c ⟨1024 * t.val + R.val, hr⟩ := by
  unfold hRow normed
  rw [funext fun k => (blk_x m c t R k hr).trans (Host.x_at m c _ k), funext fun k => (blk_g m c t k).trans (Host.g_at m c k),
    funext fun k => (blk_b m c t k).trans (Host.b_at m c k)]

theorem proj_eq (R : Fin 1024) (hr : 1024 * t.val + R.val < 16384) (n : Fin 1792) :
    proj (iblk m c 0 t) (iblk m c 1 t) (iblk m c 2 t) (iblk m c 3 t) R n = projected m c ⟨1024 * t.val + R.val, hr⟩ n := by
  unfold proj projected
  rw [hRow_eq m c t R hr, funext fun k => funext fun n => (blk_w m c t k n).trans (Host.w_at m c k n)]

/-- The gated values of a row. -/
def gated (r : Fin 16384) (n : Fin 512) : EReal :=
  projected m c r ⟨768 + n.val, by omega⟩ * Ideal.div 1 (1 + Ideal.exp (-(projected m c r ⟨1280 + n.val, by omega⟩)))

/-- The values of a row, each head twice and then ones. -/
def valued (r : Fin 16384) (n : Fin 512) : EReal :=
  if n.val % 256 < 128 then projected m c r ⟨640 + 64 * (n.val / 256) + n.val % 64, by omega⟩ else Ideal.ofBits .bf16 0x3F80#16

theorem arr_h : (dats m 0 c).arrAt 9 cfg0.N = (fun i : S16384x1024.Idx => normed m c (i 0) (i 1)) := by
  refine (dats m 0 c).arrAt_eq_of_covers 9 _ (by decide +kernel) fun t hf y => ?_
  blk_simp
  rw [after0_9]
  obtain ⟨e0, e1⟩ := idx_h t
  have ht := steps t
  idx_vars y
  refine (out9_at _ _ _ _ _ _ _ _ _ y0 y1).trans ((congrFun (hRow_eq m c t y0 (by omega)) y1).trans ?_)
  refine congr (congrArg (normed m c) (Fin.ext ?_)) (Fin.ext ?_)
  · blk_simp [e0]; show 1024 * t.val + y0.val = t.val * 1024 + y0.val; omega
  · blk_simp [e1]

theorem arr_v : (dats m 0 c).arrAt 12 cfg0.N = (fun i : S16384x512.Idx => valued m c (i 0) (i 1)) := by
  refine (dats m 0 c).arrAt_eq_of_covers 12 _ (by decide +kernel) fun t hf y => ?_
  blk_simp
  rw [after0_12]
  obtain ⟨e0, e1⟩ := idx_v t
  have ht := steps t
  idx_vars y
  refine (out12_at _ _ _ _ _ _ _ _ _ y0 y1).trans ?_
  refine Eq.trans (b := valued m c ⟨1024 * t.val + y0.val, by omega⟩ y1) ?_ ?_
  · unfold vals valued
    rw [proj_eq m c t y0 (by omega)]
  · refine congr (congrArg (valued m c) (Fin.ext ?_)) (Fin.ext ?_)
    · blk_simp [e0]; show 1024 * t.val + y0.val = t.val * 1024 + y0.val; omega
    · blk_simp [e1]

theorem arr_u : (dats m 0 c).arrAt 13 cfg0.N = (fun i : S16384x512.Idx => gated m c (i 0) (i 1)) := by
  refine (dats m 0 c).arrAt_eq_of_covers 13 _ (by decide +kernel) fun t hf y => ?_
  blk_simp
  rw [after0_13]
  obtain ⟨e0, e1⟩ := idx_u t
  have ht := steps t
  idx_vars y
  refine (out13_at _ _ _ _ _ _ _ _ _ y0 y1).trans ?_
  refine Eq.trans (b := gated m c ⟨1024 * t.val + y0.val, by omega⟩ y1) ?_ ?_
  · unfold glu gated
    rw [proj_eq m c t y0 (by omega), proj_eq m c t y0 (by omega)]
  · refine congr (congrArg (gated m c) (Fin.ext ?_)) (Fin.ext ?_)
    · blk_simp [e0]; show 1024 * t.val + y0.val = t.val * 1024 + y0.val; omega
    · blk_simp [e1]

end Cert.InProjIdeal.Block

end
-- ==== Proof.InSeg.lean ====
/- The norm and the rotary embedding of a head's 64 entries, as the reference has them and as the call has them on 128 lanes
   at once: for real entries the two are equal. -/
module

public import proofs.«01_k».proof.Proof.AttnReals

@[expose] public section

noncomputable section

namespace Cert.Row

open Idealize.ShloMosaic Cert.Consts

/-- The root-mean-square norm of a head's entries. -/
def rms (z g : Fin 64 → EReal) (d : Fin 64) : EReal :=
  z d * Ideal.rsqrt (Ideal.div (∑ k, z k * z k) (Ideal.ofBits .f32 0x42800000#32) + Ideal.ofBits .f32 0x3727C5AC#32) * g d

/-- The rotary embedding of a head's entries: each pair turned by its angle. -/
def rope (y : Fin 64 → EReal) (c s : Fin 32 → EReal) (d : Fin 64) : EReal :=
  if d.val % 2 = 0 then y ⟨2 * (d.val / 2), by omega⟩ * c ⟨d.val / 2, by omega⟩ - y ⟨2 * (d.val / 2) + 1, by omega⟩ * s ⟨d.val / 2, by omega⟩
  else y ⟨2 * (d.val / 2), by omega⟩ * s ⟨d.val / 2, by omega⟩ + y ⟨2 * (d.val / 2) + 1, by omega⟩ * c ⟨d.val / 2, by omega⟩

/-- The other lane of a lane's pair. -/
def swap (l : Fin 128) : Fin 128 := ⟨if l.val % 2 = 0 then l.val + 1 else l.val - 1, by split_ifs <;> omega⟩

/-- The sign of the sine at a lane. -/
def sgn (l : ℕ) : EReal := if l % 2 = 0 then Ideal.ofBits .f32 0xBF800000#32 else Ideal.ofBits .f32 0x3F800000#32

/-- The call's norm and rotary embedding on 128 lanes: the mean square by a product with `w`, the turn by the tables `c` and `s`. -/
def segRope (w : Fin 128 → Fin 128 → EReal) (z c s : Fin 128 → EReal) (l : Fin 128) : EReal :=
  Ideal.rsqrt (((∑ j, z j * z j * w j l) + ∑ j, (z j * z j - z j * z j) * w j l) * Ideal.ofBits .f32 0x3C800000#32 + Ideal.ofBits .f32 0x3727C5AC#32)
    * (z l * c l + z (swap l) * s l)

/-- Which lanes belong to the same head. -/
def same (j l : Fin 128) : EReal := if j.val / 64 = l.val / 64 then 1 else 0

/-- The entries of the head that holds lane `l`. -/
def seg (z : Fin 128 → EReal) (l : Fin 128) (d : Fin 64) : EReal := z ⟨64 * (l.val / 64) + d.val, by omega⟩

theorem minus_one : Ideal.ofBits .f32 0xBF800000#32 = -1 := by
  rw [show (-1 : EReal) = ((-1 : ℝ) : EReal) from rfl]
  simp [Ideal.ofBits, Ideal.ieee, -EReal.coe_mul, -EReal.coe_neg]; norm_num
theorem plus_one : Ideal.ofBits .f32 0x3F800000#32 = 1 := by
  rw [show (1 : EReal) = ((1 : ℝ) : EReal) from rfl]
  simp [Ideal.ofBits, Ideal.ieee, -EReal.coe_mul, -EReal.coe_one]; norm_num

theorem IsR.sub_self {x : EReal} : IsR x → x - x = 0 := by
  rintro ⟨a, rfl⟩; rw [← EReal.coe_sub, _root_.sub_self]; rfl

theorem seg_sum (f : Fin 128 → EReal) (l : Fin 128) : (∑ j, f j * same j l) = ∑ d : Fin 64, f ⟨64 * (l.val / 64) + d.val, by omega⟩ := by
  have hl := l.isLt
  rw [Attn.sum_halves]
  by_cases h : l.val / 64 = 0
  · have e1 : ∀ d : Fin 64, same ⟨d.val, by omega⟩ l = 1 := fun d => if_pos (by simp only; omega)
    have e2 : ∀ d : Fin 64, same ⟨64 + d.val, by omega⟩ l = 0 := fun d => if_neg (by simp only; omega)
    simp only [e1, e2, mul_one, mul_zero, Finset.sum_const_zero, add_zero]
    exact Finset.sum_congr rfl fun d _ => congrArg f (Fin.ext (by simp only; omega))
  · have e1 : ∀ d : Fin 64, same ⟨d.val, by omega⟩ l = 0 := fun d => if_neg (by simp only; omega)
    have e2 : ∀ d : Fin 64, same ⟨64 + d.val, by omega⟩ l = 1 := fun d => if_pos (by simp only; omega)
    simp only [e1, e2, mul_one, mul_zero, Finset.sum_const_zero, zero_add]
    exact Finset.sum_congr rfl fun d _ => congrArg f (Fin.ext (by simp only; omega))

/-- The inverse square root of a mean of squares of reals is a nonnegative real. -/
theorem rsqrt_nonneg {z : Fin 64 → EReal} (hz : ∀ k, IsR (z k)) :
    0 ≤ Ideal.rsqrt (Ideal.div (∑ k, z k * z k) (Ideal.ofBits .f32 0x42800000#32) + Ideal.ofBits .f32 0x3727C5AC#32)
      ∧ Ideal.rsqrt (Ideal.div (∑ k, z k * z k) (Ideal.ofBits .f32 0x42800000#32) + Ideal.ofBits .f32 0x3727C5AC#32) ≠ ⊤ := by
  obtain ⟨e, he, hE⟩ := eps
  choose g hg using hz
  obtain rfl : (fun i => (g i : EReal)) = z := funext hg
  rw [hE, c64, Ideal.div_coe (by norm_num), show (∑ k, (g k : EReal) * (g k : EReal)) = ((∑ k, g k * g k : ℝ) : EReal) by
    rw [coe_sum]; exact Finset.sum_congr rfl fun k _ => (EReal.coe_mul _ _).symm, ← EReal.coe_mul, ← EReal.coe_add]
  have h0 : 0 ≤ ∑ k, g k * g k := Finset.sum_nonneg fun k _ => mul_self_nonneg _
  have hp : 0 < (∑ k, g k * g k) * (1 / 64) + e := by positivity
  have hr : Ideal.rsqrt (((∑ k, g k * g k) * (1 / 64) + e : ℝ) : EReal) = (((Real.sqrt ((∑ k, g k * g k) * (1 / 64) + e))⁻¹ : ℝ) : EReal) := by
    show (if _ < 0 then (⊥ : EReal) else if _ = 0 then ⊤ else _) = _
    rw [if_neg (not_lt.mpr hp.le), if_neg hp.ne']
  rw [hr]
  exact ⟨EReal.coe_nonneg.mpr (inv_nonneg.mpr (Real.sqrt_nonneg _)), EReal.coe_ne_top _⟩

/-- For real entries the call's norm and rotary embedding are the reference's. -/
theorem segRope_eq {z : Fin 128 → EReal} (hz : ∀ j, IsR (z j)) (g : Fin 64 → EReal) (cos sin : Fin 32 → EReal) (l : Fin 128) :
    segRope same z (fun l => cos ⟨l.val % 64 / 2, by omega⟩ * g ⟨l.val % 64, by omega⟩)
        (fun l => sin ⟨l.val % 64 / 2, by omega⟩ * sgn (l.val % 64) * g ⟨(swap l).val % 64, by omega⟩) l
      = rope (rms (seg z l) g) cos sin ⟨l.val % 64, by omega⟩ := by
  have hl := l.isLt
  unfold segRope
  have hlo : (∑ j, (z j * z j - z j * z j) * same j l) = 0 :=
    Finset.sum_eq_zero fun j _ => by rw [((hz j).mul (hz j)).sub_self, zero_mul]
  rw [hlo, add_zero, seg_sum (fun j => z j * z j), inv64]
  have hd : (∑ d : Fin 64, z ⟨64 * (l.val / 64) + d.val, by omega⟩ * z ⟨64 * (l.val / 64) + d.val, by omega⟩) * ((1 / 64 : ℝ) : EReal)
      = Ideal.div (∑ k, seg z l k * seg z l k) (Ideal.ofBits .f32 0x42800000#32) := by
    rw [c64, Ideal.div_coe (by norm_num)]; rfl
  rw [hd]
  obtain ⟨h0, ht⟩ := rsqrt_nonneg (z := seg z l) fun k => hz _
  unfold rms
  generalize Ideal.rsqrt (Ideal.div (∑ k, seg z l k * seg z l k) (Ideal.ofBits .f32 0x42800000#32) + Ideal.ofBits .f32 0x3727C5AC#32) = r at h0 ht ⊢
  rw [EReal.left_distrib_of_nonneg_of_ne_top h0 ht]
  unfold rope
  by_cases he : l.val % 2 = 0
  · have e1 : z l = seg z l ⟨2 * (l.val % 64 / 2), by omega⟩ := congrArg z (Fin.ext (by simp only; omega))
    have e2 : z (swap l) = seg z l ⟨2 * (l.val % 64 / 2) + 1, by omega⟩ := congrArg z (Fin.ext (by simp only [swap, if_pos he]; omega))
    have e3 : (⟨l.val % 64, by omega⟩ : Fin 64) = ⟨2 * (l.val % 64 / 2), by omega⟩ := Fin.ext (by simp only; omega)
    have e4 : (⟨(swap l).val % 64, by omega⟩ : Fin 64) = ⟨2 * (l.val % 64 / 2) + 1, by omega⟩ := Fin.ext (by simp only [swap, if_pos he]; omega)
    have e5 : sgn (l.val % 64) = -1 := (if_pos (by omega)).trans minus_one
    rw [if_pos (by simp only; omega)]
    dsimp only
    rw [e1, e2, e4, e5]
    simp only [sub_eq_add_neg, mul_neg, neg_mul, mul_one]
    rw [show g ⟨l.val % 64, by omega⟩ = g ⟨2 * (l.val % 64 / 2), by omega⟩ from congrArg g e3]
    congr 1
    · ac_rfl
    · congr 1; ac_rfl
  · have e1 : z (swap l) = seg z l ⟨2 * (l.val % 64 / 2), by omega⟩ := congrArg z (Fin.ext (by simp only [swap, if_neg he]; omega))
    have e2 : z l = seg z l ⟨2 * (l.val % 64 / 2) + 1, by omega⟩ := congrArg z (Fin.ext (by simp only; omega))
    have e3 : (⟨l.val % 64, by omega⟩ : Fin 64) = ⟨2 * (l.val % 64 / 2) + 1, by omega⟩ := Fin.ext (by simp only; omega)
    have e4 : (⟨(swap l).val % 64, by omega⟩ : Fin 64) = ⟨2 * (l.val % 64 / 2), by omega⟩ := Fin.ext (by simp only [swap, if_neg he]; omega)
    have e5 : sgn (l.val % 64) = 1 := (if_neg (by omega)).trans plus_one
    rw [if_neg (by simp only; omega)]
    dsimp only
    rw [e1, e2, e4, e5]
    rw [show g ⟨l.val % 64, by omega⟩ = g ⟨2 * (l.val % 64 / 2) + 1, by omega⟩ from congrArg g e3]
    rw [mul_one, add_comm]
    congr 1 <;> ac_rfl

/-- A layer norm with real gain and bias is real, whatever the row: a row of infinite variance gives the bias. -/
theorem ln_real {g b x : Fin 1024 → EReal} (hg : ∀ k, IsR (g k)) (hb : ∀ k, IsR (b k)) (c : Fin 1024) :
    IsR (ln (Ideal.ofBits .f32 0x44800000#32) x g b c) := by
  obtain ⟨e, he, hE⟩ := eps
  unfold ln
  refine IsR.add (IsR.mul ?_ (hg c)) (hb c)
  generalize mean (Ideal.ofBits .f32 0x44800000#32) x = μ
  unfold mean
  rw [c1024, Ideal.div_coe (by norm_num), hE]
  have hsq : ∀ a : EReal, 0 ≤ a * a := fun a => by
    induction a with
    | bot => simp
    | top => simp
    | coe r => rw [← EReal.coe_mul]; exact EReal.coe_nonneg.mpr (mul_self_nonneg r)
  have hS0 : 0 ≤ ∑ k, (x k - μ) * (x k - μ) := Finset.sum_nonneg fun k _ => hsq _
  have hle : (x c - μ) * (x c - μ) ≤ ∑ k, (x k - μ) * (x k - μ) :=
    Finset.single_le_sum (f := fun k => (x k - μ) * (x k - μ)) (fun k _ => hsq _) (Finset.mem_univ c)
  generalize (∑ k, (x k - μ) * (x k - μ)) = S at hS0 hle ⊢
  generalize x c - μ = y at hle ⊢
  induction S with
  | bot => exact absurd hS0 (by simp)
  | top =>
    rw [EReal.top_mul_coe_of_pos (by norm_num), EReal.top_add_coe]
    have : Ideal.rsqrt ⊤ = 0 := rfl
    rw [this, mul_zero]
    exact IsR.coe 0
  | coe s =>
    have hs := EReal.coe_nonneg.mp hS0
    rw [← EReal.coe_mul, ← EReal.coe_add]
    refine IsR.mul ?_ (rsqrt_pos (by positivity))
    induction y with
    | bot => simp at hle
    | top => simp at hle
    | coe r => exact IsR.coe r

end Cert.Row

end
-- ==== Proof.InRope.lean ====
/- The input projection's tiles of queries and keys, read entry by entry: 128 lanes normed by head and turned. -/
module

public import proofs.«01_k».proof.Proof.InSeg
public import proofs.«01_k».proof.Proof.InTile

@[expose] public section

set_option maxRecDepth 65536

noncomputable section

namespace Cert.InProjIdeal.Block

open Cert Cert.InProjIdeal Cert.InProjIdeal.Gen Idealize.ShloMosaic Idealize.ShloMosaic.Pointwise Idealize.SL.Sem

theorem even_at (r : Fin 256) (l : Fin 128) : k0_pay3 (ix2 r l) = BitVec.ofBool (decide (l.val % 2 = 0)) := by
  have key : ∀ (l : Fin 128), IntOp.cmpi .eq (IntOp.andi (BitVec.ofNat 32 l.val) 1#32) 0#32 = BitVec.ofBool (decide (l.val % 2 = 0)) := by decide
  unfold k0_pay3
  pointwise
  exact key l

variable (B : FVec Ideal S128x128 .bf16) (c s : FVec Ideal S256x128 .f32) (r : Fin 256) (l : Fin 128)

/-- 128 lanes of a row, normed and turned. -/
abbrev turned (z : Fin 128 → EReal) : EReal :=
  Row.segRope (fun j l => B (ix2 j l)) z (fun l => c (ix2 r l)) (fun l => s (ix2 r l)) l

theorem turn_at (z : FVec Ideal S256x128 .f32) :
    k0_pay40 B k0_pay3 c s z (dynamicRotate 1 127#32 none z rotates_S256x128_d1) (dynamicRotate 1 1#32 none z rotates_S256x128_d1) (ix2 r l)
      = turned B c s r l (fun j => z (ix2 r j)) := by
  have hl := l.isLt
  unfold k0_pay40 turned Row.segRope
  pointwise [even_at]
  by_cases h : l.val % 2 = 0
  · simp only [if_pos h]
    have e : (⟨(l.val + 128 - 127) % 128, by omega⟩ : Fin 128) = Row.swap l := Fin.ext (by simp only [Row.swap, if_pos h]; omega)
    exact congrArg (fun n => _ * (_ + z (ix2 r n) * _)) e
  · simp only [if_neg h]
    have e : (⟨(l.val + 128 - 1) % 128, by omega⟩ : Fin 128) = Row.swap l := Fin.ext (by simp only [Row.swap, if_neg h]; omega)
    exact congrArg (fun n => _ * (_ + z (ix2 r n) * _)) e

theorem q1_eq (e : IVec S256x128 1) (z : FVec Ideal S256x512 .f32) : k0_pay41 B e z c s
    = k0_pay40 B e c s (extractStridedSlice S256x128 ![0, 128] z slices_S256x512_o0_128_S256x128)
      (dynamicRotate 1 127#32 none (extractStridedSlice S256x128 ![0, 128] z slices_S256x512_o0_128_S256x128) rotates_S256x128_d1)
      (dynamicRotate 1 1#32 none (extractStridedSlice S256x128 ![0, 128] z slices_S256x512_o0_128_S256x128) rotates_S256x128_d1) := by
  unfold k0_pay41 k0_pay40
  rfl

theorem q3_eq (e : IVec S256x128 1) (z : FVec Ideal S256x512 .f32) : k0_pay44 B e z c s
    = k0_pay40 B e c s (extractStridedSlice S256x128 ![0, 384] z slices_S256x512_o0_384_S256x128)
      (dynamicRotate 1 127#32 none (extractStridedSlice S256x128 ![0, 384] z slices_S256x512_o0_384_S256x128) rotates_S256x128_d1)
      (dynamicRotate 1 1#32 none (extractStridedSlice S256x128 ![0, 384] z slices_S256x512_o0_384_S256x128) rotates_S256x128_d1) := by
  unfold k0_pay44 k0_pay40
  rfl

theorem q2_eq (e : IVec S256x128 1) (z : FVec Ideal S256x512 .f32) : k0_pay43 B e c s (k0_pay42 z)
    = k0_pay40 B e c s (extractStridedSlice S256x128 ![0, 256] z slices_S256x512_o0_256_S256x128)
      (dynamicRotate 1 127#32 none (extractStridedSlice S256x128 ![0, 256] z slices_S256x512_o0_256_S256x128) rotates_S256x128_d1)
      (dynamicRotate 1 1#32 none (extractStridedSlice S256x128 ![0, 256] z slices_S256x512_o0_256_S256x128) rotates_S256x128_d1) := by
  unfold k0_pay43 k0_pay42 k0_pay40
  rfl

theorem q0_eq (e : IVec S256x128 1) (z : FVec Ideal S256x512 .f32) : k0_pay40 B e c s (k0_pay37 z) (k0_pay38 z) (k0_pay39 z)
    = k0_pay40 B e c s (extractStridedSlice S256x128 ![0, 0] z slices_S256x512_o0_0_S256x128)
      (dynamicRotate 1 127#32 none (extractStridedSlice S256x128 ![0, 0] z slices_S256x512_o0_0_S256x128) rotates_S256x128_d1)
      (dynamicRotate 1 1#32 none (extractStridedSlice S256x128 ![0, 0] z slices_S256x512_o0_0_S256x128) rotates_S256x128_d1) := by
  unfold k0_pay38 k0_pay39 k0_pay37
  rfl

theorem kk_eq (e : IVec S256x128 1) (z : FVec Ideal S256x256 .f32) : k0_pay45 B e z c s
    = k0_pay40 B e (shapeCast S256x128 c shapeCasts_S256x128_S256x128) (shapeCast S256x128 s shapeCasts_S256x128_S256x128) (extractStridedSlice S256x128 ![0, 0] z slices_S256x256_o0_0_S256x128)
      (dynamicRotate 1 127#32 none (extractStridedSlice S256x128 ![0, 0] z slices_S256x256_o0_0_S256x128) rotates_S256x128_d1)
      (dynamicRotate 1 1#32 none (extractStridedSlice S256x128 ![0, 0] z slices_S256x256_o0_0_S256x128) rotates_S256x128_d1) := by
  unfold k0_pay45 k0_pay40
  rfl

theorem q0_at (z : FVec Ideal S256x512 .f32) : k0_pay40 B k0_pay3 c s (k0_pay37 z) (k0_pay38 z) (k0_pay39 z) (ix2 r l)
    = turned B c s r l (fun j => z (ix2 r ⟨j.val, by omega⟩)) := by
  rw [q0_eq, turn_at]
  refine (congrArg (turned B c s r l) (funext fun j => ?_))
  pointwise

theorem q1_at (z : FVec Ideal S256x512 .f32) : k0_pay41 B k0_pay3 z c s (ix2 r l)
    = turned B c s r l (fun j => z (ix2 r ⟨128 + j.val, by omega⟩)) := by
  rw [q1_eq, turn_at]
  refine (congrArg (turned B c s r l) (funext fun j => ?_))
  pointwise

theorem q2_at (z : FVec Ideal S256x512 .f32) : k0_pay43 B k0_pay3 c s (k0_pay42 z) (ix2 r l)
    = turned B c s r l (fun j => z (ix2 r ⟨256 + j.val, by omega⟩)) := by
  rw [q2_eq, turn_at]
  refine (congrArg (turned B c s r l) (funext fun j => ?_))
  pointwise

theorem q3_at (z : FVec Ideal S256x512 .f32) : k0_pay44 B k0_pay3 z c s (ix2 r l)
    = turned B c s r l (fun j => z (ix2 r ⟨384 + j.val, by omega⟩)) := by
  rw [q3_eq, turn_at]
  refine (congrArg (turned B c s r l) (funext fun j => ?_))
  pointwise

theorem kk_at (z : FVec Ideal S256x256 .f32) : k0_pay45 B k0_pay3 z c s (ix2 r l)
    = turned B c s r l (fun j => z (ix2 r ⟨j.val, by omega⟩)) := by
  have hs : ∀ x : FVec Ideal S256x128 .f32, shapeCast S256x128 x shapeCasts_S256x128_S256x128 = x := fun x => by
    funext y; idx_vars y; pointwise
  rw [kk_eq, hs, hs, turn_at]
  refine (congrArg (turned B c s r l) (funext fun j => ?_))
  pointwise

/-- A tile of keys: the first head in both halves. -/
theorem k0_at (z : FVec Ideal S256x256 .f32) : k0_pay47 B k0_pay3 k0_pay4 z c s (ix2 r l)
    = turned B c s r ⟨l.val % 64, by omega⟩ (fun j => z (ix2 r ⟨j.val, by omega⟩)) := by
  have hl := l.isLt
  unfold k0_pay47 k0_pay46
  pointwise [lo_at, kk_at]
  by_cases h : l.val < 64
  · rw [if_pos h]; exact congrArg (fun l => turned B c s r l fun j => z (ix2 r ⟨j.val, by omega⟩)) (Fin.ext (by simp only; omega))
  · rw [if_neg h]; exact congrArg (fun l => turned B c s r l fun j => z (ix2 r ⟨j.val, by omega⟩)) (Fin.ext (by simp only; omega))

/-- A tile of keys: the second head in both halves. -/
theorem k1_at (z : FVec Ideal S256x256 .f32) : k0_pay48 B k0_pay3 k0_pay4 z c s (ix2 r l)
    = turned B c s r ⟨64 + l.val % 64, by omega⟩ (fun j => z (ix2 r ⟨j.val, by omega⟩)) := by
  have hl := l.isLt
  unfold k0_pay48 k0_pay46
  pointwise [lo_at, kk_at]
  by_cases h : l.val < 64
  · rw [if_pos h]; exact congrArg (fun l => turned B c s r l fun j => z (ix2 r ⟨j.val, by omega⟩)) (Fin.ext (by simp only; omega))
  · rw [if_neg h]; exact congrArg (fun l => turned B c s r l fun j => z (ix2 r ⟨j.val, by omega⟩)) (Fin.ext (by simp only; omega))

end Cert.InProjIdeal.Block

end
-- ==== Proof.InTurn.lean ====
/- The blocks of queries and keys the input projection leaves in its outputs, read entry by entry. -/
module

public import proofs.«01_k».proof.Proof.InRope
public import proofs.«01_k».proof.Proof.InBlock

@[expose] public section

set_option maxRecDepth 65536

noncomputable section

namespace Cert.InProjIdeal.Block

open Cert Cert.InProjIdeal Cert.InProjIdeal.Gen Idealize.ShloMosaic Idealize.ShloMosaic.Pointwise Idealize.SL.Sem

variable (x0 : Vec Ideal S1024x1024 .f32) (x1 x2 : Vec Ideal S1x1024 .f32) (x3 : Vec Ideal S1024x1792 .bf16)
  (x4 x5 x6 x7 : Vec Ideal S1024x128 .f32) (x8 : Vec Ideal S128x128 .bf16)

/-- The queries of a block's row. -/
def qRow (R : Fin 1024) (n : Fin 512) : EReal :=
  Row.segRope (fun j l => x8 (ix2 j l)) (fun j => proj x0 x1 x2 x3 R ⟨128 * (n.val / 128) + j.val, by omega⟩)
    (fun l => x4 (ix2 R l)) (fun l => x5 (ix2 R l)) ⟨n.val % 128, by omega⟩

/-- The keys of a block's row, each head twice. -/
def kRow (R : Fin 1024) (n : Fin 256) : EReal :=
  Row.segRope (fun j l => x8 (ix2 j l)) (fun j => proj x0 x1 x2 x3 R ⟨512 + j.val, by omega⟩)
    (fun l => x6 (ix2 R l)) (fun l => x7 (ix2 R l)) ⟨64 * (n.val / 128) + n.val % 64, by omega⟩

theorem wide18_at (H : FVec Ideal S256x1024 .bf16) (W : Vec Ideal S1024x512 .bf16) (r : Fin 256) (n : Fin 512) :
    k0_pay18 H W (ix2 r n) = Row.dot (fun k => H (ix2 r k)) (fun k n => W (ix2 k n)) n := by
  unfold k0_pay18 Row.dot
  pointwise

theorem ld_w6 (k : Fin 1024) (n : Fin 512) : View.ld x3 r0_6 (ix2 k n) = x3 (ix2 k ⟨n.val, by omega⟩) := by
  refine congrArg x3 (funext fun a => Fin.ext ?_)
  fin_cases a <;> simp [LoadRect.idx_apply]

theorem ld_t (x : Vec Ideal S1024x128 .f32) (o : ℕ) (h : ∀ a, ![o, 0] a + S256x128.size a ≤ S1024x128.size a) (r : Fin 256) (k : Fin 128) (ho : o + r.val < 1024) :
    View.ld x (Rect.unit (s := S1024x128) ![o, 0] S256x128.size h) (ix2 r k) = x (ix2 ⟨o + r.val, ho⟩ k) := by
  refine congrArg x (funext fun a => Fin.ext ?_)
  fin_cases a <;> simp [LoadRect.idx_apply]

theorem same_at (j l : Fin 128) : k0_pay2 (View.ld x8 r0_0) (ix2 j l) = x8 (ix2 j l) := by
  unfold k0_pay2
  pointwise

theorem tab_at (C : Vec Ideal S256x128 .f32) (r : Fin 256) (l : Fin 128) : k0_pay35 C (ix2 r l) = C (ix2 r l) := by
  unfold k0_pay35
  pointwise

/-- The products of a tile's rows with the queries' columns, and with the keys' and values'. -/
def qDot (X : Vec Ideal S256x1024 .f32) : FVec Ideal S256x512 .f32 := k0_pay18 (k0_pay7 X (View.ld x1 r0_2) (View.ld x2 r0_2)) (View.ld x3 r0_6)
def kDot (X : Vec Ideal S256x1024 .f32) : FVec Ideal S256x256 .f32 := k0_pay19 (k0_pay7 X (View.ld x1 r0_2) (View.ld x2 r0_2)) (View.ld x3 r0_7)

/-- The queries' tile of some rows, 128 columns of them. -/
def qTile (g : Fin 4) (X : Vec Ideal S256x1024 .f32) (C S : Vec Ideal S256x128 .f32) : FVec Ideal S256x128 .bf16 :=
  match g with
  | 0 => k0_pay40 (k0_pay2 (View.ld x8 r0_0)) k0_pay3 (k0_pay35 C) (k0_pay35 S) (k0_pay37 (qDot x1 x2 x3 X)) (k0_pay38 (qDot x1 x2 x3 X)) (k0_pay39 (qDot x1 x2 x3 X))
  | 1 => k0_pay41 (k0_pay2 (View.ld x8 r0_0)) k0_pay3 (qDot x1 x2 x3 X) (k0_pay35 C) (k0_pay35 S)
  | 2 => k0_pay43 (k0_pay2 (View.ld x8 r0_0)) k0_pay3 (k0_pay35 C) (k0_pay35 S) (k0_pay42 (qDot x1 x2 x3 X))
  | 3 => k0_pay44 (k0_pay2 (View.ld x8 r0_0)) k0_pay3 (qDot x1 x2 x3 X) (k0_pay35 C) (k0_pay35 S)

/-- The keys' tile of some rows, one for each head. -/
def kTile (g : Fin 2) (X : Vec Ideal S256x1024 .f32) (C S : Vec Ideal S256x128 .f32) : FVec Ideal S256x128 .bf16 :=
  match g with
  | 0 => k0_pay47 (k0_pay2 (View.ld x8 r0_0)) k0_pay3 k0_pay4 (kDot x1 x2 x3 X) C S
  | 1 => k0_pay48 (k0_pay2 (View.ld x8 r0_0)) k0_pay3 k0_pay4 (kDot x1 x2 x3 X) C S

theorem out10_eq : out0_10 x0 x1 x2 x3 x4 x5 x6 x7 x8
    = View.canon [⟨r0_39, qTile x1 x2 x3 x8 3 (View.ld x0 r0_5) (View.ld x4 r0_35) (View.ld x5 r0_35)⟩, ⟨r0_38, qTile x1 x2 x3 x8 2 (View.ld x0 r0_5) (View.ld x4 r0_35) (View.ld x5 r0_35)⟩,
        ⟨r0_37, qTile x1 x2 x3 x8 1 (View.ld x0 r0_5) (View.ld x4 r0_35) (View.ld x5 r0_35)⟩, ⟨r0_36, qTile x1 x2 x3 x8 0 (View.ld x0 r0_5) (View.ld x4 r0_35) (View.ld x5 r0_35)⟩,
        ⟨r0_31, qTile x1 x2 x3 x8 3 (View.ld x0 r0_4) (View.ld x4 r0_27) (View.ld x5 r0_27)⟩, ⟨r0_30, qTile x1 x2 x3 x8 2 (View.ld x0 r0_4) (View.ld x4 r0_27) (View.ld x5 r0_27)⟩,
        ⟨r0_29, qTile x1 x2 x3 x8 1 (View.ld x0 r0_4) (View.ld x4 r0_27) (View.ld x5 r0_27)⟩, ⟨r0_28, qTile x1 x2 x3 x8 0 (View.ld x0 r0_4) (View.ld x4 r0_27) (View.ld x5 r0_27)⟩,
        ⟨r0_23, qTile x1 x2 x3 x8 3 (View.ld x0 r0_3) (View.ld x4 r0_19) (View.ld x5 r0_19)⟩, ⟨r0_22, qTile x1 x2 x3 x8 2 (View.ld x0 r0_3) (View.ld x4 r0_19) (View.ld x5 r0_19)⟩,
        ⟨r0_21, qTile x1 x2 x3 x8 1 (View.ld x0 r0_3) (View.ld x4 r0_19) (View.ld x5 r0_19)⟩, ⟨r0_20, qTile x1 x2 x3 x8 0 (View.ld x0 r0_3) (View.ld x4 r0_19) (View.ld x5 r0_19)⟩,
        ⟨r0_15, qTile x1 x2 x3 x8 3 (View.ld x0 r0_1) (View.ld x4 r0_11) (View.ld x5 r0_11)⟩, ⟨r0_14, qTile x1 x2 x3 x8 2 (View.ld x0 r0_1) (View.ld x4 r0_11) (View.ld x5 r0_11)⟩,
        ⟨r0_13, qTile x1 x2 x3 x8 1 (View.ld x0 r0_1) (View.ld x4 r0_11) (View.ld x5 r0_11)⟩, ⟨r0_12, qTile x1 x2 x3 x8 0 (View.ld x0 r0_1) (View.ld x4 r0_11) (View.ld x5 r0_11)⟩] := by
  unfold_out out0_10
  rfl

theorem out11_eq : out0_11 x0 x1 x2 x3 x4 x5 x6 x7 x8
    = View.canon [⟨r0_41, kTile x1 x2 x3 x8 1 (View.ld x0 r0_5) (View.ld x6 r0_35) (View.ld x7 r0_35)⟩, ⟨r0_40, kTile x1 x2 x3 x8 0 (View.ld x0 r0_5) (View.ld x6 r0_35) (View.ld x7 r0_35)⟩,
        ⟨r0_33, kTile x1 x2 x3 x8 1 (View.ld x0 r0_4) (View.ld x6 r0_27) (View.ld x7 r0_27)⟩, ⟨r0_32, kTile x1 x2 x3 x8 0 (View.ld x0 r0_4) (View.ld x6 r0_27) (View.ld x7 r0_27)⟩,
        ⟨r0_25, kTile x1 x2 x3 x8 1 (View.ld x0 r0_3) (View.ld x6 r0_19) (View.ld x7 r0_19)⟩, ⟨r0_24, kTile x1 x2 x3 x8 0 (View.ld x0 r0_3) (View.ld x6 r0_19) (View.ld x7 r0_19)⟩,
        ⟨r0_17, kTile x1 x2 x3 x8 1 (View.ld x0 r0_1) (View.ld x6 r0_11) (View.ld x7 r0_11)⟩, ⟨r0_16, kTile x1 x2 x3 x8 0 (View.ld x0 r0_1) (View.ld x6 r0_11) (View.ld x7 r0_11)⟩] := by
  unfold_out out0_11
  rfl

/-- Two rows' turns agree when their entries, tables and masks do. -/
theorem turned_congr {B : FVec Ideal S128x128 .bf16} {C S : FVec Ideal S256x128 .f32} {r : Fin 256} {l l' : Fin 128} {z : Fin 128 → EReal}
    {w : Fin 128 → Fin 128 → EReal} {z' c s : Fin 128 → EReal} (hB : ∀ j l, B (ix2 j l) = w j l) (hC : ∀ l, C (ix2 r l) = c l) (hS : ∀ l, S (ix2 r l) = s l)
    (hz : ∀ j, z j = z' j) (hl : l = l') : turned B C S r l z = Row.segRope w z' c s l' := by
  subst hl
  unfold turned
  rw [funext fun j => funext fun l => hB j l, funext hC, funext hS, funext hz]

theorem qTile_at (g : Fin 4) {X : Vec Ideal S256x1024 .f32} {C S : Vec Ideal S256x128 .f32} {r : Fin 256} {R : Fin 1024}
    (hX : ∀ k, X (ix2 r k) = x0 (ix2 R k)) (hC : ∀ l, C (ix2 r l) = x4 (ix2 R l)) (hS : ∀ l, S (ix2 r l) = x5 (ix2 R l))
    (l : Fin 128) (N : Fin 512) (hN : N.val = 128 * g.val + l.val) :
    qTile x1 x2 x3 x8 g X C S (ix2 r l) = qRow x0 x1 x2 x3 x4 x5 x8 R N := by
  have hl := l.isLt
  have hq : ∀ n : Fin 512, qDot x1 x2 x3 X (ix2 r n) = proj x0 x1 x2 x3 R ⟨n.val, by omega⟩ := fun n => by
    unfold qDot
    rw [wide18_at, tile_dot x0 x1 x2 x3 hX fun k => ld_w6 x3 k n]
  have e : ∀ (j : Fin 128) (n : Fin 512), n.val = 128 * (N.val / 128) + j.val →
      qDot x1 x2 x3 X (ix2 r n) = proj x0 x1 x2 x3 R ⟨128 * (N.val / 128) + j.val, by omega⟩ := fun j n hn =>
    (hq n).trans (congrArg (proj x0 x1 x2 x3 R) (Fin.ext hn))
  unfold qRow
  fin_cases g
  · exact (q0_at _ _ _ r l _).trans (turned_congr (same_at x8) (fun l => (tab_at C r l).trans (hC l)) (fun l => (tab_at S r l).trans (hS l))
      (fun j => e j _ (by simp only at hN ⊢; omega)) (Fin.ext (by simp only at hN ⊢; omega)))
  · exact (q1_at _ _ _ r l _).trans (turned_congr (same_at x8) (fun l => (tab_at C r l).trans (hC l)) (fun l => (tab_at S r l).trans (hS l))
      (fun j => e j _ (by simp only at hN ⊢; omega)) (Fin.ext (by simp only at hN ⊢; omega)))
  · exact (q2_at _ _ _ r l _).trans (turned_congr (same_at x8) (fun l => (tab_at C r l).trans (hC l)) (fun l => (tab_at S r l).trans (hS l))
      (fun j => e j _ (by simp only at hN ⊢; omega)) (Fin.ext (by simp only at hN ⊢; omega)))
  · exact (q3_at _ _ _ r l _).trans (turned_congr (same_at x8) (fun l => (tab_at C r l).trans (hC l)) (fun l => (tab_at S r l).trans (hS l))
      (fun j => e j _ (by simp only at hN ⊢; omega)) (Fin.ext (by simp only at hN ⊢; omega)))

theorem kTile_at (g : Fin 2) {X : Vec Ideal S256x1024 .f32} {C S : Vec Ideal S256x128 .f32} {r : Fin 256} {R : Fin 1024}
    (hX : ∀ k, X (ix2 r k) = x0 (ix2 R k)) (hC : ∀ l, C (ix2 r l) = x6 (ix2 R l)) (hS : ∀ l, S (ix2 r l) = x7 (ix2 R l))
    (l : Fin 128) (N : Fin 256) (hN : N.val = 128 * g.val + l.val) :
    kTile x1 x2 x3 x8 g X C S (ix2 r l) = kRow x0 x1 x2 x3 x6 x7 x8 R N := by
  have hl := l.isLt
  have hk : ∀ n : Fin 256, kDot x1 x2 x3 X (ix2 r n) = proj x0 x1 x2 x3 R ⟨512 + n.val, by omega⟩ := fun n => by
    unfold kDot
    rw [narrow_at, tile_dot x0 x1 x2 x3 hX fun k => ld_w7 x3 k n]
  unfold kRow
  fin_cases g
  · exact (k0_at _ _ _ r l _).trans (turned_congr (same_at x8) hC hS (fun j => hk _) (Fin.ext (by simp only at hN ⊢; omega)))
  · exact (k1_at _ _ _ r l _).trans (turned_congr (same_at x8) hC hS (fun j => hk _) (Fin.ext (by simp only at hN ⊢; omega)))

/-- One stored tile of queries, at the rows from `o` on. -/
theorem q_piece (g : Fin 4) (o : ℕ) (h : ∀ a, ![o, 0] a + S256x1024.size a ≤ S1024x1024.size a) (h' : ∀ a, ![o, 0] a + S256x128.size a ≤ S1024x128.size a)
    (r : Fin 256) (l : Fin 128) (R : Fin 1024) (hR : R.val = o + r.val) (N : Fin 512) (hN : N.val = 128 * g.val + l.val) :
    qTile x1 x2 x3 x8 g (View.ld x0 (Rect.unit (s := S1024x1024) ![o, 0] S256x1024.size h)) (View.ld x4 (Rect.unit (s := S1024x128) ![o, 0] S256x128.size h'))
      (View.ld x5 (Rect.unit (s := S1024x128) ![o, 0] S256x128.size h')) (ix2 r l) = qRow x0 x1 x2 x3 x4 x5 x8 R N := by
  have ho : o + r.val < 1024 := by omega
  obtain rfl : R = ⟨o + r.val, ho⟩ := Fin.ext hR
  exact qTile_at x0 x1 x2 x3 x4 x5 x8 g (fun k => ld_x x0 o h r k _) (fun k => ld_t x4 o h' r k _) (fun k => ld_t x5 o h' r k _) l N hN

theorem k_piece (g : Fin 2) (o : ℕ) (h : ∀ a, ![o, 0] a + S256x1024.size a ≤ S1024x1024.size a) (h' : ∀ a, ![o, 0] a + S256x128.size a ≤ S1024x128.size a)
    (r : Fin 256) (l : Fin 128) (R : Fin 1024) (hR : R.val = o + r.val) (N : Fin 256) (hN : N.val = 128 * g.val + l.val) :
    kTile x1 x2 x3 x8 g (View.ld x0 (Rect.unit (s := S1024x1024) ![o, 0] S256x1024.size h)) (View.ld x6 (Rect.unit (s := S1024x128) ![o, 0] S256x128.size h'))
      (View.ld x7 (Rect.unit (s := S1024x128) ![o, 0] S256x128.size h')) (ix2 r l) = kRow x0 x1 x2 x3 x6 x7 x8 R N := by
  have ho : o + r.val < 1024 := by omega
  obtain rfl : R = ⟨o + r.val, ho⟩ := Fin.ext hR
  exact kTile_at x0 x1 x2 x3 x6 x7 x8 g (fun k => ld_x x0 o h r k _) (fun k => ld_t x6 o h' r k _) (fun k => ld_t x7 o h' r k _) l N hN

/-- The stored queries. -/
theorem out10_at (R : Fin 1024) (n : Fin 512) : out0_10 x0 x1 x2 x3 x4 x5 x6 x7 x8 (ix2 R n) = qRow x0 x1 x2 x3 x4 x5 x8 R n := by
  rw [out10_eq]
  refine View.canon_apply_of_pieces (Val := Elt Ideal) (fun y : S1024x512.Idx => qRow x0 x1 x2 x3 x4 x5 x8 (y 0) (y 1)) _ ?_ (ix2 R n) (cover0_10 _ _ _ _ _ _ _ _ _ _ _ _ _ _ _ _ _)
  simp only [List.mem_cons, List.not_mem_nil, or_false, forall_eq_or_imp, forall_eq]
  refine ⟨fun y => ?_, fun y => ?_, fun y => ?_, fun y => ?_, fun y => ?_, fun y => ?_, fun y => ?_, fun y => ?_,
    fun y => ?_, fun y => ?_, fun y => ?_, fun y => ?_, fun y => ?_, fun y => ?_, fun y => ?_, fun y => ?_⟩ <;> idx_vars y
  · exact q_piece x0 x1 x2 x3 x4 x5 x8 3 768 _ _ y0 y1 _ (by simp [Rect.emb_apply]) _ (by simp [Rect.emb_apply])
  · exact q_piece x0 x1 x2 x3 x4 x5 x8 2 768 _ _ y0 y1 _ (by simp [Rect.emb_apply]) _ (by simp [Rect.emb_apply])
  · exact q_piece x0 x1 x2 x3 x4 x5 x8 1 768 _ _ y0 y1 _ (by simp [Rect.emb_apply]) _ (by simp [Rect.emb_apply])
  · exact q_piece x0 x1 x2 x3 x4 x5 x8 0 768 _ _ y0 y1 _ (by simp [Rect.emb_apply]) _ (by simp [Rect.emb_apply])
  · exact q_piece x0 x1 x2 x3 x4 x5 x8 3 512 _ _ y0 y1 _ (by simp [Rect.emb_apply]) _ (by simp [Rect.emb_apply])
  · exact q_piece x0 x1 x2 x3 x4 x5 x8 2 512 _ _ y0 y1 _ (by simp [Rect.emb_apply]) _ (by simp [Rect.emb_apply])
  · exact q_piece x0 x1 x2 x3 x4 x5 x8 1 512 _ _ y0 y1 _ (by simp [Rect.emb_apply]) _ (by simp [Rect.emb_apply])
  · exact q_piece x0 x1 x2 x3 x4 x5 x8 0 512 _ _ y0 y1 _ (by simp [Rect.emb_apply]) _ (by simp [Rect.emb_apply])
  · exact q_piece x0 x1 x2 x3 x4 x5 x8 3 256 _ _ y0 y1 _ (by simp [Rect.emb_apply]) _ (by simp [Rect.emb_apply])
  · exact q_piece x0 x1 x2 x3 x4 x5 x8 2 256 _ _ y0 y1 _ (by simp [Rect.emb_apply]) _ (by simp [Rect.emb_apply])
  · exact q_piece x0 x1 x2 x3 x4 x5 x8 1 256 _ _ y0 y1 _ (by simp [Rect.emb_apply]) _ (by simp [Rect.emb_apply])
  · exact q_piece x0 x1 x2 x3 x4 x5 x8 0 256 _ _ y0 y1 _ (by simp [Rect.emb_apply]) _ (by simp [Rect.emb_apply])
  · exact q_piece x0 x1 x2 x3 x4 x5 x8 3 0 _ _ y0 y1 _ (by simp [Rect.emb_apply]) _ (by simp [Rect.emb_apply])
  · exact q_piece x0 x1 x2 x3 x4 x5 x8 2 0 _ _ y0 y1 _ (by simp [Rect.emb_apply]) _ (by simp [Rect.emb_apply])
  · exact q_piece x0 x1 x2 x3 x4 x5 x8 1 0 _ _ y0 y1 _ (by simp [Rect.emb_apply]) _ (by simp [Rect.emb_apply])
  · exact q_piece x0 x1 x2 x3 x4 x5 x8 0 0 _ _ y0 y1 _ (by simp [Rect.emb_apply]) _ (by simp [Rect.emb_apply])

/-- The stored keys. -/
theorem out11_at (R : Fin 1024) (n : Fin 256) : out0_11 x0 x1 x2 x3 x4 x5 x6 x7 x8 (ix2 R n) = kRow x0 x1 x2 x3 x6 x7 x8 R n := by
  rw [out11_eq]
  refine View.canon_apply_of_pieces (Val := Elt Ideal) (fun y : S1024x256.Idx => kRow x0 x1 x2 x3 x6 x7 x8 (y 0) (y 1)) _ ?_ (ix2 R n) (cover0_11 _ _ _ _ _ _ _ _ _)
  simp only [List.mem_cons, List.not_mem_nil, or_false, forall_eq_or_imp, forall_eq]
  refine ⟨fun y => ?_, fun y => ?_, fun y => ?_, fun y => ?_, fun y => ?_, fun y => ?_, fun y => ?_, fun y => ?_⟩ <;> idx_vars y
  · exact k_piece x0 x1 x2 x3 x6 x7 x8 1 768 _ _ y0 y1 _ (by simp [Rect.emb_apply]) _ (by simp [Rect.emb_apply])
  · exact k_piece x0 x1 x2 x3 x6 x7 x8 0 768 _ _ y0 y1 _ (by simp [Rect.emb_apply]) _ (by simp [Rect.emb_apply])
  · exact k_piece x0 x1 x2 x3 x6 x7 x8 1 512 _ _ y0 y1 _ (by simp [Rect.emb_apply]) _ (by simp [Rect.emb_apply])
  · exact k_piece x0 x1 x2 x3 x6 x7 x8 0 512 _ _ y0 y1 _ (by simp [Rect.emb_apply]) _ (by simp [Rect.emb_apply])
  · exact k_piece x0 x1 x2 x3 x6 x7 x8 1 256 _ _ y0 y1 _ (by simp [Rect.emb_apply]) _ (by simp [Rect.emb_apply])
  · exact k_piece x0 x1 x2 x3 x6 x7 x8 0 256 _ _ y0 y1 _ (by simp [Rect.emb_apply]) _ (by simp [Rect.emb_apply])
  · exact k_piece x0 x1 x2 x3 x6 x7 x8 1 0 _ _ y0 y1 _ (by simp [Rect.emb_apply]) _ (by simp [Rect.emb_apply])
  · exact k_piece x0 x1 x2 x3 x6 x7 x8 0 0 _ _ y0 y1 _ (by simp [Rect.emb_apply]) _ (by simp [Rect.emb_apply])

end Cert.InProjIdeal.Block

end
-- ==== Proof.InTable.lean ====
/- The tables the host code makes for the input projection's rotary embedding, entry by entry, in the reference's cosines and
   sines. -/
module

public import proofs.«01_k».proof.Proof.InSeg
public import proofs.«01_k».proof.Proof.InHost
public import proofs.«01_k».proof.Proof.Gen.ProjectIdeal.Read

@[expose] public section

set_option maxRecDepth 16384

noncomputable section

namespace Cert.ProjectIdeal.Ref

open Idealize.ShloMosaic Idealize.ShloMosaic.TcCoe Idealize.ShloMosaic.Pointwise
open Cert Cert.ProjectIdeal Cert.ProjectIdeal.Read

/-- The angle at a position and a pair. -/
def angle (s : Fin 2048) (j : Fin 32) : EReal := val_main_v53 (F := Ideal) (ix2 s j)

end Cert.ProjectIdeal.Ref

namespace Cert.InProjIdeal.Host

open Idealize.ShloMosaic Idealize.ShloMosaic.TcCoe Idealize.ShloMosaic.Tactic Idealize.ShloMosaic.Pointwise
open Cert Cert.InProjIdeal Cert.InProjIdeal.Gen
open Cert.ProjectIdeal.Read Cert.ProjectIdeal.Ref

variable (m : (ℓ : Loc nD τ sig) → Buf (Elt Ideal) ℓ) (c : Dev nD)

theorem angle_at (s : Fin 2048) (j : Fin 32) : V m c main_v29 (ix2 s j) = angle s j := by
  unfold angle
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_cst_4, val_main_cst_5, val_main_cst_6, val_main_cst_7]
  after_reads_at

theorem cos_at (s : Fin 2048) (j : Fin 32) : V m c main_v30 (ix2 s j) = Ideal.cos (angle s j) := by
  refine Eq.trans ?_ (congrArg Ideal.cos (angle_at m c s j))
  after_reads_at
  split_ifs <;> after_reads_at

theorem sin_at (s : Fin 2048) (j : Fin 32) : V m c main_v33 (ix2 s j) = Ideal.sin (angle s j) := by
  refine Eq.trans ?_ (congrArg Ideal.sin (angle_at m c s j))
  after_reads_at
  split_ifs <;> after_reads_at

theorem cq_at (s : Fin 2048) (l : Fin 128) : V m c main_v60 (ix2 s l)
    = Ideal.cos (angle s ⟨l.val % 64 / 2, by omega⟩) * m ((c : Thread nD τ).loc main_arg4) (ix1 ⟨l.val % 64, by omega⟩) := by
  rw [← cos_at m c]
  after_reads_at

/-- A lane's head, as the host code divides for it. -/
def head (w : BitVec 32) : BitVec 32 :=
  Scalar.select
    (IntOp.andi
      (IntOp.cmpi (w := 32) CmpIPredicate.ne (if w = 0 then 0 else if w.msb = true then -1 else 1)
        (if 64#32 = 0 then 0 else if BitVec.msb 64#32 = true then -1 else 1))
      (IntOp.cmpi (w := 32) CmpIPredicate.ne (IntOp.remsi ArithUnit.host w 64#32) 0#32))
    (IntOp.subi (IntOp.divsi ArithUnit.host w 64#32) 1#32)
    (IntOp.divsi ArithUnit.host w 64#32)

theorem head_at : ∀ l : Fin 128, head (BitVec.ofNat 32 l.val) = BitVec.ofNat 32 (l.val / 64) := by decide +kernel

theorem bd_at (j l : Fin 128) : V m c main_v135 (ix2 j l) = Row.same j l := by
  have key : ∀ a b : Fin 2, IntOp.cmpi .eq (BitVec.ofNat 32 a.val) (BitVec.ofNat 32 b.val) = BitVec.ofBool (decide (a.val = b.val)) := by decide
  refine Eq.trans (b := FloatOps.uitofp (F := Ideal) FTy.bf16 (IntOp.cmpi CmpIPredicate.eq (head (BitVec.ofNat 32 j.val)) (head (BitVec.ofNat 32 l.val)))) ?_ ?_
  · after_reads_at
    rfl
  · rw [head_at, head_at, key ⟨j.val / 64, by omega⟩ ⟨l.val / 64, by omega⟩]
    unfold Row.same
    by_cases h : j.val / 64 = l.val / 64
    · rw [if_pos h, decide_eq_true h]
      show (((BitVec.ofBool true).toNat : ℝ) : EReal) = 1
      simp
    · rw [if_neg h, decide_eq_false h]
      show (((BitVec.ofBool false).toNat : ℝ) : EReal) = 0
      simp

/-- The divisor the host code's remainder uses. -/
abbrev two : BitVec 32 := Scalar.select (IntOp.cmpi (w := 32) .eq 2#32 0#32) 1#32 2#32

/-- Whether a lane is even, as the host code asks it. -/
def even (w : BitVec 32) : BitVec 1 :=
  IntOp.cmpi (w := 32) .eq
    (Scalar.select
      (IntOp.andi
        (IntOp.cmpi .ne (IntOp.cmpi (w := 32) .slt (IntOp.remsi .host w two) 0#32) (IntOp.cmpi (w := 32) .slt two 0#32))
        (IntOp.cmpi (w := 32) .ne (IntOp.remsi .host w two) 0#32))
      (IntOp.addi (IntOp.remsi .host w two) two)
      (IntOp.remsi .host w two))
    0#32

theorem even_at : ∀ d : Fin 64, even (BitVec.ofNat 32 d.val) = BitVec.ofBool (decide (d.val % 2 = 0)) := by decide +kernel

theorem sgn_at (d : Fin 64) : (Scalar.select (even (BitVec.ofNat 32 d.val)) (Ideal.ofBits .f32 0xBF800000#32) (Ideal.ofBits .f32 0x3F800000#32) : EReal) = Row.sgn d.val := by
  rw [even_at]
  unfold Row.sgn
  by_cases h : d.val % 2 = 0
  · rw [if_pos h, decide_eq_true h]; rfl
  · rw [if_neg h, decide_eq_false h]; rfl

theorem swap_at (l : Fin 128) {n : ℕ} (hn : n = (l.val % 64 / 2) * 2 + (1 - l.val % 64 % 2)) : n = (Row.swap l).val % 64 := by
  have hl := l.isLt
  unfold Row.swap
  simp only
  split_ifs <;> omega

theorem sq_at (s : Fin 2048) (l : Fin 128) : V m c main_v63 (ix2 s l)
    = Ideal.sin (angle s ⟨l.val % 64 / 2, by omega⟩) * Row.sgn (l.val % 64) * m ((c : Thread nD τ).loc main_arg4) (ix1 ⟨(Row.swap l).val % 64, by omega⟩) := by
  rw [← sin_at m c]
  after_reads_at
  refine congr (congrArg HMul.hMul (congrArg (HMul.hMul _) ?_)) ?_
  · exact sgn_at ⟨l.val % 64, by omega⟩
  · refine congrArg (fun d => m ((c : Thread nD τ).loc main_arg4) (ix1 d)) (Fin.ext (swap_at l ?_))
    show (l.val % 64 / 2) * 2 + (2 - (l.val % 64 % 2 + 1)) = _
    omega

theorem ck_at (s : Fin 2048) (l : Fin 128) : V m c main_v124 (ix2 s l)
    = Ideal.cos (angle s ⟨l.val % 64 / 2, by omega⟩) * m ((c : Thread nD τ).loc main_arg5) (ix1 ⟨l.val % 64, by omega⟩) := by
  rw [← cos_at m c]
  after_reads_at
  split_ifs <;> after_reads_at

theorem sk_at (s : Fin 2048) (l : Fin 128) : V m c main_v127 (ix2 s l)
    = Ideal.sin (angle s ⟨l.val % 64 / 2, by omega⟩) * Row.sgn (l.val % 64) * m ((c : Thread nD τ).loc main_arg5) (ix1 ⟨(Row.swap l).val % 64, by omega⟩) := by
  rw [← sin_at m c]
  after_reads_at
  refine congr (congrArg HMul.hMul (congr (congrArg HMul.hMul ?_) ?_)) ?_
  · split_ifs <;> after_reads_at
  · exact sgn_at ⟨l.val % 64, by omega⟩
  · refine congrArg (fun d => m ((c : Thread nD τ).loc main_arg5) (ix1 d)) (Fin.ext (swap_at l ?_))
    show (l.val % 64 / 2) * 2 + (2 - (l.val % 64 % 2 + 1)) = _
    omega

end Cert.InProjIdeal.Host

end
-- ==== Proof.InTurnArr.lean ====
/- The input projection: what its arrays of queries and keys hold when the call is over. -/
module

public import proofs.«01_k».proof.Proof.InArr
public import proofs.«01_k».proof.Proof.InTurn
public import proofs.«01_k».proof.Proof.InTable

@[expose] public section

set_option maxRecDepth 65536

noncomputable section

namespace Cert.InProjIdeal.Block

open Idealize.ShloMosaic Idealize.ShloMosaic.TcCoe Idealize.ShloMosaic.Tactic Idealize.ShloMosaic.Pointwise
open Cert.InProjIdeal Cert.InProjIdeal.Gen Cert Cert.ProjectIdeal.Ref

variable (m : (ℓ : Loc nD τ sig) → Buf (Elt Ideal) ℓ)

theorem idx_cq (t : Fin grid0.N) : win0_4.index t 0 = t.val % 2 ∧ win0_4.index t 1 = 0 := by revert t; decide +kernel
theorem idx_sq (t : Fin grid0.N) : win0_5.index t 0 = t.val % 2 ∧ win0_5.index t 1 = 0 := by revert t; decide +kernel
theorem idx_ck (t : Fin grid0.N) : win0_6.index t 0 = t.val % 2 ∧ win0_6.index t 1 = 0 := by revert t; decide +kernel
theorem idx_sk (t : Fin grid0.N) : win0_7.index t 0 = t.val % 2 ∧ win0_7.index t 1 = 0 := by revert t; decide +kernel
theorem idx_q (t : Fin grid0.N) : win0_10.index t 0 = t.val ∧ win0_10.index t 1 = 0 := by revert t; decide +kernel
theorem idx_k (t : Fin grid0.N) : win0_11.index t 0 = t.val ∧ win0_11.index t 1 = 0 := by revert t; decide +kernel

variable (c : Dev nD) (t : Fin cfg0.N)

theorem blk_cq (r : Fin 1024) (n : Fin 128) (hr : 1024 * (t.val % 2) + r.val < 2048) : iblk m c 4 t (ix2 r n) = V m c main_v60 (ix2 ⟨1024 * (t.val % 2) + r.val, hr⟩ n) := by
  obtain ⟨e0, e1⟩ := idx_cq t
  blk_ext [iblk, e0, e1]
theorem blk_sq (r : Fin 1024) (n : Fin 128) (hr : 1024 * (t.val % 2) + r.val < 2048) : iblk m c 5 t (ix2 r n) = V m c main_v63 (ix2 ⟨1024 * (t.val % 2) + r.val, hr⟩ n) := by
  obtain ⟨e0, e1⟩ := idx_sq t
  blk_ext [iblk, e0, e1]
theorem blk_ck (r : Fin 1024) (n : Fin 128) (hr : 1024 * (t.val % 2) + r.val < 2048) : iblk m c 6 t (ix2 r n) = V m c main_v124 (ix2 ⟨1024 * (t.val % 2) + r.val, hr⟩ n) := by
  obtain ⟨e0, e1⟩ := idx_ck t
  blk_ext [iblk, e0, e1]
theorem blk_sk (r : Fin 1024) (n : Fin 128) (hr : 1024 * (t.val % 2) + r.val < 2048) : iblk m c 7 t (ix2 r n) = V m c main_v127 (ix2 ⟨1024 * (t.val % 2) + r.val, hr⟩ n) := by
  obtain ⟨e0, e1⟩ := idx_sk t
  blk_ext [iblk, e0, e1]
theorem blk_bd (k n : Fin 128) : iblk m c 8 t (ix2 k n) = V m c main_v135 (ix2 k n) := by
  have e0 : win0_8.index t 0 = 0 := rfl
  have e1 : win0_8.index t 1 = 0 := rfl
  blk_ext [iblk, e0, e1]

/-- The cosine and sine tables of a row for the gain `g`. -/
def cosRow (g : Fin 64 → EReal) (s : Fin 2048) (l : Fin 128) : EReal :=
  Ideal.cos (angle s ⟨l.val % 64 / 2, by omega⟩) * g ⟨l.val % 64, by omega⟩
def sinRow (g : Fin 64 → EReal) (s : Fin 2048) (l : Fin 128) : EReal :=
  Ideal.sin (angle s ⟨l.val % 64 / 2, by omega⟩) * Row.sgn (l.val % 64) * g ⟨(Row.swap l).val % 64, by omega⟩

/-- The gains of the queries' norm and of the keys'. -/
def qGain (d : Fin 64) : EReal := m ((c : Thread nD τ).loc main_arg4) (ix1 d)
def kGain (d : Fin 64) : EReal := m ((c : Thread nD τ).loc main_arg5) (ix1 d)

/-- The queries of a row. -/
def queried (r : Fin 16384) (n : Fin 512) : EReal :=
  Row.segRope Row.same (fun j => projected m c r ⟨128 * (n.val / 128) + j.val, by omega⟩)
    (cosRow (qGain m c) ⟨r.val % 2048, by omega⟩) (sinRow (qGain m c) ⟨r.val % 2048, by omega⟩) ⟨n.val % 128, by omega⟩

/-- The keys of a row, each head twice. -/
def keyed (r : Fin 16384) (n : Fin 256) : EReal :=
  Row.segRope Row.same (fun j => projected m c r ⟨512 + j.val, by omega⟩)
    (cosRow (kGain m c) ⟨r.val % 2048, by omega⟩) (sinRow (kGain m c) ⟨r.val % 2048, by omega⟩) ⟨64 * (n.val / 128) + n.val % 64, by omega⟩

theorem pos_eq (R : Fin 1024) (hr : 1024 * t.val + R.val < 16384) (h : 1024 * (t.val % 2) + R.val < 2048) :
    (⟨1024 * (t.val % 2) + R.val, h⟩ : Fin 2048) = ⟨(1024 * t.val + R.val) % 2048, by omega⟩ := Fin.ext (by simp only; omega)

theorem qRow_eq (R : Fin 1024) (hr : 1024 * t.val + R.val < 16384) (n : Fin 512) :
    qRow (iblk m c 0 t) (iblk m c 1 t) (iblk m c 2 t) (iblk m c 3 t) (iblk m c 4 t) (iblk m c 5 t) (iblk m c 8 t) R n = queried m c ⟨1024 * t.val + R.val, hr⟩ n := by
  have h : 1024 * (t.val % 2) + R.val < 2048 := by omega
  unfold qRow queried
  rw [funext fun j => funext fun l => (blk_bd m c t j l).trans (Host.bd_at m c j l), funext fun j => proj_eq m c t R hr _,
    funext fun l => (blk_cq m c t R l h).trans (Host.cq_at m c _ l), funext fun l => (blk_sq m c t R l h).trans (Host.sq_at m c _ l), pos_eq t R hr h]
  rfl

theorem kRow_eq (R : Fin 1024) (hr : 1024 * t.val + R.val < 16384) (n : Fin 256) :
    kRow (iblk m c 0 t) (iblk m c 1 t) (iblk m c 2 t) (iblk m c 3 t) (iblk m c 6 t) (iblk m c 7 t) (iblk m c 8 t) R n = keyed m c ⟨1024 * t.val + R.val, hr⟩ n := by
  have h : 1024 * (t.val % 2) + R.val < 2048 := by omega
  unfold kRow keyed
  rw [funext fun j => funext fun l => (blk_bd m c t j l).trans (Host.bd_at m c j l), funext fun j => proj_eq m c t R hr _,
    funext fun l => (blk_ck m c t R l h).trans (Host.ck_at m c _ l), funext fun l => (blk_sk m c t R l h).trans (Host.sk_at m c _ l), pos_eq t R hr h]
  rfl

theorem arr_q : (dats m 0 c).arrAt 10 cfg0.N = (fun i : S16384x512.Idx => queried m c (i 0) (i 1)) := by
  refine (dats m 0 c).arrAt_eq_of_covers 10 _ (by decide +kernel) fun t hf y => ?_
  blk_simp
  rw [after0_10]
  obtain ⟨e0, e1⟩ := idx_q t
  have ht := steps t
  idx_vars y
  refine (out10_at _ _ _ _ _ _ _ _ _ y0 y1).trans ((qRow_eq m c t y0 (by omega) y1).trans ?_)
  refine congr (congrArg (queried m c) (Fin.ext ?_)) (Fin.ext ?_)
  · blk_simp [e0]; show 1024 * t.val + y0.val = t.val * 1024 + y0.val; omega
  · blk_simp [e1]

theorem arr_k : (dats m 0 c).arrAt 11 cfg0.N = (fun i : S16384x256.Idx => keyed m c (i 0) (i 1)) := by
  refine (dats m 0 c).arrAt_eq_of_covers 11 _ (by decide +kernel) fun t hf y => ?_
  blk_simp
  rw [after0_11]
  obtain ⟨e0, e1⟩ := idx_k t
  have ht := steps t
  idx_vars y
  refine (out11_at _ _ _ _ _ _ _ _ _ y0 y1).trans ((kRow_eq m c t y0 (by omega) y1).trans ?_)
  refine congr (congrArg (keyed m c) (Fin.ext ?_)) (Fin.ext ?_)
  · blk_simp [e0]; show 1024 * t.val + y0.val = t.val * 1024 + y0.val; omega
  · blk_simp [e1]

end Cert.InProjIdeal.Block

end
-- ==== Proof.InAfter.lean ====
/- The host code after the input projection: the results, entry by entry. -/
module

public import proofs.«01_k».proof.Proof.InHost
public import proofs.«01_k».proof.Proof.InTurnArr

@[expose] public section

set_option maxRecDepth 16384

noncomputable section

namespace Cert.InProjIdeal.After

open Idealize.ShloMosaic Idealize.ShloMosaic.TcCoe Idealize.ShloMosaic.Tactic Idealize.ShloMosaic.Pointwise
open Cert.InProjIdeal Cert.InProjIdeal.Gen Cert.InProjIdeal.Block

section
variable (W : Valuation τ sig (Elt Ideal)) (b : Fin 8) (s : Fin 2048)

theorem h_after (n : Fin 1024) : StableHlo.after (hostOps1 (F := Ideal)) W (Proc.devRef .tc main_v141) (ix3 b s n)
    = W (Proc.devRef .tc main_v140_0) (ix2 ⟨b.val * 2048 + s.val, by omega⟩ n) := by
  after_reads_at

theorem q_after (h : Fin 8) (d : Fin 64) : StableHlo.after (hostOps1 (F := Ideal)) W (Proc.devRef .tc main_v142) (ix4 b s h d)
    = W (Proc.devRef .tc main_v140_1) (ix2 ⟨b.val * 2048 + s.val, by omega⟩ ⟨h.val * 64 + d.val, by omega⟩) := by
  after_reads_at

theorem k_after (g : Fin 2) (d : Fin 64) : StableHlo.after (hostOps1 (F := Ideal)) W (Proc.devRef .tc main_v144) (ix4 b s g d)
    = W (Proc.devRef .tc main_v140_2) (ix2 ⟨b.val * 2048 + s.val, by omega⟩ ⟨g.val * 128 + d.val, by omega⟩) := by
  after_reads_at

theorem v_after (g : Fin 2) (d : Fin 64) : StableHlo.after (hostOps1 (F := Ideal)) W (Proc.devRef .tc main_v146) (ix4 b s g d)
    = W (Proc.devRef .tc main_v140_3) (ix2 ⟨b.val * 2048 + s.val, by omega⟩ ⟨g.val * 256 + d.val, by omega⟩) := by
  after_reads_at

theorem u_after (n : Fin 512) : StableHlo.after (hostOps1 (F := Ideal)) W (Proc.devRef .tc main_v147) (ix3 b s n)
    = W (Proc.devRef .tc main_v140_4) (ix2 ⟨b.val * 2048 + s.val, by omega⟩ n) := by
  after_reads_at
end

variable (m : (ℓ : Loc nD τ sig) → Buf (Elt Ideal) ℓ) (c : Dev nD) (b : Fin 8) (s : Fin 2048)

/-- The arrays as the call leaves them. -/
abbrev left : Valuation τ sig (Elt Ideal) :=
  Pipeline.withArrays (cfgs 0).spec c (V0 m c) fun w => (dats m 0 c).arrAt w (cfgs 0).N

theorem inj : Function.Injective (Pipeline.arrRef spec0) := by decide

theorem left_h : left m c (Proc.devRef .tc main_v140_0) = fun i : S16384x1024.Idx => normed m c (i 0) (i 1) :=
  (Pipeline.withArrays_arr spec0 inj c (V0 m c) _ 9).trans (arr_h m c)

theorem left_q : left m c (Proc.devRef .tc main_v140_1) = fun i : S16384x512.Idx => queried m c (i 0) (i 1) :=
  (Pipeline.withArrays_arr spec0 inj c (V0 m c) _ 10).trans (arr_q m c)

theorem left_k : left m c (Proc.devRef .tc main_v140_2) = fun i : S16384x256.Idx => keyed m c (i 0) (i 1) :=
  (Pipeline.withArrays_arr spec0 inj c (V0 m c) _ 11).trans (arr_k m c)

theorem left_v : left m c (Proc.devRef .tc main_v140_3) = fun i : S16384x512.Idx => valued m c (i 0) (i 1) :=
  (Pipeline.withArrays_arr spec0 inj c (V0 m c) _ 12).trans (arr_v m c)

theorem left_u : left m c (Proc.devRef .tc main_v140_4) = fun i : S16384x512.Idx => gated m c (i 0) (i 1) :=
  (Pipeline.withArrays_arr spec0 inj c (V0 m c) _ 13).trans (arr_u m c)

/-- A result as the host code leaves it. -/
abbrev final (b : Ref sig .tc) : Buf (Elt Ideal) ((c.tc : Thread nD τ).loc b) :=
  Pipeline.afterTail₀ cfgs (dats m) 0 (V0 m) [hostOps1] c b

theorem final_h (n : Fin 1024) : final m c main_v141 (ix3 b s n) = normed m c ⟨b.val * 2048 + s.val, by omega⟩ n := by
  refine (h_after (left m c) b s n).trans ?_
  rw [left_h]
  rfl

theorem final_q (h : Fin 8) (d : Fin 64) : final m c main_v142 (ix4 b s h d)
    = queried m c ⟨b.val * 2048 + s.val, by omega⟩ ⟨h.val * 64 + d.val, by omega⟩ := by
  refine (q_after (left m c) b s h d).trans ?_
  rw [left_q]
  rfl

theorem final_k (g : Fin 2) (d : Fin 64) : final m c main_v144 (ix4 b s g d)
    = keyed m c ⟨b.val * 2048 + s.val, by omega⟩ ⟨g.val * 128 + d.val, by omega⟩ := by
  refine (k_after (left m c) b s g d).trans ?_
  rw [left_k]
  rfl

theorem final_v (g : Fin 2) (d : Fin 64) : final m c main_v146 (ix4 b s g d)
    = valued m c ⟨b.val * 2048 + s.val, by omega⟩ ⟨g.val * 256 + d.val, by omega⟩ := by
  refine (v_after (left m c) b s g d).trans ?_
  rw [left_v]
  rfl

theorem final_u (n : Fin 512) : final m c main_v147 (ix3 b s n) = gated m c ⟨b.val * 2048 + s.val, by omega⟩ n := by
  refine (u_after (left m c) b s n).trans ?_
  rw [left_u]
  rfl

end Cert.InProjIdeal.After

end
-- ==== Proof.InRef.lean ====
/- The reference's input projection, read entry by entry. -/
module

public import proofs.«01_k».proof.Proof.Rows
public import proofs.«01_k».proof.Proof.InTable
public import proofs.«01_k».proof.Proof.InSeg
public import proofs.«01_k».proof.Proof.Gen.ProjectIdeal.Read

@[expose] public section

set_option maxRecDepth 16384

noncomputable section

namespace Cert.ProjectIdeal.Ref

open Idealize.ShloMosaic Idealize.ShloMosaic.TcCoe Idealize.ShloMosaic.Pointwise
open Cert Cert.ProjectIdeal Cert.ProjectIdeal.Read

variable (x4 x5 : (⟨S64, .f32⟩ : BufTy).Contents (Elt Ideal))
variable (x0 : (⟨S8x2048x1024, .f32⟩ : BufTy).Contents (Elt Ideal)) (x1 x2 : (⟨S1024, .f32⟩ : BufTy).Contents (Elt Ideal))
  (x3 : (⟨S1024x1792, .f32⟩ : BufTy).Contents (Elt Ideal)) (b : Fin 8) (s : Fin 2048)

theorem h_at (n : Fin 1024) : val_main_v23 (F := Ideal) x0 x1 x2 (ix3 b s n)
    = Row.ln (Ideal.ofBits .f32 0x44800000#32) (fun k => x0 (ix3 b s k)) (fun k => x1 (ix1 k)) (fun k => x2 (ix1 k)) n := by
  unfold Row.ln Row.mean
  pointwise [val_main_v23, val_main_v22, val_main_v21, val_main_v20, val_main_v19, val_main_v18, val_main_v17, val_main_v16, val_main_v15, val_main_v14, val_main_v13, val_main_v12, val_main_v11, val_main_cst_3, val_main_v10, val_main_v9, val_main_cst_2, val_main_v8, val_main_v7, val_main_cst_1, val_main_v6, val_main_v5, val_main_v4, val_main_v3, val_main_v2, val_main_cst_0, val_main_v1, val_main_v0, val_main_cst]

theorem proj_at (n : Fin 1792) : val_main_v56 (F := Ideal) x0 x1 x2 x3 (ix3 b s n)
    = Row.dot (Row.ln (Ideal.ofBits .f32 0x44800000#32) (fun k => x0 (ix3 b s k)) (fun k => x1 (ix1 k)) (fun k => x2 (ix1 k))) (fun k n => x3 (ix2 k n)) n := by
  unfold Row.dot
  pointwise [val_main_v56, h_at]

/-- The queries before the norm, entry by entry. -/
theorem q_raw_at (e : Fin 8) (d : Fin 64) : val_main_v61 (F := Ideal) x0 x1 x2 x3 (ix4 b s e d)
    = val_main_v56 (F := Ideal) x0 x1 x2 x3 (ix3 b s ⟨e.val * 64 + d.val, by omega⟩) := by
  pointwise [val_main_v61, val_main_v57]

/-- The queries after the root-mean-square norm. -/
theorem q_norm_at (e : Fin 8) (d : Fin 64) : val_main_v74 (F := Ideal) x0 x1 x2 x3 x4 (ix4 b s e d)
    = Row.rms (fun d => val_main_v56 (F := Ideal) x0 x1 x2 x3 (ix3 b s ⟨e.val * 64 + d.val, by omega⟩)) (fun d => x4 (ix1 d)) d := by
  unfold Row.rms
  pointwise [val_main_v74, val_main_v73, val_main_v72, val_main_v71, val_main_v70, val_main_v69, val_main_v68, val_main_v67, val_main_cst_10, val_main_v66, val_main_v65, val_main_cst_9, val_main_v64, val_main_v63, val_main_cst_8, val_main_v62, q_raw_at]

theorem q_even_at (e : Fin 8) (j : Fin 32) : val_main_v88 (F := Ideal) x0 x1 x2 x3 x4 (ix4 b s e j)
    = val_main_v74 (F := Ideal) x0 x1 x2 x3 x4 (ix4 b s e ⟨j.val * 2, by omega⟩) * Ideal.cos (angle s j)
      - val_main_v74 (F := Ideal) x0 x1 x2 x3 x4 (ix4 b s e ⟨j.val * 2 + 1, by omega⟩) * Ideal.sin (angle s j) := by
  unfold angle
  pointwise [val_main_v88, val_main_v87, val_main_v86, val_main_v85, val_main_v84, val_main_v83, val_main_v82, val_main_v81, val_main_v80, val_main_v79, val_main_v78, val_main_v77, val_main_v76, val_main_v75, val_main_v54, val_main_v55]

theorem q_odd_at (e : Fin 8) (j : Fin 32) : val_main_v95 (F := Ideal) x0 x1 x2 x3 x4 (ix4 b s e j)
    = val_main_v74 (F := Ideal) x0 x1 x2 x3 x4 (ix4 b s e ⟨j.val * 2, by omega⟩) * Ideal.sin (angle s j)
      + val_main_v74 (F := Ideal) x0 x1 x2 x3 x4 (ix4 b s e ⟨j.val * 2 + 1, by omega⟩) * Ideal.cos (angle s j) := by
  unfold angle
  pointwise [val_main_v95, val_main_v94, val_main_v93, val_main_v92, val_main_v91, val_main_v90, val_main_v89, val_main_v81, val_main_v80, val_main_v79, val_main_v78, val_main_v77, val_main_v76, val_main_v75, val_main_v54, val_main_v55]

/-- The queries, normalised and turned. -/
theorem q_at (e : Fin 8) (d : Fin 64) : val_main_v149 (F := Ideal) x0 x1 x2 x3 x4 (ix4 b s e d)
    = Row.rope (Row.rms (fun d => val_main_v56 (F := Ideal) x0 x1 x2 x3 (ix3 b s ⟨e.val * 64 + d.val, by omega⟩)) (fun d => x4 (ix1 d)))
        (fun j => Ideal.cos (angle s j)) (fun j => Ideal.sin (angle s j)) d := by
  have h : val_main_v149 (F := Ideal) x0 x1 x2 x3 x4 (ix4 b s e d)
      = if d.val % 2 = 0 then val_main_v88 (F := Ideal) x0 x1 x2 x3 x4 (ix4 b s e ⟨d.val / 2, by omega⟩)
        else val_main_v95 (F := Ideal) x0 x1 x2 x3 x4 (ix4 b s e ⟨d.val / 2, by omega⟩) := by
    pointwise [val_main_v149, val_main_v99, val_main_v98, val_main_v97, val_main_v96]
    by_cases hd : d.val % 2 = 0
    · rw [if_pos hd]
      exact dif_pos (show d.val % 2 < 1 by omega)
    · rw [if_neg hd]
      exact dif_neg (show ¬ d.val % 2 < 1 by omega)
  have c0 : (⟨d.val / 2 * 2, by omega⟩ : Fin 64) = ⟨2 * (d.val / 2), by omega⟩ := Fin.ext (Nat.mul_comm _ _)
  have c1 : (⟨d.val / 2 * 2 + 1, by omega⟩ : Fin 64) = ⟨2 * (d.val / 2) + 1, by omega⟩ := Fin.ext (by simp only; omega)
  rw [h, q_even_at, q_odd_at, q_norm_at, q_norm_at, c0, c1]
  rfl

/-- The keys before the norm, entry by entry. -/
theorem k_raw_at (e : Fin 2) (d : Fin 64) : val_main_v100 (F := Ideal) x0 x1 x2 x3 (ix4 b s e d)
    = val_main_v56 (F := Ideal) x0 x1 x2 x3 (ix3 b s ⟨512 + (e.val * 64 + d.val), by omega⟩) := by
  pointwise [val_main_v100, val_main_v58]

/-- The keys after the root-mean-square norm. -/
theorem k_norm_at (e : Fin 2) (d : Fin 64) : val_main_v113 (F := Ideal) x0 x1 x2 x3 x5 (ix4 b s e d)
    = Row.rms (fun d => val_main_v56 (F := Ideal) x0 x1 x2 x3 (ix3 b s ⟨512 + (e.val * 64 + d.val), by omega⟩)) (fun d => x5 (ix1 d)) d := by
  unfold Row.rms
  pointwise [val_main_v113, val_main_v112, val_main_v111, val_main_v110, val_main_v109, val_main_v108, val_main_v107, val_main_v106, val_main_cst_13, val_main_v105, val_main_v104, val_main_cst_12, val_main_v103, val_main_v102, val_main_cst_11, val_main_v101, k_raw_at]

theorem k_even_at (e : Fin 2) (j : Fin 32) : val_main_v127 (F := Ideal) x0 x1 x2 x3 x5 (ix4 b s e j)
    = val_main_v113 (F := Ideal) x0 x1 x2 x3 x5 (ix4 b s e ⟨j.val * 2, by omega⟩) * Ideal.cos (angle s j)
      - val_main_v113 (F := Ideal) x0 x1 x2 x3 x5 (ix4 b s e ⟨j.val * 2 + 1, by omega⟩) * Ideal.sin (angle s j) := by
  unfold angle
  pointwise [val_main_v127, val_main_v126, val_main_v125, val_main_v124, val_main_v123, val_main_v122, val_main_v121, val_main_v120, val_main_v119, val_main_v118, val_main_v117, val_main_v116, val_main_v115, val_main_v114, val_main_v54, val_main_v55]

theorem k_odd_at (e : Fin 2) (j : Fin 32) : val_main_v134 (F := Ideal) x0 x1 x2 x3 x5 (ix4 b s e j)
    = val_main_v113 (F := Ideal) x0 x1 x2 x3 x5 (ix4 b s e ⟨j.val * 2, by omega⟩) * Ideal.sin (angle s j)
      + val_main_v113 (F := Ideal) x0 x1 x2 x3 x5 (ix4 b s e ⟨j.val * 2 + 1, by omega⟩) * Ideal.cos (angle s j) := by
  unfold angle
  pointwise [val_main_v134, val_main_v133, val_main_v132, val_main_v131, val_main_v130, val_main_v129, val_main_v128, val_main_v120, val_main_v119, val_main_v118, val_main_v117, val_main_v116, val_main_v115, val_main_v114, val_main_v54, val_main_v55]

/-- The keys, normalised and turned. -/
theorem k_at (e : Fin 2) (d : Fin 64) : val_main_v150 (F := Ideal) x0 x1 x2 x3 x5 (ix4 b s e d)
    = Row.rope (Row.rms (fun d => val_main_v56 (F := Ideal) x0 x1 x2 x3 (ix3 b s ⟨512 + (e.val * 64 + d.val), by omega⟩)) (fun d => x5 (ix1 d)))
        (fun j => Ideal.cos (angle s j)) (fun j => Ideal.sin (angle s j)) d := by
  have h : val_main_v150 (F := Ideal) x0 x1 x2 x3 x5 (ix4 b s e d)
      = if d.val % 2 = 0 then val_main_v127 (F := Ideal) x0 x1 x2 x3 x5 (ix4 b s e ⟨d.val / 2, by omega⟩)
        else val_main_v134 (F := Ideal) x0 x1 x2 x3 x5 (ix4 b s e ⟨d.val / 2, by omega⟩) := by
    pointwise [val_main_v150, val_main_v138, val_main_v137, val_main_v136, val_main_v135]
    by_cases hd : d.val % 2 = 0
    · rw [if_pos hd]
      exact dif_pos (show d.val % 2 < 1 by omega)
    · rw [if_neg hd]
      exact dif_neg (show ¬ d.val % 2 < 1 by omega)
  have c0 : (⟨d.val / 2 * 2, by omega⟩ : Fin 64) = ⟨2 * (d.val / 2), by omega⟩ := Fin.ext (Nat.mul_comm _ _)
  have c1 : (⟨d.val / 2 * 2 + 1, by omega⟩ : Fin 64) = ⟨2 * (d.val / 2) + 1, by omega⟩ := Fin.ext (by simp only; omega)
  rw [h, k_even_at, k_odd_at, k_norm_at, k_norm_at, c0, c1]
  rfl

theorem v_at (g : Fin 2) (d : Fin 64) : val_main_v151 (F := Ideal) x0 x1 x2 x3 (ix4 b s g d)
    = val_main_v56 (F := Ideal) x0 x1 x2 x3 (ix3 b s ⟨640 + (g.val * 64 + d.val), by omega⟩) := by
  pointwise [val_main_v151, val_main_v139, val_main_v59]

theorem u_at (n : Fin 512) : val_main_v148 (F := Ideal) x0 x1 x2 x3 (ix3 b s n)
    = val_main_v56 (F := Ideal) x0 x1 x2 x3 (ix3 b s ⟨768 + n.val, by omega⟩)
      * Ideal.div 1 (1 + Ideal.exp (-(val_main_v56 (F := Ideal) x0 x1 x2 x3 (ix3 b s ⟨768 + (512 + n.val), by omega⟩)))) := by
  pointwise [val_main_v148, val_main_v147, val_main_v146, val_main_cst_15, val_main_v145, val_main_v144, val_main_cst_14, val_main_v143, val_main_v142, val_main_v141, val_main_v140, val_main_v60]

end Cert.ProjectIdeal.Ref

end
-- ==== Proof.InPre.lean ====
/- What the input projection's precondition gives: the layer norm's gain and bias and the weights are real numbers. -/
module

public import proofs.«01_k».proof.Proof.Pre
public import proofs.«01_k».proof.Pre_finite_weights

@[expose] public section

noncomputable section

namespace Cert.Pre_finite_weights

open Idealize.ShloMosaic Cert.Row

variable [Facts]
open Facts

theorem real_of_pre (x0 : FVec Ideal S8x2048x1024 .f32) (x1 x2 : FVec Ideal S1024 .f32) (x3 : FVec Ideal S1024x1792 .f32) (x4 x5 : FVec Ideal S64 .f32)
    (h : fn (F := Ideal) x0 x1 x2 x3 x4 x5 = fun _ => 1#1) : (∀ i, IsR (x1 i)) ∧ (∀ i, IsR (x2 i)) ∧ (∀ i, IsR (x3 i)) := by
  have hT : Subsingleton S_.Idx := ⟨fun x y => funext fun a => a.elim0⟩
  have e := congrFun h (fun a => a.elim0 : S_.Idx)
  dsimp only [fn] at e
  obtain ⟨e, e2⟩ := Cert.Pre_finite.andi_both _ _ _ e
  obtain ⟨e, e1⟩ := Cert.Pre_finite.andi_both _ _ _ e
  exact ⟨Cert.Pre_finite.isR_of_all _ _ _ _ hT _ e, Cert.Pre_finite.isR_of_all _ _ _ _ hT _ e1, Cert.Pre_finite.isR_of_all _ _ _ _ hT _ e2⟩

end Cert.Pre_finite_weights

end
-- ==== Proof.InValue.lean ====
/- The input projection: all five results are the reference's. -/
module

public import proofs.«01_k».proof.Defs
public import proofs.«01_k».proof.Proof.InAfter
public import proofs.«01_k».proof.Proof.InRef
public import proofs.«01_k».proof.Proof.InPre
public import proofs.«01_k».proof.Proof.Gen.ProjectIdeal.Run
public import proofs.«01_k».proof.Proof.Gen.ProjectIdeal.Read

@[expose] public section

set_option maxRecDepth 16384

noncomputable section

namespace Cert.Proof

open Idealize.ShloMosaic Idealize.ShloMosaic.TcCoe Idealize.ShloMosaic.Pointwise Idealize.SL.Sem
open Cert.InProjIdeal.After Cert.InProjIdeal.Block

section
variable (m : (ℓ : Loc Cert.InProjIdeal.nD Cert.InProjIdeal.τ Cert.InProjIdeal.sig) → Buf (Elt Ideal) ℓ) (c : Dev Cert.InProjIdeal.nD)

/-- The arguments. -/
abbrev a0 := m ((c.tc : Thread Cert.InProjIdeal.nD Cert.InProjIdeal.τ).loc Cert.InProjIdeal.main_arg0)
abbrev a1 := m ((c.tc : Thread Cert.InProjIdeal.nD Cert.InProjIdeal.τ).loc Cert.InProjIdeal.main_arg1)
abbrev a2 := m ((c.tc : Thread Cert.InProjIdeal.nD Cert.InProjIdeal.τ).loc Cert.InProjIdeal.main_arg2)
abbrev a3 := m ((c.tc : Thread Cert.InProjIdeal.nD Cert.InProjIdeal.τ).loc Cert.InProjIdeal.main_arg3)
abbrev a4 := m ((c.tc : Thread Cert.InProjIdeal.nD Cert.InProjIdeal.τ).loc Cert.InProjIdeal.main_arg4)
abbrev a5 := m ((c.tc : Thread Cert.InProjIdeal.nD Cert.InProjIdeal.τ).loc Cert.InProjIdeal.main_arg5)

/-- The call's flat row `b 2048 + s` is row `s` of sequence `b`. -/
theorem row_split (b : Fin 8) (s : Fin 2048) : (⟨(b.val * 2048 + s.val) / 2048, by omega⟩ : Fin 8) = b ∧ (⟨(b.val * 2048 + s.val) % 2048, by omega⟩ : Fin 2048) = s :=
  ⟨Fin.ext (by simp only; omega), Fin.ext (by simp only; omega)⟩

theorem normed_row (b : Fin 8) (s : Fin 2048) : normed m c ⟨b.val * 2048 + s.val, by omega⟩
    = fun n => Cert.ProjectIdeal.Read.val_main_v23 (F := Ideal) (a0 m c) (a1 m c) (a2 m c) (ix3 b s n) := by
  funext n
  rw [Cert.ProjectIdeal.Ref.h_at]
  unfold normed
  simp only [(row_split b s).1, (row_split b s).2]

theorem projected_row (b : Fin 8) (s : Fin 2048) (n : Fin 1792) : projected m c ⟨b.val * 2048 + s.val, by omega⟩ n
    = Cert.ProjectIdeal.Read.val_main_v56 (F := Ideal) (a0 m c) (a1 m c) (a2 m c) (a3 m c) (ix3 b s n) := by
  rw [Cert.ProjectIdeal.Ref.proj_at]
  unfold projected
  rw [normed_row, funext fun n => Cert.ProjectIdeal.Ref.h_at (a0 m c) (a1 m c) (a2 m c) b s n]

/-- Under the precondition the projection is real, whatever the input is. -/
theorem projected_real [hP : Cert.Pre_finite_weights.Facts] (hpre : Cert.Pre_InProjIdeal_finite_weights m) (r : Fin 16384) (n : Fin 1792) :
    Cert.Row.IsR (projected m c r n) := by
  obtain ⟨hg, hb, hw⟩ := Cert.Pre_finite_weights.real_of_pre _ _ _ _ _ _ (hpre c)
  exact Cert.Row.IsR.dot (fun k => Cert.Row.ln_real (fun k => hg (ix1 k)) (fun k => hb (ix1 k)) k) (fun k n => hw (ix2 k n)) n

/-- A head of the queries as the call leaves it is the reference's. -/
theorem queried_row [hP : Cert.Pre_finite_weights.Facts] (hpre : Cert.Pre_InProjIdeal_finite_weights m) (b : Fin 8) (s : Fin 2048) (e : Fin 8) (d : Fin 64) :
    queried m c ⟨b.val * 2048 + s.val, by omega⟩ ⟨e.val * 64 + d.val, by omega⟩
      = Cert.ProjectIdeal.Read.val_main_v149 (F := Ideal) (a0 m c) (a1 m c) (a2 m c) (a3 m c) (a4 m c) (ix4 b s e d) := by
  rw [Cert.ProjectIdeal.Ref.q_at]
  unfold queried
  rw [(row_split b s).2]
  refine (Cert.Row.segRope_eq (fun j => projected_real m c hpre _ _) (qGain m c) (fun j => Ideal.cos (Cert.ProjectIdeal.Ref.angle s j))
    (fun j => Ideal.sin (Cert.ProjectIdeal.Ref.angle s j)) _).trans ?_
  have hd : (⟨(e.val * 64 + d.val) % 128 % 64, by omega⟩ : Fin 64) = d := Fin.ext (by simp only; omega)
  have hz : Cert.Row.seg (fun j => projected m c ⟨b.val * 2048 + s.val, by omega⟩ ⟨128 * ((e.val * 64 + d.val) / 128) + j.val, by omega⟩)
      ⟨(e.val * 64 + d.val) % 128, by omega⟩
      = fun d => Cert.ProjectIdeal.Read.val_main_v56 (F := Ideal) (a0 m c) (a1 m c) (a2 m c) (a3 m c) (ix3 b s ⟨e.val * 64 + d.val, by omega⟩) := by
    funext d'
    unfold Cert.Row.seg
    refine (projected_row m c b s _).trans (congrArg (fun n => Cert.ProjectIdeal.Read.val_main_v56 (F := Ideal) (a0 m c) (a1 m c) (a2 m c) (a3 m c) (ix3 b s n)) (Fin.ext ?_))
    simp only
    omega
  exact congr (congrArg (fun z => Cert.Row.rope (Cert.Row.rms z (qGain m c)) _ _) hz) hd

/-- A head of the keys as the call leaves it is the reference's. -/
theorem keyed_row [hP : Cert.Pre_finite_weights.Facts] (hpre : Cert.Pre_InProjIdeal_finite_weights m) (b : Fin 8) (s : Fin 2048) (e : Fin 2) (d : Fin 64) :
    keyed m c ⟨b.val * 2048 + s.val, by omega⟩ ⟨e.val * 128 + d.val, by omega⟩
      = Cert.ProjectIdeal.Read.val_main_v150 (F := Ideal) (a0 m c) (a1 m c) (a2 m c) (a3 m c) (a5 m c) (ix4 b s e d) := by
  rw [Cert.ProjectIdeal.Ref.k_at]
  unfold keyed
  rw [(row_split b s).2]
  refine (Cert.Row.segRope_eq (fun j => projected_real m c hpre _ _) (kGain m c) (fun j => Ideal.cos (Cert.ProjectIdeal.Ref.angle s j))
    (fun j => Ideal.sin (Cert.ProjectIdeal.Ref.angle s j)) _).trans ?_
  have hd : (⟨(64 * ((e.val * 128 + d.val) / 128) + (e.val * 128 + d.val) % 64) % 64, by omega⟩ : Fin 64) = d := Fin.ext (by simp only; omega)
  have hz : Cert.Row.seg (fun j => projected m c ⟨b.val * 2048 + s.val, by omega⟩ ⟨512 + j.val, by omega⟩)
      ⟨64 * ((e.val * 128 + d.val) / 128) + (e.val * 128 + d.val) % 64, by omega⟩
      = fun d => Cert.ProjectIdeal.Read.val_main_v56 (F := Ideal) (a0 m c) (a1 m c) (a2 m c) (a3 m c) (ix3 b s ⟨512 + (e.val * 64 + d.val), by omega⟩) := by
    funext d'
    unfold Cert.Row.seg
    refine (projected_row m c b s _).trans (congrArg (fun n => Cert.ProjectIdeal.Read.val_main_v56 (F := Ideal) (a0 m c) (a1 m c) (a2 m c) (a3 m c) (ix3 b s n)) (Fin.ext ?_))
    simp only
    omega
  exact congr (congrArg (fun z => Cert.Row.rope (Cert.Row.rms z (kGain m c)) _ _) hz) hd

theorem same_q [hP : Cert.Pre_finite_weights.Facts] (hpre : Cert.Pre_InProjIdeal_finite_weights m) :
    Cert.ProjectIdeal.Read.val_main_v149 (F := Ideal) (a0 m c) (a1 m c) (a2 m c) (a3 m c) (a4 m c) = final m c Cert.InProjIdeal.main_v142 := by
  funext i
  obtain ⟨b, s, e, d, rfl⟩ : ∃ (b : Fin 8) (s : Fin 2048) (e : Fin 8) (d : Fin 64), i = ix4 b s e d := ⟨i 0, i 1, i 2, i 3, by funext a; fin_cases a <;> rfl⟩
  exact ((final_q m c b s e d).trans (queried_row m c hpre b s e d)).symm

theorem same_k [hP : Cert.Pre_finite_weights.Facts] (hpre : Cert.Pre_InProjIdeal_finite_weights m) :
    Cert.ProjectIdeal.Read.val_main_v150 (F := Ideal) (a0 m c) (a1 m c) (a2 m c) (a3 m c) (a5 m c) = final m c Cert.InProjIdeal.main_v144 := by
  funext i
  obtain ⟨b, s, e, d, rfl⟩ : ∃ (b : Fin 8) (s : Fin 2048) (e : Fin 2) (d : Fin 64), i = ix4 b s e d := ⟨i 0, i 1, i 2, i 3, by funext a; fin_cases a <;> rfl⟩
  exact ((final_k m c b s e d).trans (keyed_row m c hpre b s e d)).symm

theorem same_h : Cert.ProjectIdeal.Read.val_main_v23 (F := Ideal) (a0 m c) (a1 m c) (a2 m c) = final m c Cert.InProjIdeal.main_v141 := by
  funext i
  obtain ⟨b, s, n, rfl⟩ : ∃ (b : Fin 8) (s : Fin 2048) (n : Fin 1024), i = ix3 b s n := ⟨i 0, i 1, i 2, by funext a; fin_cases a <;> rfl⟩
  exact ((final_h m c b s n).trans (congrFun (normed_row m c b s) n)).symm

theorem same_v : Cert.ProjectIdeal.Read.val_main_v151 (F := Ideal) (a0 m c) (a1 m c) (a2 m c) (a3 m c) = final m c Cert.InProjIdeal.main_v146 := by
  funext i
  obtain ⟨b, s, g, d, rfl⟩ : ∃ (b : Fin 8) (s : Fin 2048) (g : Fin 2) (d : Fin 64), i = ix4 b s g d := ⟨i 0, i 1, i 2, i 3, by funext a; fin_cases a <;> rfl⟩
  refine (Cert.ProjectIdeal.Ref.v_at (a0 m c) (a1 m c) (a2 m c) (a3 m c) b s g d).trans (Eq.symm ((final_v m c b s g d).trans ?_))
  unfold valued
  rw [if_pos (by simp only; omega)]
  refine (projected_row m c b s _).trans (congrArg (fun n => Cert.ProjectIdeal.Read.val_main_v56 (F := Ideal) (a0 m c) (a1 m c) (a2 m c) (a3 m c) (ix3 b s n)) (Fin.ext ?_))
  simp only
  omega

theorem same_u : Cert.ProjectIdeal.Read.val_main_v148 (F := Ideal) (a0 m c) (a1 m c) (a2 m c) (a3 m c) = final m c Cert.InProjIdeal.main_v147 := by
  funext i
  obtain ⟨b, s, n, rfl⟩ : ∃ (b : Fin 8) (s : Fin 2048) (n : Fin 512), i = ix3 b s n := ⟨i 0, i 1, i 2, by funext a; fin_cases a <;> rfl⟩
  refine (Cert.ProjectIdeal.Ref.u_at (a0 m c) (a1 m c) (a2 m c) (a3 m c) b s n).trans (Eq.symm ((final_u m c b s n).trans ?_))
  unfold gated
  rw [projected_row, projected_row]
  have e : (⟨1280 + n.val, by omega⟩ : Fin 1792) = ⟨768 + (512 + n.val), by omega⟩ := Fin.ext (by simp only; omega)
  rw [e]
end

/-- The input projection's value claim. -/
theorem projection [hP : Cert.Pre_finite_weights.Facts] : Cert.algebraic_InProjIdeal_ProjectIdeal_pre_finite_weights := by
  intro m ρ m' ρ' hpre hag
  refine ⟨fun c => final m c Cert.InProjIdeal.main_v141, fun c => final m c Cert.InProjIdeal.main_v142, fun c => final m c Cert.InProjIdeal.main_v144,
    fun c => final m c Cert.InProjIdeal.main_v146, fun c => final m c Cert.InProjIdeal.main_v147, ?_, ?_⟩
  · refine (θ_run Cert.InProjIdeal.defs _ _).mono (fun _ h c => ?_) (θ_run_and (Cert.InProjIdeal.Gen.run_main m ρ) (Cert.InProjIdeal.Gen.unchanged m ρ))
    exact ⟨(h.1 c).2 Cert.InProjIdeal.main_v141 (Pipeline.mem_restRefs_of _ (by decide) (by decide)),
      (h.1 c).2 Cert.InProjIdeal.main_v142 (Pipeline.mem_restRefs_of _ (by decide) (by decide)),
      (h.1 c).2 Cert.InProjIdeal.main_v144 (Pipeline.mem_restRefs_of _ (by decide) (by decide)),
      (h.1 c).2 Cert.InProjIdeal.main_v146 (Pipeline.mem_restRefs_of _ (by decide) (by decide)),
      (h.1 c).2 Cert.InProjIdeal.main_v147 (Pipeline.mem_restRefs_of _ (by decide) (by decide)), h.2 c⟩
  · refine (θ_run Cert.ProjectIdeal.defs _ _).mono (fun _ h c => ?_) (Cert.ProjectIdeal.Value.run m' ρ')
    obtain ⟨g0, g1, g2, g3, g4, g5⟩ := hag c
    refine ⟨((h c).1.trans (Cert.ProjectIdeal.Read.val_main_v23_eq _ _ _)).trans (Eq.trans ?_ (same_h m c)),
      ((h c).2.1.trans (Cert.ProjectIdeal.Read.val_main_v149_eq _ _)).trans (Eq.trans ?_ (same_q m c hpre)),
      ((h c).2.2.1.trans (Cert.ProjectIdeal.Read.val_main_v150_eq _ _)).trans (Eq.trans ?_ (same_k m c hpre)),
      ((h c).2.2.2.1.trans (Cert.ProjectIdeal.Read.val_main_v151_eq _ _ _ _)).trans (Eq.trans ?_ (same_v m c)),
      ((h c).2.2.2.2.1.trans (Cert.ProjectIdeal.Read.val_main_v148_eq _ _)).trans (Eq.trans ?_ (same_u m c)), (h c).2.2.2.2.2⟩
    · rw [a0, a1, a2, ← g0, ← g1, ← g2]
    · rw [a0, a1, a2, a3, a4, ← g0, ← g1, ← g2, ← g3, ← g4]
    · rw [a0, a1, a2, a3, a5, ← g0, ← g1, ← g2, ← g3, ← g5]
    · rw [a0, a1, a2, a3, ← g0, ← g1, ← g2, ← g3]
    · rw [a0, a1, a2, a3, ← g0, ← g1, ← g2, ← g3]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Attention
public import proofs.«01_k».proof.Proof.Gen.Attention.Skeleton
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.AttentionIdeal.Value
public import proofs.«01_k».proof.Proof.Gen.SoftmaxIdeal
public import proofs.«01_k».proof.Proof.Gen.SoftmaxIdeal.Run
public import proofs.«01_k».proof.Proof.Gen.SoftmaxIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.ProjectIdeal
public import proofs.«01_k».proof.Proof.Gen.ProjectIdeal.Run
public import proofs.«01_k».proof.Proof.Gen.ProjectIdeal.Read
public import Idealize.ShloMosaic.Adequacy
public import Idealize.ShloMosaic.Init
public import proofs.«01_k».proof.Proof.Run
public import proofs.«01_k».proof.Proof.Result
public import proofs.«01_k».proof.Proof.Equation
public import proofs.«01_k».proof.Proof.Pre
public import proofs.«01_k».proof.Proof.Gen.Pre_finite_qkv
public import proofs.«01_k».proof.Proof.Gen.Pre_finite_weights
public import proofs.«01_k».proof.Proof.AttnValue
public import proofs.«01_k».proof.Proof.InValue

@[expose] public section

set_option maxRecDepth 16384

noncomputable section

namespace Cert.Proof

open Idealize.ShloMosaic Idealize.ShloMosaic.TcCoe Idealize.ShloMosaic.Pointwise Idealize.SL.Sem

/-- The side conditions of the precondition's own operations. -/
theorem pre_facts : Cert.Pre_finite.Facts where
  bcast_S_S8x2048x512 := by decide
  reducesTo_S8x2048x512_S_d0_1_2 := by decide
  h_S_ := by decide
  bcast_S_S8x2048x1024 := by decide
  reducesTo_S8x2048x1024_S_d0_1_2 := by decide
  bcast_S_S8x256x1024 := by decide
  reducesTo_S8x256x1024_S_d0_1_2 := by decide
  bcast_S_S512 := by decide
  reducesTo_S512_S_d0 := by decide
  bcast_S_S1024x1024 := by decide
  reducesTo_S1024x1024_S_d0_1 := by decide
  bcast_S_S1024 := by decide
  reducesTo_S1024_S_d0 := by decide
  bcast_S_S1024x2048 := by decide
  reducesTo_S1024x2048_S_d0_1 := by decide

/-- Under the precondition the two programs' results are the same array. -/
theorem same_result [hP : Cert.Pre_finite.Facts] (m : (ℓ : Loc Cert.KernelIdeal.nD Cert.KernelIdeal.τ Cert.KernelIdeal.sig) → Buf (Elt Ideal) ℓ)
    (ρ : Dev Cert.KernelIdeal.nD → PrngReg) (hpre : Cert.Pre_KernelIdeal_finite m) (c : Dev Cert.KernelIdeal.nD) :
    Cert.ReferenceIdeal.Read.val_main_v157 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))
      = Cert.KernelIdeal.Gen.W7 m ρ c Cert.KernelIdeal.main_v24 := by
  obtain ⟨h0, h1, h2, h3, h4, h5, h6, h7, h8, h9, h10, h11⟩ := Cert.Pre_finite.real_of_pre _ _ _ _ _ _ _ _ _ _ _ _ _ _ _ _ _ _ _ _ _ (hpre c)
  funext i
  obtain ⟨b, s, n, rfl⟩ : ∃ (b : Fin 8) (s : Fin 2048) (n : Fin 1024), i = ix3 b s n := ⟨i 0, i 1, i 2, by funext a; fin_cases a <;> rfl⟩
  exact (Cert.ReferenceIdeal.Ref.out_row b s _ _ _ _ _ _ _ _ _ _ _ _ _ _ _ _ _ _ _ _ _ h0 h1 h2 h3 h4 h5 h6 h7 h8 h9 h10 h11 n).trans (Cert.KernelIdeal.Arr.result m ρ c b s n).symm

/-- The value claim. -/
theorem value [hP : Cert.Pre_finite.Facts] : Cert.algebraic_KernelIdeal_ReferenceIdeal_pre_finite := by
  intro m ρ m' ρ' hpre hag
  refine ⟨fun c => Cert.KernelIdeal.Gen.W7 m ρ c Cert.KernelIdeal.main_v24, ?_, ?_⟩
  · refine (θ_run Cert.KernelIdeal.defs _ _).mono (fun _ h c => ⟨h c _ (Cert.KernelIdeal.Gen.mem_uc Cert.KernelIdeal.main_v24 (by decide)), ?_⟩) (Cert.KernelIdeal.Arr.run_all m ρ)
    exact ⟨(h c _ (Cert.KernelIdeal.Gen.mem_uc Cert.KernelIdeal.main_arg0 (by decide))).trans (Cert.KernelIdeal.Gen.W7_main_arg0 m ρ c), (h c _ (Cert.KernelIdeal.Gen.mem_uc Cert.KernelIdeal.main_arg1 (by decide))).trans (Cert.KernelIdeal.Gen.W7_main_arg1 m ρ c), (h c _ (Cert.KernelIdeal.Gen.mem_uc Cert.KernelIdeal.main_arg2 (by decide))).trans (Cert.KernelIdeal.Gen.W7_main_arg2 m ρ c), (h c _ (Cert.KernelIdeal.Gen.mem_uc Cert.KernelIdeal.main_arg3 (by decide))).trans (Cert.KernelIdeal.Gen.W7_main_arg3 m ρ c), (h c _ (Cert.KernelIdeal.Gen.mem_uc Cert.KernelIdeal.main_arg4 (by decide))).trans (Cert.KernelIdeal.Gen.W7_main_arg4 m ρ c), (h c _ (Cert.KernelIdeal.Gen.mem_uc Cert.KernelIdeal.main_arg5 (by decide))).trans (Cert.KernelIdeal.Gen.W7_main_arg5 m ρ c), (h c _ (Cert.KernelIdeal.Gen.mem_uc Cert.KernelIdeal.main_arg6 (by decide))).trans (Cert.KernelIdeal.Gen.W7_main_arg6 m ρ c), (h c _ (Cert.KernelIdeal.Gen.mem_uc Cert.KernelIdeal.main_arg7 (by decide))).trans (Cert.KernelIdeal.Gen.W7_main_arg7 m ρ c), (h c _ (Cert.KernelIdeal.Gen.mem_uc Cert.KernelIdeal.main_arg8 (by decide))).trans (Cert.KernelIdeal.Gen.W7_main_arg8 m ρ c), (h c _ (Cert.KernelIdeal.Gen.mem_uc Cert.KernelIdeal.main_arg9 (by decide))).trans (Cert.KernelIdeal.Gen.W7_main_arg9 m ρ c), (h c _ (Cert.KernelIdeal.Gen.mem_uc Cert.KernelIdeal.main_arg10 (by decide))).trans (Cert.KernelIdeal.Gen.W7_main_arg10 m ρ c), (h c _ (Cert.KernelIdeal.Gen.mem_uc Cert.KernelIdeal.main_arg11 (by decide))).trans (Cert.KernelIdeal.Gen.W7_main_arg11 m ρ c), (h c _ (Cert.KernelIdeal.Gen.mem_uc Cert.KernelIdeal.main_arg12 (by decide))).trans (Cert.KernelIdeal.Gen.W7_main_arg12 m ρ c), (h c _ (Cert.KernelIdeal.Gen.mem_uc Cert.KernelIdeal.main_arg13 (by decide))).trans (Cert.KernelIdeal.Gen.W7_main_arg13 m ρ c), (h c _ (Cert.KernelIdeal.Gen.mem_uc Cert.KernelIdeal.main_arg14 (by decide))).trans (Cert.KernelIdeal.Gen.W7_main_arg14 m ρ c), (h c _ (Cert.KernelIdeal.Gen.mem_uc Cert.KernelIdeal.main_arg15 (by decide))).trans (Cert.KernelIdeal.Gen.W7_main_arg15 m ρ c), (h c _ (Cert.KernelIdeal.Gen.mem_uc Cert.KernelIdeal.main_arg16 (by decide))).trans (Cert.KernelIdeal.Gen.W7_main_arg16 m ρ c), (h c _ (Cert.KernelIdeal.Gen.mem_uc Cert.KernelIdeal.main_arg17 (by decide))).trans (Cert.KernelIdeal.Gen.W7_main_arg17 m ρ c), (h c _ (Cert.KernelIdeal.Gen.mem_uc Cert.KernelIdeal.main_arg18 (by decide))).trans (Cert.KernelIdeal.Gen.W7_main_arg18 m ρ c), (h c _ (Cert.KernelIdeal.Gen.mem_uc Cert.KernelIdeal.main_arg19 (by decide))).trans (Cert.KernelIdeal.Gen.W7_main_arg19 m ρ c), (h c _ (Cert.KernelIdeal.Gen.mem_uc Cert.KernelIdeal.main_arg20 (by decide))).trans (Cert.KernelIdeal.Gen.W7_main_arg20 m ρ c)⟩
  · refine (θ_run Cert.ReferenceIdeal.defs _ _).mono (fun _ h c => ⟨((h c).1.trans (Cert.ReferenceIdeal.Read.val_main_v157_eq _)).trans ?_, (h c).2⟩) (Cert.ReferenceIdeal.Value.run m' ρ')
    obtain ⟨g0, g1, g2, g3, g4, g5, g6, g7, g8, g9, g10, g11, g12, g13, g14, g15, g16, g17, g18, g19, g20⟩ := hag c
    refine Eq.trans ?_ (same_result m ρ hpre c)
    rw [← g0, ← g1, ← g2, ← g3, ← g4, ← g5, ← g6, ← g7, ← g8, ← g9, ← g10, ← g11, ← g12, ← g13, ← g14, ← g15, ← g16, ← g17, ← g18, ← g19, ← g20]

theorem claim : Cert.Claim := by
  haveI := pre_facts
  haveI := Cert.Pre_finite_qkv.Gen.facts
  haveI := Cert.Pre_finite_weights.Gen.facts
  exact ⟨Cert.Kernel.Gen.facts, Cert.KernelIdeal.Gen.facts, Cert.ReferenceIdeal.Gen.facts, Cert.Attention.Gen.facts, Cert.AttentionIdeal.Gen.facts,
    Cert.SoftmaxIdeal.Gen.facts, Cert.InProj.Gen.facts, Cert.InProjIdeal.Gen.facts, Cert.ProjectIdeal.Gen.facts, pre_facts, Cert.Pre_finite_qkv.Gen.facts,
    Cert.Pre_finite_weights.Gen.facts,
    fun m ρ _ => Cert.Kernel.Gen.frame m ρ,
    fun m ρ _ => Cert.KernelIdeal.Gen.frame m ρ,
    fun m ρ _ => Cert.KernelIdeal.Gen.frame m ρ,
    fun m ρ _ => (θ_run Cert.ReferenceIdeal.defs _ _).mono (fun r h => ⟨fun c => (h c).2, Idealize.ShloMosaic.sem_eq_zero_of_no_sems (by decide) r.2⟩) (Cert.ReferenceIdeal.Value.run m ρ),
    fun m ρ _ => (θ_run Cert.ReferenceIdeal.defs _ _).mono (fun r h => ⟨fun c => (h c).2, Idealize.ShloMosaic.sem_eq_zero_of_no_sems (by decide) r.2⟩) (Cert.ReferenceIdeal.Value.run m ρ),
    fun m ρ _ => Cert.Attention.Gen.frame m ρ,
    fun m ρ _ => Cert.AttentionIdeal.Gen.frame m ρ,
    fun m ρ _ => Cert.AttentionIdeal.Gen.frame m ρ,
    fun m ρ _ => (θ_run Cert.SoftmaxIdeal.defs _ _).mono (fun r h => ⟨fun c => (h c).2, Idealize.ShloMosaic.sem_eq_zero_of_no_sems (by decide) r.2⟩) (Cert.SoftmaxIdeal.Value.run m ρ),
    fun m ρ _ => (θ_run Cert.SoftmaxIdeal.defs _ _).mono (fun r h => ⟨fun c => (h c).2, Idealize.ShloMosaic.sem_eq_zero_of_no_sems (by decide) r.2⟩) (Cert.SoftmaxIdeal.Value.run m ρ),
    fun m ρ _ => Cert.InProj.Gen.frame m ρ,
    fun m ρ _ => Cert.InProjIdeal.Gen.frame m ρ,
    fun m ρ _ => Cert.InProjIdeal.Gen.frame m ρ,
    fun m ρ _ => (θ_run Cert.ProjectIdeal.defs _ _).mono (fun r h => ⟨fun c => (h c).2.2.2.2.2, Idealize.ShloMosaic.sem_eq_zero_of_no_sems (by decide) r.2⟩) (Cert.ProjectIdeal.Value.run m ρ),
    fun m ρ _ => (θ_run Cert.ProjectIdeal.defs _ _).mono (fun r h => ⟨fun c => (h c).2.2.2.2.2, Idealize.ShloMosaic.sem_eq_zero_of_no_sems (by decide) r.2⟩) (Cert.ProjectIdeal.Value.run m ρ),
    trivial, value, IdealRules.named_const.statement _ _ _ _ _ rfl, attention, trivial, projection⟩

end Cert.Proof

end
